-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)) (v2 : (c : Dev Cert.Kernel3Ideal.nD) → Buf (Elt Ideal) ((c.tc : Thread Cert.Kernel3Ideal.nD Cert.Kernel3Ideal.τ).loc Cert.Kernel3Ideal.main_v21_2)) (v3 : (c : Dev Cert.Kernel3Ideal.nD) → Buf (Elt Ideal) ((c.tc : Thread Cert.Kernel3Ideal.nD Cert.Kernel3Ideal.τ).loc Cert.Kernel3Ideal.main_v21_3)) (v4 : (c : Dev Cert.Kernel3Ideal.nD) → Buf (Elt Ideal) ((c.tc : Thread Cert.Kernel3Ideal.nD Cert.Kernel3Ideal.τ).loc Cert.Kernel3Ideal.main_v21_4)) (v5 : (c : Dev Cert.Kernel3Ideal.nD) → Buf (Elt Ideal) ((c.tc : Thread Cert.Kernel3Ideal.nD Cert.Kernel3Ideal.τ).loc Cert.Kernel3Ideal.main_v21_5)) (v6 : (c : Dev Cert.Kernel3Ideal.nD) → Buf (Elt Ideal) ((c.tc : Thread Cert.Kernel3Ideal.nD Cert.Kernel3Ideal.τ).loc Cert.Kernel3Ideal.main_v21_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_v21_2) = v2 c
          ∧ r.2.mem ((c.tc : Thread Cert.Kernel3Ideal.nD Cert.Kernel3Ideal.τ).loc Cert.Kernel3Ideal.main_v21_3) = v3 c
          ∧ r.2.mem ((c.tc : Thread Cert.Kernel3Ideal.nD Cert.Kernel3Ideal.τ).loc Cert.Kernel3Ideal.main_v21_4) = v4 c
          ∧ r.2.mem ((c.tc : Thread Cert.Kernel3Ideal.nD Cert.Kernel3Ideal.τ).loc Cert.Kernel3Ideal.main_v21_5) = v5 c
          ∧ r.2.mem ((c.tc : Thread Cert.Kernel3Ideal.nD Cert.Kernel3Ideal.τ).loc Cert.Kernel3Ideal.main_v21_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_v58) = v2 c
          ∧ r.2.mem ((c.tc : Thread Cert.Reference3Ideal.nD Cert.Reference3Ideal.τ).loc Cert.Reference3Ideal.main_v60) = v3 c
          ∧ r.2.mem ((c.tc : Thread Cert.Reference3Ideal.nD Cert.Reference3Ideal.τ).loc Cert.Reference3Ideal.main_v62) = v4 c
          ∧ r.2.mem ((c.tc : Thread Cert.Reference3Ideal.nD Cert.Reference3Ideal.τ).loc Cert.Reference3Ideal.main_v63) = v5 c
          ∧ r.2.mem ((c.tc : Thread Cert.Reference3Ideal.nD Cert.Reference3Ideal.τ).loc Cert.Reference3Ideal.main_v68) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S2x8192x512 : Shape := ⟨3, ![2, 8192, 512]⟩
abbrev S1x8x15x31 : Shape := ⟨4, ![1, 8, 15, 31]⟩
abbrev S_ : Shape := ⟨0, ![]⟩

class Facts : Prop where
  bitsLt_bf16_f32 : FTy.bits .bf16 < FTy.bits .f32
  bcast_S_S2x8192x512 : S_.BroadcastsInDim S2x8192x512 (![] : Fin 0 → Fin S2x8192x512.rank)
  bcast_S_S1x8x15x31 : S_.BroadcastsInDim S1x8x15x31 (![] : Fin 0 → Fin S1x8x15x31.rank)

variable [Facts]

def fn {F : FTy → Type} [FloatOps F] (main_arg0 : FVec F S2x8192x512 .bf16) (main_arg1 : FVec F S2x8192x512 .bf16) (main_arg2 : FVec F S2x8192x512 .bf16) (main_arg3 : FVec F S1x8x15x31 .f32) : IVec S2x8192x512 1 × IVec S2x8192x512 1 × IVec S1x8x15x31 1 :=
  let main_v0 : FVec F S2x8192x512 .f32 := (extf .f32 · bitsLt_bf16_f32) main_arg0
  let main_cst : FVec F S_ .f32 := constant S_ .f32 0xFF800000#32
  let main_v1 : FVec F S2x8192x512 .f32 := broadcastInDim S2x8192x512 ![] bcast_S_S2x8192x512 main_cst
  let main_v2 : IVec S2x8192x512 1 := cmpf .ogt main_v0 main_v1
  let main_cst_0 : FVec F S_ .f32 := constant S_ .f32 0x7F800000#32
  let main_v3 : FVec F S2x8192x512 .f32 := broadcastInDim S2x8192x512 ![] bcast_S_S2x8192x512 main_cst_0
  let main_v4 : IVec S2x8192x512 1 := cmpf .olt main_v0 main_v3
  let main_v5 : IVec S2x8192x512 1 := andi main_v2 main_v4
  let main_v6 : FVec F S2x8192x512 .f32 := (extf .f32 · bitsLt_bf16_f32) main_arg1
  let main_cst_1 : FVec F S_ .f32 := constant S_ .f32 0xFF800000#32
  let main_v7 : FVec F S2x8192x512 .f32 := broadcastInDim S2x8192x512 ![] bcast_S_S2x8192x512 main_cst_1
  let main_v8 : IVec S2x8192x512 1 := cmpf .ogt main_v6 main_v7
  let main_cst_2 : FVec F S_ .f32 := constant S_ .f32 0x7F800000#32
  let main_v9 : FVec F S2x8192x512 .f32 := broadcastInDim S2x8192x512 ![] bcast_S_S2x8192x512 main_cst_2
  let main_v10 : IVec S2x8192x512 1 := cmpf .olt main_v6 main_v9
  let main_v11 : IVec S2x8192x512 1 := andi main_v8 main_v10
  let main_cst_3 : FVec F S_ .f32 := constant S_ .f32 0xFF800000#32
  let main_v12 : FVec F S1x8x15x31 .f32 := broadcastInDim S1x8x15x31 ![] bcast_S_S1x8x15x31 main_cst_3
  let main_v13 : IVec S1x8x15x31 1 := cmpf .ogt main_arg3 main_v12
  let main_cst_4 : FVec F S_ .f32 := constant S_ .f32 0x7F800000#32
  let main_v14 : FVec F S1x8x15x31 .f32 := broadcastInDim S1x8x15x31 ![] bcast_S_S1x8x15x31 main_cst_4
  let main_v15 : IVec S1x8x15x31 1 := cmpf .olt main_arg3 main_v14
  let main_v16 : IVec S1x8x15x31 1 := andi main_v13 main_v15
  (main_v5, main_v11, main_v16)
-- ==== Kernel.lean ====
abbrev S2x8192x512 : Shape := ⟨3, ![2, 8192, 512]⟩
abbrev S1x8x15x31 : Shape := ⟨4, ![1, 8, 15, 31]⟩
abbrev S8x15x31 : Shape := ⟨3, ![8, 15, 31]⟩
abbrev S31x64x64 : Shape := ⟨3, ![31, 64, 64]⟩
abbrev S_ : Shape := ⟨0, ![]⟩
abbrev S1x64x64 : Shape := ⟨3, ![1, 64, 64]⟩
abbrev S64x64 : Shape := ⟨2, ![64, 64]⟩
abbrev S4x2x15x31 : Shape := ⟨4, ![4, 2, 15, 31]⟩
abbrev S64x64x4x2x15 : Shape := ⟨5, ![64, 64, 4, 2, 15]⟩
abbrev S4x2x64x15x64 : Shape := ⟨5, ![4, 2, 64, 15, 64]⟩
abbrev S1x1x64x1x64 : Shape := ⟨5, ![1, 1, 64, 1, 64]⟩
abbrev S4x128x960 : Shape := ⟨3, ![4, 128, 960]⟩
abbrev S4x128x896 : Shape := ⟨3, ![4, 128, 896]⟩
abbrev S4x1x128x896 : Shape := ⟨4, ![4, 1, 128, 896]⟩
abbrev S4x2x128x896 : Shape := ⟨4, ![4, 2, 128, 896]⟩
abbrev S1x8192x128 : Shape := ⟨3, ![1, 8192, 128]⟩
abbrev S1x2x128x896 : Shape := ⟨4, ![1, 2, 128, 896]⟩
abbrev S16x128x512 : Shape := ⟨3, ![16, 128, 512]⟩
abbrev S64x128 : Shape := ⟨2, ![64, 128]⟩
abbrev S512x128 : Shape := ⟨2, ![512, 128]⟩
abbrev S1x64x128 : Shape := ⟨3, ![1, 64, 128]⟩
abbrev S128x128 : Shape := ⟨2, ![128, 128]⟩
abbrev S1x512x128 : Shape := ⟨3, ![1, 512, 128]⟩
abbrev S1x1x128x512 : Shape := ⟨4, ![1, 1, 128, 512]⟩
abbrev S128x512 : Shape := ⟨2, ![128, 512]⟩
abbrev S128 : Shape := ⟨1, ![128]⟩
abbrev S128x1 : Shape := ⟨2, ![128, 1]⟩
abbrev S1x128x512 : Shape := ⟨3, ![1, 128, 512]⟩
abbrev S512x256 : Shape := ⟨2, ![512, 256]⟩
abbrev S128x256 : Shape := ⟨2, ![128, 256]⟩

abbrev nBuf : Space → Nat
  | .hbm => 50
  | .vmem => 12
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x512, .bf16⟩
  | .hbm, ⟨3, _⟩ => ⟨S1x8x15x31, .f32⟩
  | .hbm, ⟨4, _⟩ => ⟨S8x15x31, .f32⟩
  | .hbm, ⟨5, _⟩ => ⟨S31x64x64, .i32⟩
  | .hbm, ⟨6, _⟩ => ⟨S31x64x64, .i32⟩
  | .hbm, ⟨7, _⟩ => ⟨S31x64x64, .i32⟩
  | .hbm, ⟨8, _⟩ => ⟨S_, .i32⟩
  | .hbm, ⟨9, _⟩ => ⟨S31x64x64, .i32⟩
  | .hbm, ⟨10, _⟩ => ⟨S31x64x64, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S31x64x64, .i32⟩
  | .hbm, ⟨15, _⟩ => ⟨S31x64x64, .i32⟩
  | .hbm, ⟨16, _⟩ => ⟨S_, .i32⟩
  | .hbm, ⟨17, _⟩ => ⟨S31x64x64, .i32⟩
  | .hbm, ⟨18, _⟩ => ⟨S31x64x64, .i32⟩
  | .hbm, ⟨19, _⟩ => ⟨S31x64x64, .i1⟩
  | .hbm, ⟨20, _⟩ => ⟨S_, .i32⟩
  | .hbm, ⟨21, _⟩ => ⟨S31x64x64, .i32⟩
  | .hbm, ⟨22, _⟩ => ⟨S31x64x64, .i32⟩
  | .hbm, ⟨23, _⟩ => ⟨S31x64x64, .i1⟩
  | .hbm, ⟨24, _⟩ => ⟨S31x64x64, .i1⟩
  | .hbm, ⟨25, _⟩ => ⟨S1x64x64, .i1⟩
  | .hbm, ⟨26, _⟩ => ⟨S64x64, .i1⟩
  | .hbm, ⟨27, _⟩ => ⟨S31x64x64, .i32⟩
  | .hbm, ⟨28, _⟩ => ⟨S_, .i32⟩
  | .hbm, ⟨29, _⟩ => ⟨S31x64x64, .i32⟩
  | .hbm, ⟨30, _⟩ => ⟨S31x64x64, .i32⟩
  | .hbm, ⟨31, _⟩ => ⟨S31x64x64, .i1⟩
  | .hbm, ⟨32, _⟩ => ⟨S31x64x64, .i32⟩
  | .hbm, ⟨33, _⟩ => ⟨S31x64x64, .f32⟩
  | .hbm, ⟨34, _⟩ => ⟨S4x2x15x31, .f32⟩
  | .hbm, ⟨35, _⟩ => ⟨S64x64x4x2x15, .f32⟩
  | .hbm, ⟨36, _⟩ => ⟨S4x2x64x15x64, .f32⟩
  | .hbm, ⟨37, _⟩ => ⟨S1x1x64x1x64, .i1⟩
  | .hbm, ⟨38, _⟩ => ⟨S_, .f32⟩
  | .hbm, ⟨39, _⟩ => ⟨S_, .f32⟩
  | .hbm, ⟨40, _⟩ => ⟨S4x2x64x15x64, .i1⟩
  | .hbm, ⟨41, _⟩ => ⟨S4x2x64x15x64, .f32⟩
  | .hbm, ⟨42, _⟩ => ⟨S4x2x64x15x64, .f32⟩
  | .hbm, ⟨43, _⟩ => ⟨S4x128x960, .f32⟩
  | .hbm, ⟨44, _⟩ => ⟨S4x128x896, .f32⟩
  | .hbm, ⟨45, _⟩ => ⟨S4x128x896, .f32⟩
  | .hbm, ⟨46, _⟩ => ⟨S4x1x128x896, .f32⟩
  | .hbm, ⟨47, _⟩ => ⟨S4x1x128x896, .f32⟩
  | .hbm, ⟨48, _⟩ => ⟨S4x2x128x896, .f32⟩
  | .hbm, ⟨49, _⟩ => ⟨S2x8192x512, .bf16⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x2x128x896, .f32⟩
  | .local _ .vmem, ⟨7, _⟩ => ⟨S1x2x128x896, .f32⟩
  | .local _ .vmem, ⟨8, _⟩ => ⟨S1x8192x128, .bf16⟩
  | .local _ .vmem, ⟨9, _⟩ => ⟨S1x8192x128, .bf16⟩
  | .local _ .vmem, ⟨10, _⟩ => ⟨S16x128x512, .bf16⟩
  | .local _ .vmem, ⟨11, _⟩ => ⟨S16x128x512, .bf16⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_mult1 : BitVec 32 :=
  let c0_i32_0 : BitVec 32 := 0#32
  c0_i32_0
def k0_mult2 : BitVec 32 :=
  let c120_i32 : BitVec 32 := 120#32
  let c0_i32 : BitVec 32 := 0#32
  let c_m4_i32 : BitVec 32 := 4294967292#32
  let v4 : BitVec 32 := Scalar.maxsi c0_i32 c_m4_i32
  let v5 : BitVec 32 := Scalar.minsi c120_i32 v4
  let c64_i32_3 : BitVec 32 := 64#32
  let v14 : BitVec 32 := Scalar.muli v5 c64_i32_3
  v14
def k0_off1 (c_m4_i32 : BitVec 32) : Fin 3 → Nat :=
  let c0_4 : Index := 0#32
  let c120_i32 : BitVec 32 := 120#32
  let c0_i32 : BitVec 32 := 0#32
  let v4 : BitVec 32 := Scalar.maxsi c0_i32 c_m4_i32
  let v5 : BitVec 32 := Scalar.minsi c120_i32 v4
  let c64_i32_3 : BitVec 32 := 64#32
  let v14 : BitVec 32 := Scalar.muli v5 c64_i32_3
  let v15 : BitVec 32 := v14
  let v16 : Index := Scalar.indexCast v15
  let c0_5 : Index := 0#32
  ![0, v16.toNat, 0]
def k0_off1_at (r : Fin 48) : BitVec 32 :=
  if r.val < 24 then
    if r.val < 12 then
      if r.val < 6 then
        if r.val < 3 then
          if r.val < 1 then
            4294967292#32
          else
            if r.val < 2 then
              4294967293#32
            else
              4294967294#32
        else
          if r.val < 4 then
            4294967295#32
          else
            if r.val < 5 then
              0#32
            else
              1#32
      else
        if r.val < 9 then
          if r.val < 7 then
            2#32
          else
            if r.val < 8 then
              3#32
            else
              4#32
        else
          if r.val < 10 then
            5#32
          else
            if r.val < 11 then
              6#32
            else
              7#32
    else
      if r.val < 18 then
        if r.val < 15 then
          if r.val < 13 then
            8#32
          else
            if r.val < 14 then
              9#32
            else
              10#32
        else
          if r.val < 16 then
            11#32
          else
            if r.val < 17 then
              108#32
            else
              109#32
      else
        if r.val < 21 then
          if r.val < 19 then
            110#32
          else
            if r.val < 20 then
              111#32
            else
              112#32
        else
          if r.val < 22 then
            113#32
          else
            if r.val < 23 then
              114#32
            else
              115#32
  else
    if r.val < 36 then
      if r.val < 30 then
        if r.val < 27 then
          if r.val < 25 then
            116#32
          else
            if r.val < 26 then
              117#32
            else
              118#32
        else
          if r.val < 28 then
            119#32
          else
            if r.val < 29 then
              120#32
            else
              121#32
      else
        if r.val < 33 then
          if r.val < 31 then
            122#32
          else
            if r.val < 32 then
              123#32
            else
              92#32
        else
          if r.val < 34 then
            93#32
          else
            if r.val < 35 then
              94#32
            else
              95#32
    else
      if r.val < 42 then
        if r.val < 39 then
          if r.val < 37 then
            96#32
          else
            if r.val < 38 then
              97#32
            else
              98#32
        else
          if r.val < 40 then
            99#32
          else
            if r.val < 41 then
              100#32
            else
              101#32
      else
        if r.val < 45 then
          if r.val < 43 then
            102#32
          else
            if r.val < 44 then
              103#32
            else
              104#32
        else
          if r.val < 46 then
            105#32
          else
            if r.val < 47 then
              106#32
            else
              107#32
def k0_mult3 : BitVec 32 :=
  let c120_i32 : BitVec 32 := 120#32
  let c0_i32 : BitVec 32 := 0#32
  let c_m4_i32 : BitVec 32 := 4294967292#32
  let v4 : BitVec 32 := Scalar.maxsi c0_i32 c_m4_i32
  let v5 : BitVec 32 := Scalar.minsi c120_i32 v4
  let c0_i32_6 : BitVec 32 := 0#32
  let v19 : BitVec 32 := Scalar.subi v5 c0_i32_6
  let c7_i32 : BitVec 32 := 7#32
  let v20 : BitVec 32 := Scalar.addi v19 c7_i32
  let c1_i32_7 : BitVec 32 := 1#32
  let v22 : BitVec 32 := Scalar.shrsi v20 c1_i32_7
  let c128_i32 : BitVec 32 := 128#32
  let v23 : BitVec 32 := Scalar.muli v22 c128_i32
  v23
def k0_off2 (c_m4_i32 : BitVec 32) (c0_i32_6 : BitVec 32) : Fin 4 → Nat :=
  let c0_8 : Index := 0#32
  let c120_i32 : BitVec 32 := 120#32
  let c0_i32 : BitVec 32 := 0#32
  let v4 : BitVec 32 := Scalar.maxsi c0_i32 c_m4_i32
  let v5 : BitVec 32 := Scalar.minsi c120_i32 v4
  let v19 : BitVec 32 := Scalar.subi v5 c0_i32_6
  let c7_i32 : BitVec 32 := 7#32
  let v20 : BitVec 32 := Scalar.addi v19 c7_i32
  let c1_i32 : BitVec 32 := 1#32
  let v21 : BitVec 32 := Scalar.andi v20 c1_i32
  let v25 : Index := Scalar.indexCast v21
  let c0_9 : Index := 0#32
  let c1_i32_7 : BitVec 32 := 1#32
  let v22 : BitVec 32 := Scalar.shrsi v20 c1_i32_7
  let c128_i32 : BitVec 32 := 128#32
  let v23 : BitVec 32 := Scalar.muli v22 c128_i32
  let v24 : BitVec 32 := v23
  let v26 : Index := Scalar.indexCast v24
  ![0, v25.toNat, 0, v26.toNat]
def k0_off2_at (r : Fin 32) : BitVec 32 × BitVec 32 :=
  if r.val < 16 then
    if r.val < 8 then
      if r.val < 4 then
        if r.val < 2 then
          if r.val < 1 then
            (4294967292#32, 0#32)
          else
            (4294967293#32, 1#32)
        else
          if r.val < 3 then
            (4294967294#32, 2#32)
          else
            (4294967295#32, 3#32)
      else
        if r.val < 6 then
          if r.val < 5 then
            (0#32, 4#32)
          else
            (1#32, 5#32)
        else
          if r.val < 7 then
            (2#32, 6#32)
          else
            (3#32, 7#32)
    else
      if r.val < 12 then
        if r.val < 10 then
          if r.val < 9 then
            (4#32, 8#32)
          else
            (5#32, 9#32)
        else
          if r.val < 11 then
            (6#32, 10#32)
          else
            (7#32, 11#32)
      else
        if r.val < 14 then
          if r.val < 13 then
            (8#32, 12#32)
          else
            (9#32, 13#32)
        else
          if r.val < 15 then
            (10#32, 14#32)
          else
            (11#32, 15#32)
  else
    if r.val < 24 then
      if r.val < 20 then
        if r.val < 18 then
          if r.val < 17 then
            (108#32, 112#32)
          else
            (109#32, 113#32)
        else
          if r.val < 19 then
            (110#32, 114#32)
          else
            (111#32, 115#32)
      else
        if r.val < 22 then
          if r.val < 21 then
            (112#32, 116#32)
          else
            (113#32, 117#32)
        else
          if r.val < 23 then
            (114#32, 118#32)
          else
            (115#32, 119#32)
    else
      if r.val < 28 then
        if r.val < 26 then
          if r.val < 25 then
            (116#32, 120#32)
          else
            (117#32, 121#32)
        else
          if r.val < 27 then
            (118#32, 122#32)
          else
            (119#32, 123#32)
      else
        if r.val < 30 then
          if r.val < 29 then
            (120#32, 124#32)
          else
            (121#32, 125#32)
        else
          if r.val < 31 then
            (122#32, 126#32)
          else
            (123#32, 127#32)
def k0_mult4 : BitVec 32 :=
  let c64_i32_17 : BitVec 32 := 64#32
  c64_i32_17
def k0_mult5 : BitVec 32 :=
  let c120_i32_16 : BitVec 32 := 120#32
  let c0_i32_15 : BitVec 32 := 0#32
  let c_m3_i32 : BitVec 32 := 4294967293#32
  let v40 : BitVec 32 := Scalar.maxsi c0_i32_15 c_m3_i32
  let v41 : BitVec 32 := Scalar.minsi c120_i32_16 v40
  let c64_i32_21 : BitVec 32 := 64#32
  let v50 : BitVec 32 := Scalar.muli v41 c64_i32_21
  v50
def k0_mult6 : BitVec 32 :=
  let c120_i32_16 : BitVec 32 := 120#32
  let c0_i32_15 : BitVec 32 := 0#32
  let c_m3_i32 : BitVec 32 := 4294967293#32
  let v40 : BitVec 32 := Scalar.maxsi c0_i32_15 c_m3_i32
  let v41 : BitVec 32 := Scalar.minsi c120_i32_16 v40
  let c1_i32_24 : BitVec 32 := 1#32
  let v55 : BitVec 32 := Scalar.subi v41 c1_i32_24
  let c7_i32_25 : BitVec 32 := 7#32
  let v56 : BitVec 32 := Scalar.addi v55 c7_i32_25
  let c1_i32_27 : BitVec 32 := 1#32
  let v58 : BitVec 32 := Scalar.shrsi v56 c1_i32_27
  let c128_i32_28 : BitVec 32 := 128#32
  let v59 : BitVec 32 := Scalar.muli v58 c128_i32_28
  v59
def k0_mult7 : BitVec 32 :=
  let c128_i32_37 : BitVec 32 := 128#32
  c128_i32_37
def k0_mult8 : BitVec 32 :=
  let c120_i32_36 : BitVec 32 := 120#32
  let c0_i32_35 : BitVec 32 := 0#32
  let c_m2_i32 : BitVec 32 := 4294967294#32
  let v76 : BitVec 32 := Scalar.maxsi c0_i32_35 c_m2_i32
  let v77 : BitVec 32 := Scalar.minsi c120_i32_36 v76
  let c64_i32_41 : BitVec 32 := 64#32
  let v86 : BitVec 32 := Scalar.muli v77 c64_i32_41
  v86
def k0_mult9 : BitVec 32 :=
  let c120_i32_36 : BitVec 32 := 120#32
  let c0_i32_35 : BitVec 32 := 0#32
  let c_m2_i32 : BitVec 32 := 4294967294#32
  let v76 : BitVec 32 := Scalar.maxsi c0_i32_35 c_m2_i32
  let v77 : BitVec 32 := Scalar.minsi c120_i32_36 v76
  let c2_i32 : BitVec 32 := 2#32
  let v91 : BitVec 32 := Scalar.subi v77 c2_i32
  let c7_i32_44 : BitVec 32 := 7#32
  let v92 : BitVec 32 := Scalar.addi v91 c7_i32_44
  let c1_i32_46 : BitVec 32 := 1#32
  let v94 : BitVec 32 := Scalar.shrsi v92 c1_i32_46
  let c128_i32_47 : BitVec 32 := 128#32
  let v95 : BitVec 32 := Scalar.muli v94 c128_i32_47
  v95
def k0_mult10 : BitVec 32 :=
  let c192_i32 : BitVec 32 := 192#32
  c192_i32
def k0_mult11 : BitVec 32 :=
  let c120_i32_55 : BitVec 32 := 120#32
  let c0_i32_54 : BitVec 32 := 0#32
  let c_m1_i32 : BitVec 32 := 4294967295#32
  let v112 : BitVec 32 := Scalar.maxsi c0_i32_54 c_m1_i32
  let v113 : BitVec 32 := Scalar.minsi c120_i32_55 v112
  let c64_i32_59 : BitVec 32 := 64#32
  let v122 : BitVec 32 := Scalar.muli v113 c64_i32_59
  v122
def k0_mult12 : BitVec 32 :=
  let c120_i32_55 : BitVec 32 := 120#32
  let c0_i32_54 : BitVec 32 := 0#32
  let c_m1_i32 : BitVec 32 := 4294967295#32
  let v112 : BitVec 32 := Scalar.maxsi c0_i32_54 c_m1_i32
  let v113 : BitVec 32 := Scalar.minsi c120_i32_55 v112
  let c3_i32 : BitVec 32 := 3#32
  let v127 : BitVec 32 := Scalar.subi v113 c3_i32
  let c7_i32_62 : BitVec 32 := 7#32
  let v128 : BitVec 32 := Scalar.addi v127 c7_i32_62
  let c1_i32_64 : BitVec 32 := 1#32
  let v130 : BitVec 32 := Scalar.shrsi v128 c1_i32_64
  let c128_i32_65 : BitVec 32 := 128#32
  let v131 : BitVec 32 := Scalar.muli v130 c128_i32_65
  v131
def k0_mult13 : BitVec 32 :=
  let c256_i32 : BitVec 32 := 256#32
  c256_i32
def k0_mult14 : BitVec 32 :=
  let c120_i32_74 : BitVec 32 := 120#32
  let c0_i32_73 : BitVec 32 := 0#32
  let c0_i32_72 : BitVec 32 := 0#32
  let v148 : BitVec 32 := Scalar.maxsi c0_i32_73 c0_i32_72
  let v149 : BitVec 32 := Scalar.minsi c120_i32_74 v148
  let c64_i32_78 : BitVec 32 := 64#32
  let v158 : BitVec 32 := Scalar.muli v149 c64_i32_78
  v158
def k0_mult15 : BitVec 32 :=
  let c120_i32_74 : BitVec 32 := 120#32
  let c0_i32_73 : BitVec 32 := 0#32
  let c0_i32_72 : BitVec 32 := 0#32
  let v148 : BitVec 32 := Scalar.maxsi c0_i32_73 c0_i32_72
  let v149 : BitVec 32 := Scalar.minsi c120_i32_74 v148
  let c4_i32 : BitVec 32 := 4#32
  let v163 : BitVec 32 := Scalar.subi v149 c4_i32
  let c7_i32_81 : BitVec 32 := 7#32
  let v164 : BitVec 32 := Scalar.addi v163 c7_i32_81
  let c1_i32_83 : BitVec 32 := 1#32
  let v166 : BitVec 32 := Scalar.shrsi v164 c1_i32_83
  let c128_i32_84 : BitVec 32 := 128#32
  let v167 : BitVec 32 := Scalar.muli v166 c128_i32_84
  v167
def k0_mult16 : BitVec 32 :=
  let c320_i32 : BitVec 32 := 320#32
  c320_i32
def k0_mult17 : BitVec 32 :=
  let c120_i32_93 : BitVec 32 := 120#32
  let c0_i32_92 : BitVec 32 := 0#32
  let c1_i32_91 : BitVec 32 := 1#32
  let v184 : BitVec 32 := Scalar.maxsi c0_i32_92 c1_i32_91
  let v185 : BitVec 32 := Scalar.minsi c120_i32_93 v184
  let c64_i32_97 : BitVec 32 := 64#32
  let v194 : BitVec 32 := Scalar.muli v185 c64_i32_97
  v194
def k0_mult18 : BitVec 32 :=
  let c120_i32_93 : BitVec 32 := 120#32
  let c0_i32_92 : BitVec 32 := 0#32
  let c1_i32_91 : BitVec 32 := 1#32
  let v184 : BitVec 32 := Scalar.maxsi c0_i32_92 c1_i32_91
  let v185 : BitVec 32 := Scalar.minsi c120_i32_93 v184
  let c5_i32 : BitVec 32 := 5#32
  let v199 : BitVec 32 := Scalar.subi v185 c5_i32
  let c7_i32_100 : BitVec 32 := 7#32
  let v200 : BitVec 32 := Scalar.addi v199 c7_i32_100
  let c1_i32_102 : BitVec 32 := 1#32
  let v202 : BitVec 32 := Scalar.shrsi v200 c1_i32_102
  let c128_i32_103 : BitVec 32 := 128#32
  let v203 : BitVec 32 := Scalar.muli v202 c128_i32_103
  v203
def k0_mult19 : BitVec 32 :=
  let c384_i32 : BitVec 32 := 384#32
  c384_i32
def k0_mult20 : BitVec 32 :=
  let c120_i32_112 : BitVec 32 := 120#32
  let c0_i32_111 : BitVec 32 := 0#32
  let c2_i32_110 : BitVec 32 := 2#32
  let v220 : BitVec 32 := Scalar.maxsi c0_i32_111 c2_i32_110
  let v221 : BitVec 32 := Scalar.minsi c120_i32_112 v220
  let c64_i32_116 : BitVec 32 := 64#32
  let v230 : BitVec 32 := Scalar.muli v221 c64_i32_116
  v230
def k0_mult21 : BitVec 32 :=
  let c120_i32_112 : BitVec 32 := 120#32
  let c0_i32_111 : BitVec 32 := 0#32
  let c2_i32_110 : BitVec 32 := 2#32
  let v220 : BitVec 32 := Scalar.maxsi c0_i32_111 c2_i32_110
  let v221 : BitVec 32 := Scalar.minsi c120_i32_112 v220
  let c6_i32 : BitVec 32 := 6#32
  let v235 : BitVec 32 := Scalar.subi v221 c6_i32
  let c7_i32_119 : BitVec 32 := 7#32
  let v236 : BitVec 32 := Scalar.addi v235 c7_i32_119
  let c1_i32_121 : BitVec 32 := 1#32
  let v238 : BitVec 32 := Scalar.shrsi v236 c1_i32_121
  let c128_i32_122 : BitVec 32 := 128#32
  let v239 : BitVec 32 := Scalar.muli v238 c128_i32_122
  v239
def k0_mult22 : BitVec 32 :=
  let c448_i32 : BitVec 32 := 448#32
  c448_i32
def k0_mult23 : BitVec 32 :=
  let c120_i32_131 : BitVec 32 := 120#32
  let c0_i32_130 : BitVec 32 := 0#32
  let c3_i32_129 : BitVec 32 := 3#32
  let v256 : BitVec 32 := Scalar.maxsi c0_i32_130 c3_i32_129
  let v257 : BitVec 32 := Scalar.minsi c120_i32_131 v256
  let c64_i32_135 : BitVec 32 := 64#32
  let v266 : BitVec 32 := Scalar.muli v257 c64_i32_135
  v266
def k0_mult24 : BitVec 32 :=
  let c120_i32_131 : BitVec 32 := 120#32
  let c0_i32_130 : BitVec 32 := 0#32
  let c3_i32_129 : BitVec 32 := 3#32
  let v256 : BitVec 32 := Scalar.maxsi c0_i32_130 c3_i32_129
  let v257 : BitVec 32 := Scalar.minsi c120_i32_131 v256
  let c7_i32_138 : BitVec 32 := 7#32
  let v271 : BitVec 32 := Scalar.subi v257 c7_i32_138
  let c7_i32_139 : BitVec 32 := 7#32
  let v272 : BitVec 32 := Scalar.addi v271 c7_i32_139
  let c1_i32_141 : BitVec 32 := 1#32
  let v274 : BitVec 32 := Scalar.shrsi v272 c1_i32_141
  let c128_i32_142 : BitVec 32 := 128#32
  let v275 : BitVec 32 := Scalar.muli v274 c128_i32_142
  v275
def k0_mult25 : BitVec 32 :=
  let c512_i32 : BitVec 32 := 512#32
  c512_i32
def k0_mult26 : BitVec 32 :=
  let c120_i32_151 : BitVec 32 := 120#32
  let c0_i32_150 : BitVec 32 := 0#32
  let c4_i32_149 : BitVec 32 := 4#32
  let v292 : BitVec 32 := Scalar.maxsi c0_i32_150 c4_i32_149
  let v293 : BitVec 32 := Scalar.minsi c120_i32_151 v292
  let c64_i32_155 : BitVec 32 := 64#32
  let v302 : BitVec 32 := Scalar.muli v293 c64_i32_155
  v302
def k0_mult27 : BitVec 32 :=
  let c120_i32_151 : BitVec 32 := 120#32
  let c0_i32_150 : BitVec 32 := 0#32
  let c4_i32_149 : BitVec 32 := 4#32
  let v292 : BitVec 32 := Scalar.maxsi c0_i32_150 c4_i32_149
  let v293 : BitVec 32 := Scalar.minsi c120_i32_151 v292
  let c8_i32 : BitVec 32 := 8#32
  let v307 : BitVec 32 := Scalar.subi v293 c8_i32
  let c7_i32_158 : BitVec 32 := 7#32
  let v308 : BitVec 32 := Scalar.addi v307 c7_i32_158
  let c1_i32_160 : BitVec 32 := 1#32
  let v310 : BitVec 32 := Scalar.shrsi v308 c1_i32_160
  let c128_i32_161 : BitVec 32 := 128#32
  let v311 : BitVec 32 := Scalar.muli v310 c128_i32_161
  v311
def k0_mult28 : BitVec 32 :=
  let c576_i32 : BitVec 32 := 576#32
  c576_i32
def k0_mult29 : BitVec 32 :=
  let c120_i32_170 : BitVec 32 := 120#32
  let c0_i32_169 : BitVec 32 := 0#32
  let c5_i32_168 : BitVec 32 := 5#32
  let v328 : BitVec 32 := Scalar.maxsi c0_i32_169 c5_i32_168
  let v329 : BitVec 32 := Scalar.minsi c120_i32_170 v328
  let c64_i32_174 : BitVec 32 := 64#32
  let v338 : BitVec 32 := Scalar.muli v329 c64_i32_174
  v338
def k0_mult30 : BitVec 32 :=
  let c120_i32_170 : BitVec 32 := 120#32
  let c0_i32_169 : BitVec 32 := 0#32
  let c5_i32_168 : BitVec 32 := 5#32
  let v328 : BitVec 32 := Scalar.maxsi c0_i32_169 c5_i32_168
  let v329 : BitVec 32 := Scalar.minsi c120_i32_170 v328
  let c9_i32 : BitVec 32 := 9#32
  let v343 : BitVec 32 := Scalar.subi v329 c9_i32
  let c7_i32_177 : BitVec 32 := 7#32
  let v344 : BitVec 32 := Scalar.addi v343 c7_i32_177
  let c1_i32_179 : BitVec 32 := 1#32
  let v346 : BitVec 32 := Scalar.shrsi v344 c1_i32_179
  let c128_i32_180 : BitVec 32 := 128#32
  let v347 : BitVec 32 := Scalar.muli v346 c128_i32_180
  v347
def k0_mult31 : BitVec 32 :=
  let c640_i32 : BitVec 32 := 640#32
  c640_i32
def k0_mult32 : BitVec 32 :=
  let c120_i32_189 : BitVec 32 := 120#32
  let c0_i32_188 : BitVec 32 := 0#32
  let c6_i32_187 : BitVec 32 := 6#32
  let v364 : BitVec 32 := Scalar.maxsi c0_i32_188 c6_i32_187
  let v365 : BitVec 32 := Scalar.minsi c120_i32_189 v364
  let c64_i32_193 : BitVec 32 := 64#32
  let v374 : BitVec 32 := Scalar.muli v365 c64_i32_193
  v374
def k0_mult33 : BitVec 32 :=
  let c120_i32_189 : BitVec 32 := 120#32
  let c0_i32_188 : BitVec 32 := 0#32
  let c6_i32_187 : BitVec 32 := 6#32
  let v364 : BitVec 32 := Scalar.maxsi c0_i32_188 c6_i32_187
  let v365 : BitVec 32 := Scalar.minsi c120_i32_189 v364
  let c10_i32 : BitVec 32 := 10#32
  let v379 : BitVec 32 := Scalar.subi v365 c10_i32
  let c7_i32_196 : BitVec 32 := 7#32
  let v380 : BitVec 32 := Scalar.addi v379 c7_i32_196
  let c1_i32_198 : BitVec 32 := 1#32
  let v382 : BitVec 32 := Scalar.shrsi v380 c1_i32_198
  let c128_i32_199 : BitVec 32 := 128#32
  let v383 : BitVec 32 := Scalar.muli v382 c128_i32_199
  v383
def k0_mult34 : BitVec 32 :=
  let c704_i32 : BitVec 32 := 704#32
  c704_i32
def k0_mult35 : BitVec 32 :=
  let c120_i32_208 : BitVec 32 := 120#32
  let c0_i32_207 : BitVec 32 := 0#32
  let c7_i32_206 : BitVec 32 := 7#32
  let v400 : BitVec 32 := Scalar.maxsi c0_i32_207 c7_i32_206
  let v401 : BitVec 32 := Scalar.minsi c120_i32_208 v400
  let c64_i32_212 : BitVec 32 := 64#32
  let v410 : BitVec 32 := Scalar.muli v401 c64_i32_212
  v410
def k0_mult36 : BitVec 32 :=
  let c120_i32_208 : BitVec 32 := 120#32
  let c0_i32_207 : BitVec 32 := 0#32
  let c7_i32_206 : BitVec 32 := 7#32
  let v400 : BitVec 32 := Scalar.maxsi c0_i32_207 c7_i32_206
  let v401 : BitVec 32 := Scalar.minsi c120_i32_208 v400
  let c11_i32 : BitVec 32 := 11#32
  let v415 : BitVec 32 := Scalar.subi v401 c11_i32
  let c7_i32_215 : BitVec 32 := 7#32
  let v416 : BitVec 32 := Scalar.addi v415 c7_i32_215
  let c1_i32_217 : BitVec 32 := 1#32
  let v418 : BitVec 32 := Scalar.shrsi v416 c1_i32_217
  let c128_i32_218 : BitVec 32 := 128#32
  let v419 : BitVec 32 := Scalar.muli v418 c128_i32_218
  v419
def k0_mult37 : BitVec 32 :=
  let c768_i32 : BitVec 32 := 768#32
  c768_i32
def k0_mult38 : BitVec 32 :=
  let c120_i32_227 : BitVec 32 := 120#32
  let c0_i32_226 : BitVec 32 := 0#32
  let c8_i32_225 : BitVec 32 := 8#32
  let v436 : BitVec 32 := Scalar.maxsi c0_i32_226 c8_i32_225
  let v437 : BitVec 32 := Scalar.minsi c120_i32_227 v436
  let c64_i32_231 : BitVec 32 := 64#32
  let v446 : BitVec 32 := Scalar.muli v437 c64_i32_231
  v446
def k0_mult39 : BitVec 32 :=
  let c120_i32_227 : BitVec 32 := 120#32
  let c0_i32_226 : BitVec 32 := 0#32
  let c8_i32_225 : BitVec 32 := 8#32
  let v436 : BitVec 32 := Scalar.maxsi c0_i32_226 c8_i32_225
  let v437 : BitVec 32 := Scalar.minsi c120_i32_227 v436
  let c12_i32 : BitVec 32 := 12#32
  let v451 : BitVec 32 := Scalar.subi v437 c12_i32
  let c7_i32_234 : BitVec 32 := 7#32
  let v452 : BitVec 32 := Scalar.addi v451 c7_i32_234
  let c1_i32_236 : BitVec 32 := 1#32
  let v454 : BitVec 32 := Scalar.shrsi v452 c1_i32_236
  let c128_i32_237 : BitVec 32 := 128#32
  let v455 : BitVec 32 := Scalar.muli v454 c128_i32_237
  v455
def k0_mult40 : BitVec 32 :=
  let c832_i32 : BitVec 32 := 832#32
  c832_i32
def k0_mult41 : BitVec 32 :=
  let c120_i32_246 : BitVec 32 := 120#32
  let c0_i32_245 : BitVec 32 := 0#32
  let c9_i32_244 : BitVec 32 := 9#32
  let v472 : BitVec 32 := Scalar.maxsi c0_i32_245 c9_i32_244
  let v473 : BitVec 32 := Scalar.minsi c120_i32_246 v472
  let c64_i32_250 : BitVec 32 := 64#32
  let v482 : BitVec 32 := Scalar.muli v473 c64_i32_250
  v482
def k0_mult42 : BitVec 32 :=
  let c120_i32_246 : BitVec 32 := 120#32
  let c0_i32_245 : BitVec 32 := 0#32
  let c9_i32_244 : BitVec 32 := 9#32
  let v472 : BitVec 32 := Scalar.maxsi c0_i32_245 c9_i32_244
  let v473 : BitVec 32 := Scalar.minsi c120_i32_246 v472
  let c13_i32 : BitVec 32 := 13#32
  let v487 : BitVec 32 := Scalar.subi v473 c13_i32
  let c7_i32_253 : BitVec 32 := 7#32
  let v488 : BitVec 32 := Scalar.addi v487 c7_i32_253
  let c1_i32_255 : BitVec 32 := 1#32
  let v490 : BitVec 32 := Scalar.shrsi v488 c1_i32_255
  let c128_i32_256 : BitVec 32 := 128#32
  let v491 : BitVec 32 := Scalar.muli v490 c128_i32_256
  v491
def k0_mult43 : BitVec 32 :=
  let c896_i32 : BitVec 32 := 896#32
  c896_i32
def k0_mult44 : BitVec 32 :=
  let c120_i32_265 : BitVec 32 := 120#32
  let c0_i32_264 : BitVec 32 := 0#32
  let c10_i32_263 : BitVec 32 := 10#32
  let v508 : BitVec 32 := Scalar.maxsi c0_i32_264 c10_i32_263
  let v509 : BitVec 32 := Scalar.minsi c120_i32_265 v508
  let c64_i32_269 : BitVec 32 := 64#32
  let v518 : BitVec 32 := Scalar.muli v509 c64_i32_269
  v518
def k0_mult45 : BitVec 32 :=
  let c120_i32_265 : BitVec 32 := 120#32
  let c0_i32_264 : BitVec 32 := 0#32
  let c10_i32_263 : BitVec 32 := 10#32
  let v508 : BitVec 32 := Scalar.maxsi c0_i32_264 c10_i32_263
  let v509 : BitVec 32 := Scalar.minsi c120_i32_265 v508
  let c14_i32 : BitVec 32 := 14#32
  let v523 : BitVec 32 := Scalar.subi v509 c14_i32
  let c7_i32_272 : BitVec 32 := 7#32
  let v524 : BitVec 32 := Scalar.addi v523 c7_i32_272
  let c1_i32_274 : BitVec 32 := 1#32
  let v526 : BitVec 32 := Scalar.shrsi v524 c1_i32_274
  let c128_i32_275 : BitVec 32 := 128#32
  let v527 : BitVec 32 := Scalar.muli v526 c128_i32_275
  v527
def k0_mult46 : BitVec 32 :=
  let c960_i32 : BitVec 32 := 960#32
  c960_i32
def k0_mult47 : BitVec 32 :=
  let c120_i32_284 : BitVec 32 := 120#32
  let c0_i32_283 : BitVec 32 := 0#32
  let c11_i32_282 : BitVec 32 := 11#32
  let v544 : BitVec 32 := Scalar.maxsi c0_i32_283 c11_i32_282
  let v545 : BitVec 32 := Scalar.minsi c120_i32_284 v544
  let c64_i32_288 : BitVec 32 := 64#32
  let v554 : BitVec 32 := Scalar.muli v545 c64_i32_288
  v554
def k0_mult48 : BitVec 32 :=
  let c120_i32_284 : BitVec 32 := 120#32
  let c0_i32_283 : BitVec 32 := 0#32
  let c11_i32_282 : BitVec 32 := 11#32
  let v544 : BitVec 32 := Scalar.maxsi c0_i32_283 c11_i32_282
  let v545 : BitVec 32 := Scalar.minsi c120_i32_284 v544
  let c15_i32 : BitVec 32 := 15#32
  let v559 : BitVec 32 := Scalar.subi v545 c15_i32
  let c7_i32_291 : BitVec 32 := 7#32
  let v560 : BitVec 32 := Scalar.addi v559 c7_i32_291
  let c1_i32_293 : BitVec 32 := 1#32
  let v562 : BitVec 32 := Scalar.shrsi v560 c1_i32_293
  let c128_i32_294 : BitVec 32 := 128#32
  let v563 : BitVec 32 := Scalar.muli v562 c128_i32_294
  v563
@[reducible] def k0_t1_loop : Scf.Loop 32 :=
  let c0_i32_301 : BitVec 32 := 0#32
  let c3_i32_302 : BitVec 32 := 3#32
  let v580 : BitVec 32 := Scalar.addi c0_i32_301 c3_i32_302
  let c1_i32_303 : BitVec 32 := 1#32
  ⟨c0_i32_301, v580, c1_i32_303⟩
def k0_mult49 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32 : BitVec 32 := 16#32
  let v1895 : BitVec 32 := Scalar.muli v1894 c16_i32
  let c0_i32_1008 : BitVec 32 := 0#32
  let v1896 : BitVec 32 := Scalar.addi v1895 c0_i32_1008
  let c64_i32_1012 : BitVec 32 := 64#32
  let v1900 : BitVec 32 := Scalar.muli v1896 c64_i32_1012
  v1900
def k0_off3 (k0_t1 : Fin k0_t1_loop.trips) (c1_i32_1007 : BitVec 32) (c0_i32_1008 : BitVec 32) : Fin 3 → Nat :=
  let c0_1013 : Index := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let v1894 : BitVec 32 := Scalar.addi v1893 c1_i32_1007
  let c16_i32 : BitVec 32 := 16#32
  let v1895 : BitVec 32 := Scalar.muli v1894 c16_i32
  let v1896 : BitVec 32 := Scalar.addi v1895 c0_i32_1008
  let c64_i32_1012 : BitVec 32 := 64#32
  let v1900 : BitVec 32 := Scalar.muli v1896 c64_i32_1012
  let v1901 : BitVec 32 := v1900
  let v1902 : Index := Scalar.indexCast v1901
  let c0_1014 : Index := 0#32
  ![0, v1902.toNat, 0]
def k0_mult50 (k0_t1 : Fin k0_t1_loop.trips) : BitVec 32 :=
  let c120_i32_1011 : BitVec 32 := 120#32
  let c0_i32_1010 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32 : BitVec 32 := 16#32
  let v1895 : BitVec 32 := Scalar.muli v1894 c16_i32
  let c0_i32_1008 : BitVec 32 := 0#32
  let v1896 : BitVec 32 := Scalar.addi v1895 c0_i32_1008
  let c4_i32_1009 : BitVec 32 := 4#32
  let v1897 : BitVec 32 := Scalar.subi v1896 c4_i32_1009
  let v1898 : BitVec 32 := Scalar.maxsi c0_i32_1010 v1897
  let v1899 : BitVec 32 := Scalar.minsi c120_i32_1011 v1898
  let c64_i32_1016 : BitVec 32 := 64#32
  let v1909 : BitVec 32 := Scalar.muli v1899 c64_i32_1016
  v1909
def k0_off4 (k0_t1 : Fin k0_t1_loop.trips) (c1_i32_1007 : BitVec 32) (c0_i32_1008 : BitVec 32) : Fin 3 → Nat :=
  let c0_1017 : Index := 0#32
  let c120_i32_1011 : BitVec 32 := 120#32
  let c0_i32_1010 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let v1894 : BitVec 32 := Scalar.addi v1893 c1_i32_1007
  let c16_i32 : BitVec 32 := 16#32
  let v1895 : BitVec 32 := Scalar.muli v1894 c16_i32
  let v1896 : BitVec 32 := Scalar.addi v1895 c0_i32_1008
  let c4_i32_1009 : BitVec 32 := 4#32
  let v1897 : BitVec 32 := Scalar.subi v1896 c4_i32_1009
  let v1898 : BitVec 32 := Scalar.maxsi c0_i32_1010 v1897
  let v1899 : BitVec 32 := Scalar.minsi c120_i32_1011 v1898
  let c64_i32_1016 : BitVec 32 := 64#32
  let v1909 : BitVec 32 := Scalar.muli v1899 c64_i32_1016
  let v1910 : BitVec 32 := v1909
  let v1911 : Index := Scalar.indexCast v1910
  let c0_1018 : Index := 0#32
  ![0, v1911.toNat, 0]
def k0_mult51 (k0_t1 : Fin k0_t1_loop.trips) : BitVec 32 :=
  let c120_i32_1011 : BitVec 32 := 120#32
  let c0_i32_1010 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32 : BitVec 32 := 16#32
  let v1895 : BitVec 32 := Scalar.muli v1894 c16_i32
  let c0_i32_1008 : BitVec 32 := 0#32
  let v1896 : BitVec 32 := Scalar.addi v1895 c0_i32_1008
  let c4_i32_1009 : BitVec 32 := 4#32
  let v1897 : BitVec 32 := Scalar.subi v1896 c4_i32_1009
  let v1898 : BitVec 32 := Scalar.maxsi c0_i32_1010 v1897
  let v1899 : BitVec 32 := Scalar.minsi c120_i32_1011 v1898
  let v1914 : BitVec 32 := Scalar.subi v1899 v1896
  let c7_i32_1019 : BitVec 32 := 7#32
  let v1915 : BitVec 32 := Scalar.addi v1914 c7_i32_1019
  let c1_i32_1021 : BitVec 32 := 1#32
  let v1917 : BitVec 32 := Scalar.shrsi v1915 c1_i32_1021
  let c128_i32_1022 : BitVec 32 := 128#32
  let v1918 : BitVec 32 := Scalar.muli v1917 c128_i32_1022
  v1918
def k0_off5 (k0_t1 : Fin k0_t1_loop.trips) (c1_i32_1007 : BitVec 32) (c0_i32_1008 : BitVec 32) : Fin 4 → Nat :=
  let c0_1023 : Index := 0#32
  let c120_i32_1011 : BitVec 32 := 120#32
  let c0_i32_1010 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let v1894 : BitVec 32 := Scalar.addi v1893 c1_i32_1007
  let c16_i32 : BitVec 32 := 16#32
  let v1895 : BitVec 32 := Scalar.muli v1894 c16_i32
  let v1896 : BitVec 32 := Scalar.addi v1895 c0_i32_1008
  let c4_i32_1009 : BitVec 32 := 4#32
  let v1897 : BitVec 32 := Scalar.subi v1896 c4_i32_1009
  let v1898 : BitVec 32 := Scalar.maxsi c0_i32_1010 v1897
  let v1899 : BitVec 32 := Scalar.minsi c120_i32_1011 v1898
  let v1914 : BitVec 32 := Scalar.subi v1899 v1896
  let c7_i32_1019 : BitVec 32 := 7#32
  let v1915 : BitVec 32 := Scalar.addi v1914 c7_i32_1019
  let c1_i32_1020 : BitVec 32 := 1#32
  let v1916 : BitVec 32 := Scalar.andi v1915 c1_i32_1020
  let v1920 : Index := Scalar.indexCast v1916
  let c0_1024 : Index := 0#32
  let c1_i32_1021 : BitVec 32 := 1#32
  let v1917 : BitVec 32 := Scalar.shrsi v1915 c1_i32_1021
  let c128_i32_1022 : BitVec 32 := 128#32
  let v1918 : BitVec 32 := Scalar.muli v1917 c128_i32_1022
  let v1919 : BitVec 32 := v1918
  let v1921 : Index := Scalar.indexCast v1919
  ![0, v1920.toNat, 0, v1921.toNat]
def k0_mult52 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1030 : BitVec 32 := 16#32
  let v1935 : BitVec 32 := Scalar.muli v1894 c16_i32_1030
  let c1_i32_1031 : BitVec 32 := 1#32
  let v1936 : BitVec 32 := Scalar.addi v1935 c1_i32_1031
  let c64_i32_1035 : BitVec 32 := 64#32
  let v1940 : BitVec 32 := Scalar.muli v1936 c64_i32_1035
  v1940
def k0_mult53 (k0_t1 : Fin k0_t1_loop.trips) : BitVec 32 :=
  let c120_i32_1034 : BitVec 32 := 120#32
  let c0_i32_1033 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1030 : BitVec 32 := 16#32
  let v1935 : BitVec 32 := Scalar.muli v1894 c16_i32_1030
  let c1_i32_1031 : BitVec 32 := 1#32
  let v1936 : BitVec 32 := Scalar.addi v1935 c1_i32_1031
  let c4_i32_1032 : BitVec 32 := 4#32
  let v1937 : BitVec 32 := Scalar.subi v1936 c4_i32_1032
  let v1938 : BitVec 32 := Scalar.maxsi c0_i32_1033 v1937
  let v1939 : BitVec 32 := Scalar.minsi c120_i32_1034 v1938
  let c64_i32_1039 : BitVec 32 := 64#32
  let v1949 : BitVec 32 := Scalar.muli v1939 c64_i32_1039
  v1949
def k0_mult54 (k0_t1 : Fin k0_t1_loop.trips) : BitVec 32 :=
  let c120_i32_1034 : BitVec 32 := 120#32
  let c0_i32_1033 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1030 : BitVec 32 := 16#32
  let v1935 : BitVec 32 := Scalar.muli v1894 c16_i32_1030
  let c1_i32_1031 : BitVec 32 := 1#32
  let v1936 : BitVec 32 := Scalar.addi v1935 c1_i32_1031
  let c4_i32_1032 : BitVec 32 := 4#32
  let v1937 : BitVec 32 := Scalar.subi v1936 c4_i32_1032
  let v1938 : BitVec 32 := Scalar.maxsi c0_i32_1033 v1937
  let v1939 : BitVec 32 := Scalar.minsi c120_i32_1034 v1938
  let v1954 : BitVec 32 := Scalar.subi v1939 v1936
  let c7_i32_1042 : BitVec 32 := 7#32
  let v1955 : BitVec 32 := Scalar.addi v1954 c7_i32_1042
  let c1_i32_1044 : BitVec 32 := 1#32
  let v1957 : BitVec 32 := Scalar.shrsi v1955 c1_i32_1044
  let c128_i32_1045 : BitVec 32 := 128#32
  let v1958 : BitVec 32 := Scalar.muli v1957 c128_i32_1045
  v1958
def k0_mult55 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1053 : BitVec 32 := 16#32
  let v1975 : BitVec 32 := Scalar.muli v1894 c16_i32_1053
  let c2_i32_1054 : BitVec 32 := 2#32
  let v1976 : BitVec 32 := Scalar.addi v1975 c2_i32_1054
  let c64_i32_1058 : BitVec 32 := 64#32
  let v1980 : BitVec 32 := Scalar.muli v1976 c64_i32_1058
  v1980
def k0_mult56 (k0_t1 : Fin k0_t1_loop.trips) : BitVec 32 :=
  let c120_i32_1057 : BitVec 32 := 120#32
  let c0_i32_1056 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1053 : BitVec 32 := 16#32
  let v1975 : BitVec 32 := Scalar.muli v1894 c16_i32_1053
  let c2_i32_1054 : BitVec 32 := 2#32
  let v1976 : BitVec 32 := Scalar.addi v1975 c2_i32_1054
  let c4_i32_1055 : BitVec 32 := 4#32
  let v1977 : BitVec 32 := Scalar.subi v1976 c4_i32_1055
  let v1978 : BitVec 32 := Scalar.maxsi c0_i32_1056 v1977
  let v1979 : BitVec 32 := Scalar.minsi c120_i32_1057 v1978
  let c64_i32_1062 : BitVec 32 := 64#32
  let v1989 : BitVec 32 := Scalar.muli v1979 c64_i32_1062
  v1989
def k0_mult57 (k0_t1 : Fin k0_t1_loop.trips) : BitVec 32 :=
  let c120_i32_1057 : BitVec 32 := 120#32
  let c0_i32_1056 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1053 : BitVec 32 := 16#32
  let v1975 : BitVec 32 := Scalar.muli v1894 c16_i32_1053
  let c2_i32_1054 : BitVec 32 := 2#32
  let v1976 : BitVec 32 := Scalar.addi v1975 c2_i32_1054
  let c4_i32_1055 : BitVec 32 := 4#32
  let v1977 : BitVec 32 := Scalar.subi v1976 c4_i32_1055
  let v1978 : BitVec 32 := Scalar.maxsi c0_i32_1056 v1977
  let v1979 : BitVec 32 := Scalar.minsi c120_i32_1057 v1978
  let v1994 : BitVec 32 := Scalar.subi v1979 v1976
  let c7_i32_1065 : BitVec 32 := 7#32
  let v1995 : BitVec 32 := Scalar.addi v1994 c7_i32_1065
  let c1_i32_1067 : BitVec 32 := 1#32
  let v1997 : BitVec 32 := Scalar.shrsi v1995 c1_i32_1067
  let c128_i32_1068 : BitVec 32 := 128#32
  let v1998 : BitVec 32 := Scalar.muli v1997 c128_i32_1068
  v1998
def k0_mult58 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1076 : BitVec 32 := 16#32
  let v2015 : BitVec 32 := Scalar.muli v1894 c16_i32_1076
  let c3_i32_1077 : BitVec 32 := 3#32
  let v2016 : BitVec 32 := Scalar.addi v2015 c3_i32_1077
  let c64_i32_1081 : BitVec 32 := 64#32
  let v2020 : BitVec 32 := Scalar.muli v2016 c64_i32_1081
  v2020
def k0_mult59 (k0_t1 : Fin k0_t1_loop.trips) : BitVec 32 :=
  let c120_i32_1080 : BitVec 32 := 120#32
  let c0_i32_1079 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1076 : BitVec 32 := 16#32
  let v2015 : BitVec 32 := Scalar.muli v1894 c16_i32_1076
  let c3_i32_1077 : BitVec 32 := 3#32
  let v2016 : BitVec 32 := Scalar.addi v2015 c3_i32_1077
  let c4_i32_1078 : BitVec 32 := 4#32
  let v2017 : BitVec 32 := Scalar.subi v2016 c4_i32_1078
  let v2018 : BitVec 32 := Scalar.maxsi c0_i32_1079 v2017
  let v2019 : BitVec 32 := Scalar.minsi c120_i32_1080 v2018
  let c64_i32_1085 : BitVec 32 := 64#32
  let v2029 : BitVec 32 := Scalar.muli v2019 c64_i32_1085
  v2029
def k0_mult60 (k0_t1 : Fin k0_t1_loop.trips) : BitVec 32 :=
  let c120_i32_1080 : BitVec 32 := 120#32
  let c0_i32_1079 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1076 : BitVec 32 := 16#32
  let v2015 : BitVec 32 := Scalar.muli v1894 c16_i32_1076
  let c3_i32_1077 : BitVec 32 := 3#32
  let v2016 : BitVec 32 := Scalar.addi v2015 c3_i32_1077
  let c4_i32_1078 : BitVec 32 := 4#32
  let v2017 : BitVec 32 := Scalar.subi v2016 c4_i32_1078
  let v2018 : BitVec 32 := Scalar.maxsi c0_i32_1079 v2017
  let v2019 : BitVec 32 := Scalar.minsi c120_i32_1080 v2018
  let v2034 : BitVec 32 := Scalar.subi v2019 v2016
  let c7_i32_1088 : BitVec 32 := 7#32
  let v2035 : BitVec 32 := Scalar.addi v2034 c7_i32_1088
  let c1_i32_1090 : BitVec 32 := 1#32
  let v2037 : BitVec 32 := Scalar.shrsi v2035 c1_i32_1090
  let c128_i32_1091 : BitVec 32 := 128#32
  let v2038 : BitVec 32 := Scalar.muli v2037 c128_i32_1091
  v2038
def k0_mult61 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1099 : BitVec 32 := 16#32
  let v2055 : BitVec 32 := Scalar.muli v1894 c16_i32_1099
  let c4_i32_1100 : BitVec 32 := 4#32
  let v2056 : BitVec 32 := Scalar.addi v2055 c4_i32_1100
  let c64_i32_1104 : BitVec 32 := 64#32
  let v2060 : BitVec 32 := Scalar.muli v2056 c64_i32_1104
  v2060
def k0_mult62 (k0_t1 : Fin k0_t1_loop.trips) : BitVec 32 :=
  let c120_i32_1103 : BitVec 32 := 120#32
  let c0_i32_1102 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1099 : BitVec 32 := 16#32
  let v2055 : BitVec 32 := Scalar.muli v1894 c16_i32_1099
  let c4_i32_1100 : BitVec 32 := 4#32
  let v2056 : BitVec 32 := Scalar.addi v2055 c4_i32_1100
  let c4_i32_1101 : BitVec 32 := 4#32
  let v2057 : BitVec 32 := Scalar.subi v2056 c4_i32_1101
  let v2058 : BitVec 32 := Scalar.maxsi c0_i32_1102 v2057
  let v2059 : BitVec 32 := Scalar.minsi c120_i32_1103 v2058
  let c64_i32_1108 : BitVec 32 := 64#32
  let v2069 : BitVec 32 := Scalar.muli v2059 c64_i32_1108
  v2069
def k0_mult63 (k0_t1 : Fin k0_t1_loop.trips) : BitVec 32 :=
  let c120_i32_1103 : BitVec 32 := 120#32
  let c0_i32_1102 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1099 : BitVec 32 := 16#32
  let v2055 : BitVec 32 := Scalar.muli v1894 c16_i32_1099
  let c4_i32_1100 : BitVec 32 := 4#32
  let v2056 : BitVec 32 := Scalar.addi v2055 c4_i32_1100
  let c4_i32_1101 : BitVec 32 := 4#32
  let v2057 : BitVec 32 := Scalar.subi v2056 c4_i32_1101
  let v2058 : BitVec 32 := Scalar.maxsi c0_i32_1102 v2057
  let v2059 : BitVec 32 := Scalar.minsi c120_i32_1103 v2058
  let v2074 : BitVec 32 := Scalar.subi v2059 v2056
  let c7_i32_1111 : BitVec 32 := 7#32
  let v2075 : BitVec 32 := Scalar.addi v2074 c7_i32_1111
  let c1_i32_1113 : BitVec 32 := 1#32
  let v2077 : BitVec 32 := Scalar.shrsi v2075 c1_i32_1113
  let c128_i32_1114 : BitVec 32 := 128#32
  let v2078 : BitVec 32 := Scalar.muli v2077 c128_i32_1114
  v2078
def k0_mult64 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1122 : BitVec 32 := 16#32
  let v2095 : BitVec 32 := Scalar.muli v1894 c16_i32_1122
  let c5_i32_1123 : BitVec 32 := 5#32
  let v2096 : BitVec 32 := Scalar.addi v2095 c5_i32_1123
  let c64_i32_1127 : BitVec 32 := 64#32
  let v2100 : BitVec 32 := Scalar.muli v2096 c64_i32_1127
  v2100
def k0_mult65 (k0_t1 : Fin k0_t1_loop.trips) : BitVec 32 :=
  let c120_i32_1126 : BitVec 32 := 120#32
  let c0_i32_1125 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1122 : BitVec 32 := 16#32
  let v2095 : BitVec 32 := Scalar.muli v1894 c16_i32_1122
  let c5_i32_1123 : BitVec 32 := 5#32
  let v2096 : BitVec 32 := Scalar.addi v2095 c5_i32_1123
  let c4_i32_1124 : BitVec 32 := 4#32
  let v2097 : BitVec 32 := Scalar.subi v2096 c4_i32_1124
  let v2098 : BitVec 32 := Scalar.maxsi c0_i32_1125 v2097
  let v2099 : BitVec 32 := Scalar.minsi c120_i32_1126 v2098
  let c64_i32_1131 : BitVec 32 := 64#32
  let v2109 : BitVec 32 := Scalar.muli v2099 c64_i32_1131
  v2109
def k0_mult66 (k0_t1 : Fin k0_t1_loop.trips) : BitVec 32 :=
  let c120_i32_1126 : BitVec 32 := 120#32
  let c0_i32_1125 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1122 : BitVec 32 := 16#32
  let v2095 : BitVec 32 := Scalar.muli v1894 c16_i32_1122
  let c5_i32_1123 : BitVec 32 := 5#32
  let v2096 : BitVec 32 := Scalar.addi v2095 c5_i32_1123
  let c4_i32_1124 : BitVec 32 := 4#32
  let v2097 : BitVec 32 := Scalar.subi v2096 c4_i32_1124
  let v2098 : BitVec 32 := Scalar.maxsi c0_i32_1125 v2097
  let v2099 : BitVec 32 := Scalar.minsi c120_i32_1126 v2098
  let v2114 : BitVec 32 := Scalar.subi v2099 v2096
  let c7_i32_1134 : BitVec 32 := 7#32
  let v2115 : BitVec 32 := Scalar.addi v2114 c7_i32_1134
  let c1_i32_1136 : BitVec 32 := 1#32
  let v2117 : BitVec 32 := Scalar.shrsi v2115 c1_i32_1136
  let c128_i32_1137 : BitVec 32 := 128#32
  let v2118 : BitVec 32 := Scalar.muli v2117 c128_i32_1137
  v2118
def k0_mult67 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1145 : BitVec 32 := 16#32
  let v2135 : BitVec 32 := Scalar.muli v1894 c16_i32_1145
  let c6_i32_1146 : BitVec 32 := 6#32
  let v2136 : BitVec 32 := Scalar.addi v2135 c6_i32_1146
  let c64_i32_1150 : BitVec 32 := 64#32
  let v2140 : BitVec 32 := Scalar.muli v2136 c64_i32_1150
  v2140
def k0_mult68 (k0_t1 : Fin k0_t1_loop.trips) : BitVec 32 :=
  let c120_i32_1149 : BitVec 32 := 120#32
  let c0_i32_1148 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1145 : BitVec 32 := 16#32
  let v2135 : BitVec 32 := Scalar.muli v1894 c16_i32_1145
  let c6_i32_1146 : BitVec 32 := 6#32
  let v2136 : BitVec 32 := Scalar.addi v2135 c6_i32_1146
  let c4_i32_1147 : BitVec 32 := 4#32
  let v2137 : BitVec 32 := Scalar.subi v2136 c4_i32_1147
  let v2138 : BitVec 32 := Scalar.maxsi c0_i32_1148 v2137
  let v2139 : BitVec 32 := Scalar.minsi c120_i32_1149 v2138
  let c64_i32_1154 : BitVec 32 := 64#32
  let v2149 : BitVec 32 := Scalar.muli v2139 c64_i32_1154
  v2149
def k0_mult69 (k0_t1 : Fin k0_t1_loop.trips) : BitVec 32 :=
  let c120_i32_1149 : BitVec 32 := 120#32
  let c0_i32_1148 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1145 : BitVec 32 := 16#32
  let v2135 : BitVec 32 := Scalar.muli v1894 c16_i32_1145
  let c6_i32_1146 : BitVec 32 := 6#32
  let v2136 : BitVec 32 := Scalar.addi v2135 c6_i32_1146
  let c4_i32_1147 : BitVec 32 := 4#32
  let v2137 : BitVec 32 := Scalar.subi v2136 c4_i32_1147
  let v2138 : BitVec 32 := Scalar.maxsi c0_i32_1148 v2137
  let v2139 : BitVec 32 := Scalar.minsi c120_i32_1149 v2138
  let v2154 : BitVec 32 := Scalar.subi v2139 v2136
  let c7_i32_1157 : BitVec 32 := 7#32
  let v2155 : BitVec 32 := Scalar.addi v2154 c7_i32_1157
  let c1_i32_1159 : BitVec 32 := 1#32
  let v2157 : BitVec 32 := Scalar.shrsi v2155 c1_i32_1159
  let c128_i32_1160 : BitVec 32 := 128#32
  let v2158 : BitVec 32 := Scalar.muli v2157 c128_i32_1160
  v2158
def k0_mult70 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1168 : BitVec 32 := 16#32
  let v2175 : BitVec 32 := Scalar.muli v1894 c16_i32_1168
  let c7_i32_1169 : BitVec 32 := 7#32
  let v2176 : BitVec 32 := Scalar.addi v2175 c7_i32_1169
  let c64_i32_1173 : BitVec 32 := 64#32
  let v2180 : BitVec 32 := Scalar.muli v2176 c64_i32_1173
  v2180
def k0_mult71 (k0_t1 : Fin k0_t1_loop.trips) : BitVec 32 :=
  let c120_i32_1172 : BitVec 32 := 120#32
  let c0_i32_1171 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1168 : BitVec 32 := 16#32
  let v2175 : BitVec 32 := Scalar.muli v1894 c16_i32_1168
  let c7_i32_1169 : BitVec 32 := 7#32
  let v2176 : BitVec 32 := Scalar.addi v2175 c7_i32_1169
  let c4_i32_1170 : BitVec 32 := 4#32
  let v2177 : BitVec 32 := Scalar.subi v2176 c4_i32_1170
  let v2178 : BitVec 32 := Scalar.maxsi c0_i32_1171 v2177
  let v2179 : BitVec 32 := Scalar.minsi c120_i32_1172 v2178
  let c64_i32_1177 : BitVec 32 := 64#32
  let v2189 : BitVec 32 := Scalar.muli v2179 c64_i32_1177
  v2189
def k0_mult72 (k0_t1 : Fin k0_t1_loop.trips) : BitVec 32 :=
  let c120_i32_1172 : BitVec 32 := 120#32
  let c0_i32_1171 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1168 : BitVec 32 := 16#32
  let v2175 : BitVec 32 := Scalar.muli v1894 c16_i32_1168
  let c7_i32_1169 : BitVec 32 := 7#32
  let v2176 : BitVec 32 := Scalar.addi v2175 c7_i32_1169
  let c4_i32_1170 : BitVec 32 := 4#32
  let v2177 : BitVec 32 := Scalar.subi v2176 c4_i32_1170
  let v2178 : BitVec 32 := Scalar.maxsi c0_i32_1171 v2177
  let v2179 : BitVec 32 := Scalar.minsi c120_i32_1172 v2178
  let v2194 : BitVec 32 := Scalar.subi v2179 v2176
  let c7_i32_1180 : BitVec 32 := 7#32
  let v2195 : BitVec 32 := Scalar.addi v2194 c7_i32_1180
  let c1_i32_1182 : BitVec 32 := 1#32
  let v2197 : BitVec 32 := Scalar.shrsi v2195 c1_i32_1182
  let c128_i32_1183 : BitVec 32 := 128#32
  let v2198 : BitVec 32 := Scalar.muli v2197 c128_i32_1183
  v2198
def k0_mult73 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1191 : BitVec 32 := 16#32
  let v2215 : BitVec 32 := Scalar.muli v1894 c16_i32_1191
  let c8_i32_1192 : BitVec 32 := 8#32
  let v2216 : BitVec 32 := Scalar.addi v2215 c8_i32_1192
  let c64_i32_1196 : BitVec 32 := 64#32
  let v2220 : BitVec 32 := Scalar.muli v2216 c64_i32_1196
  v2220
def k0_mult74 (k0_t1 : Fin k0_t1_loop.trips) : BitVec 32 :=
  let c120_i32_1195 : BitVec 32 := 120#32
  let c0_i32_1194 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1191 : BitVec 32 := 16#32
  let v2215 : BitVec 32 := Scalar.muli v1894 c16_i32_1191
  let c8_i32_1192 : BitVec 32 := 8#32
  let v2216 : BitVec 32 := Scalar.addi v2215 c8_i32_1192
  let c4_i32_1193 : BitVec 32 := 4#32
  let v2217 : BitVec 32 := Scalar.subi v2216 c4_i32_1193
  let v2218 : BitVec 32 := Scalar.maxsi c0_i32_1194 v2217
  let v2219 : BitVec 32 := Scalar.minsi c120_i32_1195 v2218
  let c64_i32_1200 : BitVec 32 := 64#32
  let v2229 : BitVec 32 := Scalar.muli v2219 c64_i32_1200
  v2229
def k0_mult75 (k0_t1 : Fin k0_t1_loop.trips) : BitVec 32 :=
  let c120_i32_1195 : BitVec 32 := 120#32
  let c0_i32_1194 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1191 : BitVec 32 := 16#32
  let v2215 : BitVec 32 := Scalar.muli v1894 c16_i32_1191
  let c8_i32_1192 : BitVec 32 := 8#32
  let v2216 : BitVec 32 := Scalar.addi v2215 c8_i32_1192
  let c4_i32_1193 : BitVec 32 := 4#32
  let v2217 : BitVec 32 := Scalar.subi v2216 c4_i32_1193
  let v2218 : BitVec 32 := Scalar.maxsi c0_i32_1194 v2217
  let v2219 : BitVec 32 := Scalar.minsi c120_i32_1195 v2218
  let v2234 : BitVec 32 := Scalar.subi v2219 v2216
  let c7_i32_1203 : BitVec 32 := 7#32
  let v2235 : BitVec 32 := Scalar.addi v2234 c7_i32_1203
  let c1_i32_1205 : BitVec 32 := 1#32
  let v2237 : BitVec 32 := Scalar.shrsi v2235 c1_i32_1205
  let c128_i32_1206 : BitVec 32 := 128#32
  let v2238 : BitVec 32 := Scalar.muli v2237 c128_i32_1206
  v2238
def k0_mult76 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1214 : BitVec 32 := 16#32
  let v2255 : BitVec 32 := Scalar.muli v1894 c16_i32_1214
  let c9_i32_1215 : BitVec 32 := 9#32
  let v2256 : BitVec 32 := Scalar.addi v2255 c9_i32_1215
  let c64_i32_1219 : BitVec 32 := 64#32
  let v2260 : BitVec 32 := Scalar.muli v2256 c64_i32_1219
  v2260
def k0_mult77 (k0_t1 : Fin k0_t1_loop.trips) : BitVec 32 :=
  let c120_i32_1218 : BitVec 32 := 120#32
  let c0_i32_1217 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1214 : BitVec 32 := 16#32
  let v2255 : BitVec 32 := Scalar.muli v1894 c16_i32_1214
  let c9_i32_1215 : BitVec 32 := 9#32
  let v2256 : BitVec 32 := Scalar.addi v2255 c9_i32_1215
  let c4_i32_1216 : BitVec 32 := 4#32
  let v2257 : BitVec 32 := Scalar.subi v2256 c4_i32_1216
  let v2258 : BitVec 32 := Scalar.maxsi c0_i32_1217 v2257
  let v2259 : BitVec 32 := Scalar.minsi c120_i32_1218 v2258
  let c64_i32_1223 : BitVec 32 := 64#32
  let v2269 : BitVec 32 := Scalar.muli v2259 c64_i32_1223
  v2269
def k0_mult78 (k0_t1 : Fin k0_t1_loop.trips) : BitVec 32 :=
  let c120_i32_1218 : BitVec 32 := 120#32
  let c0_i32_1217 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1214 : BitVec 32 := 16#32
  let v2255 : BitVec 32 := Scalar.muli v1894 c16_i32_1214
  let c9_i32_1215 : BitVec 32 := 9#32
  let v2256 : BitVec 32 := Scalar.addi v2255 c9_i32_1215
  let c4_i32_1216 : BitVec 32 := 4#32
  let v2257 : BitVec 32 := Scalar.subi v2256 c4_i32_1216
  let v2258 : BitVec 32 := Scalar.maxsi c0_i32_1217 v2257
  let v2259 : BitVec 32 := Scalar.minsi c120_i32_1218 v2258
  let v2274 : BitVec 32 := Scalar.subi v2259 v2256
  let c7_i32_1226 : BitVec 32 := 7#32
  let v2275 : BitVec 32 := Scalar.addi v2274 c7_i32_1226
  let c1_i32_1228 : BitVec 32 := 1#32
  let v2277 : BitVec 32 := Scalar.shrsi v2275 c1_i32_1228
  let c128_i32_1229 : BitVec 32 := 128#32
  let v2278 : BitVec 32 := Scalar.muli v2277 c128_i32_1229
  v2278
def k0_mult79 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1237 : BitVec 32 := 16#32
  let v2295 : BitVec 32 := Scalar.muli v1894 c16_i32_1237
  let c10_i32_1238 : BitVec 32 := 10#32
  let v2296 : BitVec 32 := Scalar.addi v2295 c10_i32_1238
  let c64_i32_1242 : BitVec 32 := 64#32
  let v2300 : BitVec 32 := Scalar.muli v2296 c64_i32_1242
  v2300
def k0_mult80 (k0_t1 : Fin k0_t1_loop.trips) : BitVec 32 :=
  let c120_i32_1241 : BitVec 32 := 120#32
  let c0_i32_1240 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1237 : BitVec 32 := 16#32
  let v2295 : BitVec 32 := Scalar.muli v1894 c16_i32_1237
  let c10_i32_1238 : BitVec 32 := 10#32
  let v2296 : BitVec 32 := Scalar.addi v2295 c10_i32_1238
  let c4_i32_1239 : BitVec 32 := 4#32
  let v2297 : BitVec 32 := Scalar.subi v2296 c4_i32_1239
  let v2298 : BitVec 32 := Scalar.maxsi c0_i32_1240 v2297
  let v2299 : BitVec 32 := Scalar.minsi c120_i32_1241 v2298
  let c64_i32_1246 : BitVec 32 := 64#32
  let v2309 : BitVec 32 := Scalar.muli v2299 c64_i32_1246
  v2309
def k0_mult81 (k0_t1 : Fin k0_t1_loop.trips) : BitVec 32 :=
  let c120_i32_1241 : BitVec 32 := 120#32
  let c0_i32_1240 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1237 : BitVec 32 := 16#32
  let v2295 : BitVec 32 := Scalar.muli v1894 c16_i32_1237
  let c10_i32_1238 : BitVec 32 := 10#32
  let v2296 : BitVec 32 := Scalar.addi v2295 c10_i32_1238
  let c4_i32_1239 : BitVec 32 := 4#32
  let v2297 : BitVec 32 := Scalar.subi v2296 c4_i32_1239
  let v2298 : BitVec 32 := Scalar.maxsi c0_i32_1240 v2297
  let v2299 : BitVec 32 := Scalar.minsi c120_i32_1241 v2298
  let v2314 : BitVec 32 := Scalar.subi v2299 v2296
  let c7_i32_1249 : BitVec 32 := 7#32
  let v2315 : BitVec 32 := Scalar.addi v2314 c7_i32_1249
  let c1_i32_1251 : BitVec 32 := 1#32
  let v2317 : BitVec 32 := Scalar.shrsi v2315 c1_i32_1251
  let c128_i32_1252 : BitVec 32 := 128#32
  let v2318 : BitVec 32 := Scalar.muli v2317 c128_i32_1252
  v2318
def k0_mult82 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1260 : BitVec 32 := 16#32
  let v2335 : BitVec 32 := Scalar.muli v1894 c16_i32_1260
  let c11_i32_1261 : BitVec 32 := 11#32
  let v2336 : BitVec 32 := Scalar.addi v2335 c11_i32_1261
  let c64_i32_1265 : BitVec 32 := 64#32
  let v2340 : BitVec 32 := Scalar.muli v2336 c64_i32_1265
  v2340
def k0_mult83 (k0_t1 : Fin k0_t1_loop.trips) : BitVec 32 :=
  let c120_i32_1264 : BitVec 32 := 120#32
  let c0_i32_1263 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1260 : BitVec 32 := 16#32
  let v2335 : BitVec 32 := Scalar.muli v1894 c16_i32_1260
  let c11_i32_1261 : BitVec 32 := 11#32
  let v2336 : BitVec 32 := Scalar.addi v2335 c11_i32_1261
  let c4_i32_1262 : BitVec 32 := 4#32
  let v2337 : BitVec 32 := Scalar.subi v2336 c4_i32_1262
  let v2338 : BitVec 32 := Scalar.maxsi c0_i32_1263 v2337
  let v2339 : BitVec 32 := Scalar.minsi c120_i32_1264 v2338
  let c64_i32_1269 : BitVec 32 := 64#32
  let v2349 : BitVec 32 := Scalar.muli v2339 c64_i32_1269
  v2349
def k0_mult84 (k0_t1 : Fin k0_t1_loop.trips) : BitVec 32 :=
  let c120_i32_1264 : BitVec 32 := 120#32
  let c0_i32_1263 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1260 : BitVec 32 := 16#32
  let v2335 : BitVec 32 := Scalar.muli v1894 c16_i32_1260
  let c11_i32_1261 : BitVec 32 := 11#32
  let v2336 : BitVec 32 := Scalar.addi v2335 c11_i32_1261
  let c4_i32_1262 : BitVec 32 := 4#32
  let v2337 : BitVec 32 := Scalar.subi v2336 c4_i32_1262
  let v2338 : BitVec 32 := Scalar.maxsi c0_i32_1263 v2337
  let v2339 : BitVec 32 := Scalar.minsi c120_i32_1264 v2338
  let v2354 : BitVec 32 := Scalar.subi v2339 v2336
  let c7_i32_1272 : BitVec 32 := 7#32
  let v2355 : BitVec 32 := Scalar.addi v2354 c7_i32_1272
  let c1_i32_1274 : BitVec 32 := 1#32
  let v2357 : BitVec 32 := Scalar.shrsi v2355 c1_i32_1274
  let c128_i32_1275 : BitVec 32 := 128#32
  let v2358 : BitVec 32 := Scalar.muli v2357 c128_i32_1275
  v2358
def k0_mult85 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1283 : BitVec 32 := 16#32
  let v2375 : BitVec 32 := Scalar.muli v1894 c16_i32_1283
  let c12_i32_1284 : BitVec 32 := 12#32
  let v2376 : BitVec 32 := Scalar.addi v2375 c12_i32_1284
  let c64_i32_1288 : BitVec 32 := 64#32
  let v2380 : BitVec 32 := Scalar.muli v2376 c64_i32_1288
  v2380
def k0_mult86 (k0_t1 : Fin k0_t1_loop.trips) : BitVec 32 :=
  let c120_i32_1287 : BitVec 32 := 120#32
  let c0_i32_1286 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1283 : BitVec 32 := 16#32
  let v2375 : BitVec 32 := Scalar.muli v1894 c16_i32_1283
  let c12_i32_1284 : BitVec 32 := 12#32
  let v2376 : BitVec 32 := Scalar.addi v2375 c12_i32_1284
  let c4_i32_1285 : BitVec 32 := 4#32
  let v2377 : BitVec 32 := Scalar.subi v2376 c4_i32_1285
  let v2378 : BitVec 32 := Scalar.maxsi c0_i32_1286 v2377
  let v2379 : BitVec 32 := Scalar.minsi c120_i32_1287 v2378
  let c64_i32_1292 : BitVec 32 := 64#32
  let v2389 : BitVec 32 := Scalar.muli v2379 c64_i32_1292
  v2389
def k0_mult87 (k0_t1 : Fin k0_t1_loop.trips) : BitVec 32 :=
  let c120_i32_1287 : BitVec 32 := 120#32
  let c0_i32_1286 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1283 : BitVec 32 := 16#32
  let v2375 : BitVec 32 := Scalar.muli v1894 c16_i32_1283
  let c12_i32_1284 : BitVec 32 := 12#32
  let v2376 : BitVec 32 := Scalar.addi v2375 c12_i32_1284
  let c4_i32_1285 : BitVec 32 := 4#32
  let v2377 : BitVec 32 := Scalar.subi v2376 c4_i32_1285
  let v2378 : BitVec 32 := Scalar.maxsi c0_i32_1286 v2377
  let v2379 : BitVec 32 := Scalar.minsi c120_i32_1287 v2378
  let v2394 : BitVec 32 := Scalar.subi v2379 v2376
  let c7_i32_1295 : BitVec 32 := 7#32
  let v2395 : BitVec 32 := Scalar.addi v2394 c7_i32_1295
  let c1_i32_1297 : BitVec 32 := 1#32
  let v2397 : BitVec 32 := Scalar.shrsi v2395 c1_i32_1297
  let c128_i32_1298 : BitVec 32 := 128#32
  let v2398 : BitVec 32 := Scalar.muli v2397 c128_i32_1298
  v2398
def k0_mult88 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1306 : BitVec 32 := 16#32
  let v2415 : BitVec 32 := Scalar.muli v1894 c16_i32_1306
  let c13_i32_1307 : BitVec 32 := 13#32
  let v2416 : BitVec 32 := Scalar.addi v2415 c13_i32_1307
  let c64_i32_1311 : BitVec 32 := 64#32
  let v2420 : BitVec 32 := Scalar.muli v2416 c64_i32_1311
  v2420
def k0_mult89 (k0_t1 : Fin k0_t1_loop.trips) : BitVec 32 :=
  let c120_i32_1310 : BitVec 32 := 120#32
  let c0_i32_1309 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1306 : BitVec 32 := 16#32
  let v2415 : BitVec 32 := Scalar.muli v1894 c16_i32_1306
  let c13_i32_1307 : BitVec 32 := 13#32
  let v2416 : BitVec 32 := Scalar.addi v2415 c13_i32_1307
  let c4_i32_1308 : BitVec 32 := 4#32
  let v2417 : BitVec 32 := Scalar.subi v2416 c4_i32_1308
  let v2418 : BitVec 32 := Scalar.maxsi c0_i32_1309 v2417
  let v2419 : BitVec 32 := Scalar.minsi c120_i32_1310 v2418
  let c64_i32_1315 : BitVec 32 := 64#32
  let v2429 : BitVec 32 := Scalar.muli v2419 c64_i32_1315
  v2429
def k0_mult90 (k0_t1 : Fin k0_t1_loop.trips) : BitVec 32 :=
  let c120_i32_1310 : BitVec 32 := 120#32
  let c0_i32_1309 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1306 : BitVec 32 := 16#32
  let v2415 : BitVec 32 := Scalar.muli v1894 c16_i32_1306
  let c13_i32_1307 : BitVec 32 := 13#32
  let v2416 : BitVec 32 := Scalar.addi v2415 c13_i32_1307
  let c4_i32_1308 : BitVec 32 := 4#32
  let v2417 : BitVec 32 := Scalar.subi v2416 c4_i32_1308
  let v2418 : BitVec 32 := Scalar.maxsi c0_i32_1309 v2417
  let v2419 : BitVec 32 := Scalar.minsi c120_i32_1310 v2418
  let v2434 : BitVec 32 := Scalar.subi v2419 v2416
  let c7_i32_1318 : BitVec 32 := 7#32
  let v2435 : BitVec 32 := Scalar.addi v2434 c7_i32_1318
  let c1_i32_1320 : BitVec 32 := 1#32
  let v2437 : BitVec 32 := Scalar.shrsi v2435 c1_i32_1320
  let c128_i32_1321 : BitVec 32 := 128#32
  let v2438 : BitVec 32 := Scalar.muli v2437 c128_i32_1321
  v2438
def k0_mult91 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1329 : BitVec 32 := 16#32
  let v2455 : BitVec 32 := Scalar.muli v1894 c16_i32_1329
  let c14_i32_1330 : BitVec 32 := 14#32
  let v2456 : BitVec 32 := Scalar.addi v2455 c14_i32_1330
  let c64_i32_1334 : BitVec 32 := 64#32
  let v2460 : BitVec 32 := Scalar.muli v2456 c64_i32_1334
  v2460
def k0_mult92 (k0_t1 : Fin k0_t1_loop.trips) : BitVec 32 :=
  let c120_i32_1333 : BitVec 32 := 120#32
  let c0_i32_1332 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1329 : BitVec 32 := 16#32
  let v2455 : BitVec 32 := Scalar.muli v1894 c16_i32_1329
  let c14_i32_1330 : BitVec 32 := 14#32
  let v2456 : BitVec 32 := Scalar.addi v2455 c14_i32_1330
  let c4_i32_1331 : BitVec 32 := 4#32
  let v2457 : BitVec 32 := Scalar.subi v2456 c4_i32_1331
  let v2458 : BitVec 32 := Scalar.maxsi c0_i32_1332 v2457
  let v2459 : BitVec 32 := Scalar.minsi c120_i32_1333 v2458
  let c64_i32_1338 : BitVec 32 := 64#32
  let v2469 : BitVec 32 := Scalar.muli v2459 c64_i32_1338
  v2469
def k0_mult93 (k0_t1 : Fin k0_t1_loop.trips) : BitVec 32 :=
  let c120_i32_1333 : BitVec 32 := 120#32
  let c0_i32_1332 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1329 : BitVec 32 := 16#32
  let v2455 : BitVec 32 := Scalar.muli v1894 c16_i32_1329
  let c14_i32_1330 : BitVec 32 := 14#32
  let v2456 : BitVec 32 := Scalar.addi v2455 c14_i32_1330
  let c4_i32_1331 : BitVec 32 := 4#32
  let v2457 : BitVec 32 := Scalar.subi v2456 c4_i32_1331
  let v2458 : BitVec 32 := Scalar.maxsi c0_i32_1332 v2457
  let v2459 : BitVec 32 := Scalar.minsi c120_i32_1333 v2458
  let v2474 : BitVec 32 := Scalar.subi v2459 v2456
  let c7_i32_1341 : BitVec 32 := 7#32
  let v2475 : BitVec 32 := Scalar.addi v2474 c7_i32_1341
  let c1_i32_1343 : BitVec 32 := 1#32
  let v2477 : BitVec 32 := Scalar.shrsi v2475 c1_i32_1343
  let c128_i32_1344 : BitVec 32 := 128#32
  let v2478 : BitVec 32 := Scalar.muli v2477 c128_i32_1344
  v2478
def k0_mult94 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1352 : BitVec 32 := 16#32
  let v2495 : BitVec 32 := Scalar.muli v1894 c16_i32_1352
  let c15_i32_1353 : BitVec 32 := 15#32
  let v2496 : BitVec 32 := Scalar.addi v2495 c15_i32_1353
  let c64_i32_1357 : BitVec 32 := 64#32
  let v2500 : BitVec 32 := Scalar.muli v2496 c64_i32_1357
  v2500
def k0_mult95 (k0_t1 : Fin k0_t1_loop.trips) : BitVec 32 :=
  let c120_i32_1356 : BitVec 32 := 120#32
  let c0_i32_1355 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1352 : BitVec 32 := 16#32
  let v2495 : BitVec 32 := Scalar.muli v1894 c16_i32_1352
  let c15_i32_1353 : BitVec 32 := 15#32
  let v2496 : BitVec 32 := Scalar.addi v2495 c15_i32_1353
  let c4_i32_1354 : BitVec 32 := 4#32
  let v2497 : BitVec 32 := Scalar.subi v2496 c4_i32_1354
  let v2498 : BitVec 32 := Scalar.maxsi c0_i32_1355 v2497
  let v2499 : BitVec 32 := Scalar.minsi c120_i32_1356 v2498
  let c64_i32_1361 : BitVec 32 := 64#32
  let v2509 : BitVec 32 := Scalar.muli v2499 c64_i32_1361
  v2509
def k0_mult96 (k0_t1 : Fin k0_t1_loop.trips) : BitVec 32 :=
  let c120_i32_1356 : BitVec 32 := 120#32
  let c0_i32_1355 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1007 : BitVec 32 := 1#32
  let v1894 : BitVec 32 := Scalar.addi v1893 c1_i32_1007
  let c16_i32_1352 : BitVec 32 := 16#32
  let v2495 : BitVec 32 := Scalar.muli v1894 c16_i32_1352
  let c15_i32_1353 : BitVec 32 := 15#32
  let v2496 : BitVec 32 := Scalar.addi v2495 c15_i32_1353
  let c4_i32_1354 : BitVec 32 := 4#32
  let v2497 : BitVec 32 := Scalar.subi v2496 c4_i32_1354
  let v2498 : BitVec 32 := Scalar.maxsi c0_i32_1355 v2497
  let v2499 : BitVec 32 := Scalar.minsi c120_i32_1356 v2498
  let v2514 : BitVec 32 := Scalar.subi v2499 v2496
  let c7_i32_1364 : BitVec 32 := 7#32
  let v2515 : BitVec 32 := Scalar.addi v2514 c7_i32_1364
  let c1_i32_1366 : BitVec 32 := 1#32
  let v2517 : BitVec 32 := Scalar.shrsi v2515 c1_i32_1366
  let c128_i32_1367 : BitVec 32 := 128#32
  let v2518 : BitVec 32 := Scalar.muli v2517 c128_i32_1367
  v2518
def k0_mult97 (k0_t1 : Fin k0_t1_loop.trips) : BitVec 32 :=
  let c120_i32_1379 : BitVec 32 := 120#32
  let c0_i32_1378 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1375 : BitVec 32 := 16#32
  let v2535 : BitVec 32 := Scalar.muli v1893 c16_i32_1375
  let c0_i32_1376 : BitVec 32 := 0#32
  let v2536 : BitVec 32 := Scalar.addi v2535 c0_i32_1376
  let c4_i32_1377 : BitVec 32 := 4#32
  let v2537 : BitVec 32 := Scalar.subi v2536 c4_i32_1377
  let v2538 : BitVec 32 := Scalar.maxsi c0_i32_1378 v2537
  let v2539 : BitVec 32 := Scalar.minsi c120_i32_1379 v2538
  let c64_i32_1380 : BitVec 32 := 64#32
  let v2540 : BitVec 32 := Scalar.muli v2539 c64_i32_1380
  v2540
def k0_off6 (k0_t1 : Fin k0_t1_loop.trips) (c0_i32_1376 : BitVec 32) : Fin 3 → Nat :=
  let c0_1381 : Index := 0#32
  let c120_i32_1379 : BitVec 32 := 120#32
  let c0_i32_1378 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1375 : BitVec 32 := 16#32
  let v2535 : BitVec 32 := Scalar.muli v1893 c16_i32_1375
  let v2536 : BitVec 32 := Scalar.addi v2535 c0_i32_1376
  let c4_i32_1377 : BitVec 32 := 4#32
  let v2537 : BitVec 32 := Scalar.subi v2536 c4_i32_1377
  let v2538 : BitVec 32 := Scalar.maxsi c0_i32_1378 v2537
  let v2539 : BitVec 32 := Scalar.minsi c120_i32_1379 v2538
  let c64_i32_1380 : BitVec 32 := 64#32
  let v2540 : BitVec 32 := Scalar.muli v2539 c64_i32_1380
  let v2541 : BitVec 32 := v2540
  let v2542 : Index := Scalar.indexCast v2541
  let c0_1382 : Index := 0#32
  ![0, v2542.toNat, 0]
def k0_mult98 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1375 : BitVec 32 := 16#32
  let v2535 : BitVec 32 := Scalar.muli v1893 c16_i32_1375
  let c0_i32_1376 : BitVec 32 := 0#32
  let v2536 : BitVec 32 := Scalar.addi v2535 c0_i32_1376
  let c64_i32_1387 : BitVec 32 := 64#32
  let v2556 : BitVec 32 := Scalar.muli v2536 c64_i32_1387
  v2556
def k0_off7 (k0_t1 : Fin k0_t1_loop.trips) (c0_i32_1376 : BitVec 32) : Fin 3 → Nat :=
  let c0_1388 : Index := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1375 : BitVec 32 := 16#32
  let v2535 : BitVec 32 := Scalar.muli v1893 c16_i32_1375
  let v2536 : BitVec 32 := Scalar.addi v2535 c0_i32_1376
  let c64_i32_1387 : BitVec 32 := 64#32
  let v2556 : BitVec 32 := Scalar.muli v2536 c64_i32_1387
  let v2557 : BitVec 32 := v2556
  let v2558 : Index := Scalar.indexCast v2557
  let c0_1389 : Index := 0#32
  ![0, v2558.toNat, 0]
def k0_mult99 (k0_t1 : Fin k0_t1_loop.trips) : BitVec 32 :=
  let c120_i32_1394 : BitVec 32 := 120#32
  let c0_i32_1393 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1390 : BitVec 32 := 16#32
  let v2562 : BitVec 32 := Scalar.muli v1893 c16_i32_1390
  let c1_i32_1391 : BitVec 32 := 1#32
  let v2563 : BitVec 32 := Scalar.addi v2562 c1_i32_1391
  let c4_i32_1392 : BitVec 32 := 4#32
  let v2564 : BitVec 32 := Scalar.subi v2563 c4_i32_1392
  let v2565 : BitVec 32 := Scalar.maxsi c0_i32_1393 v2564
  let v2566 : BitVec 32 := Scalar.minsi c120_i32_1394 v2565
  let c64_i32_1395 : BitVec 32 := 64#32
  let v2567 : BitVec 32 := Scalar.muli v2566 c64_i32_1395
  v2567
def k0_mult100 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1390 : BitVec 32 := 16#32
  let v2562 : BitVec 32 := Scalar.muli v1893 c16_i32_1390
  let c1_i32_1391 : BitVec 32 := 1#32
  let v2563 : BitVec 32 := Scalar.addi v2562 c1_i32_1391
  let c64_i32_1402 : BitVec 32 := 64#32
  let v2583 : BitVec 32 := Scalar.muli v2563 c64_i32_1402
  v2583
def k0_mult101 (k0_t1 : Fin k0_t1_loop.trips) : BitVec 32 :=
  let c120_i32_1409 : BitVec 32 := 120#32
  let c0_i32_1408 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1405 : BitVec 32 := 16#32
  let v2589 : BitVec 32 := Scalar.muli v1893 c16_i32_1405
  let c2_i32_1406 : BitVec 32 := 2#32
  let v2590 : BitVec 32 := Scalar.addi v2589 c2_i32_1406
  let c4_i32_1407 : BitVec 32 := 4#32
  let v2591 : BitVec 32 := Scalar.subi v2590 c4_i32_1407
  let v2592 : BitVec 32 := Scalar.maxsi c0_i32_1408 v2591
  let v2593 : BitVec 32 := Scalar.minsi c120_i32_1409 v2592
  let c64_i32_1410 : BitVec 32 := 64#32
  let v2594 : BitVec 32 := Scalar.muli v2593 c64_i32_1410
  v2594
def k0_mult102 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1405 : BitVec 32 := 16#32
  let v2589 : BitVec 32 := Scalar.muli v1893 c16_i32_1405
  let c2_i32_1406 : BitVec 32 := 2#32
  let v2590 : BitVec 32 := Scalar.addi v2589 c2_i32_1406
  let c64_i32_1417 : BitVec 32 := 64#32
  let v2610 : BitVec 32 := Scalar.muli v2590 c64_i32_1417
  v2610
def k0_mult103 (k0_t1 : Fin k0_t1_loop.trips) : BitVec 32 :=
  let c120_i32_1424 : BitVec 32 := 120#32
  let c0_i32_1423 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1420 : BitVec 32 := 16#32
  let v2616 : BitVec 32 := Scalar.muli v1893 c16_i32_1420
  let c3_i32_1421 : BitVec 32 := 3#32
  let v2617 : BitVec 32 := Scalar.addi v2616 c3_i32_1421
  let c4_i32_1422 : BitVec 32 := 4#32
  let v2618 : BitVec 32 := Scalar.subi v2617 c4_i32_1422
  let v2619 : BitVec 32 := Scalar.maxsi c0_i32_1423 v2618
  let v2620 : BitVec 32 := Scalar.minsi c120_i32_1424 v2619
  let c64_i32_1425 : BitVec 32 := 64#32
  let v2621 : BitVec 32 := Scalar.muli v2620 c64_i32_1425
  v2621
def k0_mult104 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1420 : BitVec 32 := 16#32
  let v2616 : BitVec 32 := Scalar.muli v1893 c16_i32_1420
  let c3_i32_1421 : BitVec 32 := 3#32
  let v2617 : BitVec 32 := Scalar.addi v2616 c3_i32_1421
  let c64_i32_1432 : BitVec 32 := 64#32
  let v2637 : BitVec 32 := Scalar.muli v2617 c64_i32_1432
  v2637
def k0_mult105 (k0_t1 : Fin k0_t1_loop.trips) : BitVec 32 :=
  let c120_i32_1439 : BitVec 32 := 120#32
  let c0_i32_1438 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1435 : BitVec 32 := 16#32
  let v2643 : BitVec 32 := Scalar.muli v1893 c16_i32_1435
  let c4_i32_1436 : BitVec 32 := 4#32
  let v2644 : BitVec 32 := Scalar.addi v2643 c4_i32_1436
  let c4_i32_1437 : BitVec 32 := 4#32
  let v2645 : BitVec 32 := Scalar.subi v2644 c4_i32_1437
  let v2646 : BitVec 32 := Scalar.maxsi c0_i32_1438 v2645
  let v2647 : BitVec 32 := Scalar.minsi c120_i32_1439 v2646
  let c64_i32_1440 : BitVec 32 := 64#32
  let v2648 : BitVec 32 := Scalar.muli v2647 c64_i32_1440
  v2648
def k0_mult106 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1435 : BitVec 32 := 16#32
  let v2643 : BitVec 32 := Scalar.muli v1893 c16_i32_1435
  let c4_i32_1436 : BitVec 32 := 4#32
  let v2644 : BitVec 32 := Scalar.addi v2643 c4_i32_1436
  let c64_i32_1447 : BitVec 32 := 64#32
  let v2664 : BitVec 32 := Scalar.muli v2644 c64_i32_1447
  v2664
def k0_mult107 (k0_t1 : Fin k0_t1_loop.trips) : BitVec 32 :=
  let c120_i32_1454 : BitVec 32 := 120#32
  let c0_i32_1453 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1450 : BitVec 32 := 16#32
  let v2670 : BitVec 32 := Scalar.muli v1893 c16_i32_1450
  let c5_i32_1451 : BitVec 32 := 5#32
  let v2671 : BitVec 32 := Scalar.addi v2670 c5_i32_1451
  let c4_i32_1452 : BitVec 32 := 4#32
  let v2672 : BitVec 32 := Scalar.subi v2671 c4_i32_1452
  let v2673 : BitVec 32 := Scalar.maxsi c0_i32_1453 v2672
  let v2674 : BitVec 32 := Scalar.minsi c120_i32_1454 v2673
  let c64_i32_1455 : BitVec 32 := 64#32
  let v2675 : BitVec 32 := Scalar.muli v2674 c64_i32_1455
  v2675
def k0_mult108 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1450 : BitVec 32 := 16#32
  let v2670 : BitVec 32 := Scalar.muli v1893 c16_i32_1450
  let c5_i32_1451 : BitVec 32 := 5#32
  let v2671 : BitVec 32 := Scalar.addi v2670 c5_i32_1451
  let c64_i32_1462 : BitVec 32 := 64#32
  let v2691 : BitVec 32 := Scalar.muli v2671 c64_i32_1462
  v2691
def k0_mult109 (k0_t1 : Fin k0_t1_loop.trips) : BitVec 32 :=
  let c120_i32_1469 : BitVec 32 := 120#32
  let c0_i32_1468 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1465 : BitVec 32 := 16#32
  let v2697 : BitVec 32 := Scalar.muli v1893 c16_i32_1465
  let c6_i32_1466 : BitVec 32 := 6#32
  let v2698 : BitVec 32 := Scalar.addi v2697 c6_i32_1466
  let c4_i32_1467 : BitVec 32 := 4#32
  let v2699 : BitVec 32 := Scalar.subi v2698 c4_i32_1467
  let v2700 : BitVec 32 := Scalar.maxsi c0_i32_1468 v2699
  let v2701 : BitVec 32 := Scalar.minsi c120_i32_1469 v2700
  let c64_i32_1470 : BitVec 32 := 64#32
  let v2702 : BitVec 32 := Scalar.muli v2701 c64_i32_1470
  v2702
def k0_mult110 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1465 : BitVec 32 := 16#32
  let v2697 : BitVec 32 := Scalar.muli v1893 c16_i32_1465
  let c6_i32_1466 : BitVec 32 := 6#32
  let v2698 : BitVec 32 := Scalar.addi v2697 c6_i32_1466
  let c64_i32_1477 : BitVec 32 := 64#32
  let v2718 : BitVec 32 := Scalar.muli v2698 c64_i32_1477
  v2718
def k0_mult111 (k0_t1 : Fin k0_t1_loop.trips) : BitVec 32 :=
  let c120_i32_1484 : BitVec 32 := 120#32
  let c0_i32_1483 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1480 : BitVec 32 := 16#32
  let v2724 : BitVec 32 := Scalar.muli v1893 c16_i32_1480
  let c7_i32_1481 : BitVec 32 := 7#32
  let v2725 : BitVec 32 := Scalar.addi v2724 c7_i32_1481
  let c4_i32_1482 : BitVec 32 := 4#32
  let v2726 : BitVec 32 := Scalar.subi v2725 c4_i32_1482
  let v2727 : BitVec 32 := Scalar.maxsi c0_i32_1483 v2726
  let v2728 : BitVec 32 := Scalar.minsi c120_i32_1484 v2727
  let c64_i32_1485 : BitVec 32 := 64#32
  let v2729 : BitVec 32 := Scalar.muli v2728 c64_i32_1485
  v2729
def k0_mult112 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1480 : BitVec 32 := 16#32
  let v2724 : BitVec 32 := Scalar.muli v1893 c16_i32_1480
  let c7_i32_1481 : BitVec 32 := 7#32
  let v2725 : BitVec 32 := Scalar.addi v2724 c7_i32_1481
  let c64_i32_1492 : BitVec 32 := 64#32
  let v2745 : BitVec 32 := Scalar.muli v2725 c64_i32_1492
  v2745
def k0_mult113 (k0_t1 : Fin k0_t1_loop.trips) : BitVec 32 :=
  let c120_i32_1499 : BitVec 32 := 120#32
  let c0_i32_1498 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1495 : BitVec 32 := 16#32
  let v2751 : BitVec 32 := Scalar.muli v1893 c16_i32_1495
  let c8_i32_1496 : BitVec 32 := 8#32
  let v2752 : BitVec 32 := Scalar.addi v2751 c8_i32_1496
  let c4_i32_1497 : BitVec 32 := 4#32
  let v2753 : BitVec 32 := Scalar.subi v2752 c4_i32_1497
  let v2754 : BitVec 32 := Scalar.maxsi c0_i32_1498 v2753
  let v2755 : BitVec 32 := Scalar.minsi c120_i32_1499 v2754
  let c64_i32_1500 : BitVec 32 := 64#32
  let v2756 : BitVec 32 := Scalar.muli v2755 c64_i32_1500
  v2756
def k0_mult114 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1495 : BitVec 32 := 16#32
  let v2751 : BitVec 32 := Scalar.muli v1893 c16_i32_1495
  let c8_i32_1496 : BitVec 32 := 8#32
  let v2752 : BitVec 32 := Scalar.addi v2751 c8_i32_1496
  let c64_i32_1507 : BitVec 32 := 64#32
  let v2772 : BitVec 32 := Scalar.muli v2752 c64_i32_1507
  v2772
def k0_mult115 (k0_t1 : Fin k0_t1_loop.trips) : BitVec 32 :=
  let c120_i32_1514 : BitVec 32 := 120#32
  let c0_i32_1513 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1510 : BitVec 32 := 16#32
  let v2778 : BitVec 32 := Scalar.muli v1893 c16_i32_1510
  let c9_i32_1511 : BitVec 32 := 9#32
  let v2779 : BitVec 32 := Scalar.addi v2778 c9_i32_1511
  let c4_i32_1512 : BitVec 32 := 4#32
  let v2780 : BitVec 32 := Scalar.subi v2779 c4_i32_1512
  let v2781 : BitVec 32 := Scalar.maxsi c0_i32_1513 v2780
  let v2782 : BitVec 32 := Scalar.minsi c120_i32_1514 v2781
  let c64_i32_1515 : BitVec 32 := 64#32
  let v2783 : BitVec 32 := Scalar.muli v2782 c64_i32_1515
  v2783
def k0_mult116 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1510 : BitVec 32 := 16#32
  let v2778 : BitVec 32 := Scalar.muli v1893 c16_i32_1510
  let c9_i32_1511 : BitVec 32 := 9#32
  let v2779 : BitVec 32 := Scalar.addi v2778 c9_i32_1511
  let c64_i32_1522 : BitVec 32 := 64#32
  let v2799 : BitVec 32 := Scalar.muli v2779 c64_i32_1522
  v2799
def k0_mult117 (k0_t1 : Fin k0_t1_loop.trips) : BitVec 32 :=
  let c120_i32_1529 : BitVec 32 := 120#32
  let c0_i32_1528 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1525 : BitVec 32 := 16#32
  let v2805 : BitVec 32 := Scalar.muli v1893 c16_i32_1525
  let c10_i32_1526 : BitVec 32 := 10#32
  let v2806 : BitVec 32 := Scalar.addi v2805 c10_i32_1526
  let c4_i32_1527 : BitVec 32 := 4#32
  let v2807 : BitVec 32 := Scalar.subi v2806 c4_i32_1527
  let v2808 : BitVec 32 := Scalar.maxsi c0_i32_1528 v2807
  let v2809 : BitVec 32 := Scalar.minsi c120_i32_1529 v2808
  let c64_i32_1530 : BitVec 32 := 64#32
  let v2810 : BitVec 32 := Scalar.muli v2809 c64_i32_1530
  v2810
def k0_mult118 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1525 : BitVec 32 := 16#32
  let v2805 : BitVec 32 := Scalar.muli v1893 c16_i32_1525
  let c10_i32_1526 : BitVec 32 := 10#32
  let v2806 : BitVec 32 := Scalar.addi v2805 c10_i32_1526
  let c64_i32_1537 : BitVec 32 := 64#32
  let v2826 : BitVec 32 := Scalar.muli v2806 c64_i32_1537
  v2826
def k0_mult119 (k0_t1 : Fin k0_t1_loop.trips) : BitVec 32 :=
  let c120_i32_1544 : BitVec 32 := 120#32
  let c0_i32_1543 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1540 : BitVec 32 := 16#32
  let v2832 : BitVec 32 := Scalar.muli v1893 c16_i32_1540
  let c11_i32_1541 : BitVec 32 := 11#32
  let v2833 : BitVec 32 := Scalar.addi v2832 c11_i32_1541
  let c4_i32_1542 : BitVec 32 := 4#32
  let v2834 : BitVec 32 := Scalar.subi v2833 c4_i32_1542
  let v2835 : BitVec 32 := Scalar.maxsi c0_i32_1543 v2834
  let v2836 : BitVec 32 := Scalar.minsi c120_i32_1544 v2835
  let c64_i32_1545 : BitVec 32 := 64#32
  let v2837 : BitVec 32 := Scalar.muli v2836 c64_i32_1545
  v2837
def k0_mult120 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1540 : BitVec 32 := 16#32
  let v2832 : BitVec 32 := Scalar.muli v1893 c16_i32_1540
  let c11_i32_1541 : BitVec 32 := 11#32
  let v2833 : BitVec 32 := Scalar.addi v2832 c11_i32_1541
  let c64_i32_1552 : BitVec 32 := 64#32
  let v2853 : BitVec 32 := Scalar.muli v2833 c64_i32_1552
  v2853
def k0_mult121 (k0_t1 : Fin k0_t1_loop.trips) : BitVec 32 :=
  let c120_i32_1559 : BitVec 32 := 120#32
  let c0_i32_1558 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1555 : BitVec 32 := 16#32
  let v2859 : BitVec 32 := Scalar.muli v1893 c16_i32_1555
  let c12_i32_1556 : BitVec 32 := 12#32
  let v2860 : BitVec 32 := Scalar.addi v2859 c12_i32_1556
  let c4_i32_1557 : BitVec 32 := 4#32
  let v2861 : BitVec 32 := Scalar.subi v2860 c4_i32_1557
  let v2862 : BitVec 32 := Scalar.maxsi c0_i32_1558 v2861
  let v2863 : BitVec 32 := Scalar.minsi c120_i32_1559 v2862
  let c64_i32_1560 : BitVec 32 := 64#32
  let v2864 : BitVec 32 := Scalar.muli v2863 c64_i32_1560
  v2864
def k0_mult122 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1555 : BitVec 32 := 16#32
  let v2859 : BitVec 32 := Scalar.muli v1893 c16_i32_1555
  let c12_i32_1556 : BitVec 32 := 12#32
  let v2860 : BitVec 32 := Scalar.addi v2859 c12_i32_1556
  let c64_i32_1567 : BitVec 32 := 64#32
  let v2880 : BitVec 32 := Scalar.muli v2860 c64_i32_1567
  v2880
def k0_mult123 (k0_t1 : Fin k0_t1_loop.trips) : BitVec 32 :=
  let c120_i32_1574 : BitVec 32 := 120#32
  let c0_i32_1573 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1570 : BitVec 32 := 16#32
  let v2886 : BitVec 32 := Scalar.muli v1893 c16_i32_1570
  let c13_i32_1571 : BitVec 32 := 13#32
  let v2887 : BitVec 32 := Scalar.addi v2886 c13_i32_1571
  let c4_i32_1572 : BitVec 32 := 4#32
  let v2888 : BitVec 32 := Scalar.subi v2887 c4_i32_1572
  let v2889 : BitVec 32 := Scalar.maxsi c0_i32_1573 v2888
  let v2890 : BitVec 32 := Scalar.minsi c120_i32_1574 v2889
  let c64_i32_1575 : BitVec 32 := 64#32
  let v2891 : BitVec 32 := Scalar.muli v2890 c64_i32_1575
  v2891
def k0_mult124 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1570 : BitVec 32 := 16#32
  let v2886 : BitVec 32 := Scalar.muli v1893 c16_i32_1570
  let c13_i32_1571 : BitVec 32 := 13#32
  let v2887 : BitVec 32 := Scalar.addi v2886 c13_i32_1571
  let c64_i32_1582 : BitVec 32 := 64#32
  let v2907 : BitVec 32 := Scalar.muli v2887 c64_i32_1582
  v2907
def k0_mult125 (k0_t1 : Fin k0_t1_loop.trips) : BitVec 32 :=
  let c120_i32_1589 : BitVec 32 := 120#32
  let c0_i32_1588 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1585 : BitVec 32 := 16#32
  let v2913 : BitVec 32 := Scalar.muli v1893 c16_i32_1585
  let c14_i32_1586 : BitVec 32 := 14#32
  let v2914 : BitVec 32 := Scalar.addi v2913 c14_i32_1586
  let c4_i32_1587 : BitVec 32 := 4#32
  let v2915 : BitVec 32 := Scalar.subi v2914 c4_i32_1587
  let v2916 : BitVec 32 := Scalar.maxsi c0_i32_1588 v2915
  let v2917 : BitVec 32 := Scalar.minsi c120_i32_1589 v2916
  let c64_i32_1590 : BitVec 32 := 64#32
  let v2918 : BitVec 32 := Scalar.muli v2917 c64_i32_1590
  v2918
def k0_mult126 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1585 : BitVec 32 := 16#32
  let v2913 : BitVec 32 := Scalar.muli v1893 c16_i32_1585
  let c14_i32_1586 : BitVec 32 := 14#32
  let v2914 : BitVec 32 := Scalar.addi v2913 c14_i32_1586
  let c64_i32_1597 : BitVec 32 := 64#32
  let v2934 : BitVec 32 := Scalar.muli v2914 c64_i32_1597
  v2934
def k0_mult127 (k0_t1 : Fin k0_t1_loop.trips) : BitVec 32 :=
  let c120_i32_1604 : BitVec 32 := 120#32
  let c0_i32_1603 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1600 : BitVec 32 := 16#32
  let v2940 : BitVec 32 := Scalar.muli v1893 c16_i32_1600
  let c15_i32_1601 : BitVec 32 := 15#32
  let v2941 : BitVec 32 := Scalar.addi v2940 c15_i32_1601
  let c4_i32_1602 : BitVec 32 := 4#32
  let v2942 : BitVec 32 := Scalar.subi v2941 c4_i32_1602
  let v2943 : BitVec 32 := Scalar.maxsi c0_i32_1603 v2942
  let v2944 : BitVec 32 := Scalar.minsi c120_i32_1604 v2943
  let c64_i32_1605 : BitVec 32 := 64#32
  let v2945 : BitVec 32 := Scalar.muli v2944 c64_i32_1605
  v2945
def k0_mult128 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c16_i32_1600 : BitVec 32 := 16#32
  let v2940 : BitVec 32 := Scalar.muli v1893 c16_i32_1600
  let c15_i32_1601 : BitVec 32 := 15#32
  let v2941 : BitVec 32 := Scalar.addi v2940 c15_i32_1601
  let c64_i32_1612 : BitVec 32 := 64#32
  let v2961 : BitVec 32 := Scalar.muli v2941 c64_i32_1612
  v2961
def k0_mult129 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1616 : BitVec 32 := 16#32
  let v2968 : BitVec 32 := Scalar.muli v2967 c16_i32_1616
  let c0_i32_1617 : BitVec 32 := 0#32
  let v2969 : BitVec 32 := Scalar.addi v2968 c0_i32_1617
  let c64_i32_1621 : BitVec 32 := 64#32
  let v2973 : BitVec 32 := Scalar.muli v2969 c64_i32_1621
  v2973
def k0_mult130 (k0_t1 : Fin k0_t1_loop.trips) : BitVec 32 :=
  let c120_i32_1620 : BitVec 32 := 120#32
  let c0_i32_1619 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1616 : BitVec 32 := 16#32
  let v2968 : BitVec 32 := Scalar.muli v2967 c16_i32_1616
  let c0_i32_1617 : BitVec 32 := 0#32
  let v2969 : BitVec 32 := Scalar.addi v2968 c0_i32_1617
  let c4_i32_1618 : BitVec 32 := 4#32
  let v2970 : BitVec 32 := Scalar.subi v2969 c4_i32_1618
  let v2971 : BitVec 32 := Scalar.maxsi c0_i32_1619 v2970
  let v2972 : BitVec 32 := Scalar.minsi c120_i32_1620 v2971
  let c64_i32_1625 : BitVec 32 := 64#32
  let v2982 : BitVec 32 := Scalar.muli v2972 c64_i32_1625
  v2982
def k0_mult131 (k0_t1 : Fin k0_t1_loop.trips) : BitVec 32 :=
  let c120_i32_1620 : BitVec 32 := 120#32
  let c0_i32_1619 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1616 : BitVec 32 := 16#32
  let v2968 : BitVec 32 := Scalar.muli v2967 c16_i32_1616
  let c0_i32_1617 : BitVec 32 := 0#32
  let v2969 : BitVec 32 := Scalar.addi v2968 c0_i32_1617
  let c4_i32_1618 : BitVec 32 := 4#32
  let v2970 : BitVec 32 := Scalar.subi v2969 c4_i32_1618
  let v2971 : BitVec 32 := Scalar.maxsi c0_i32_1619 v2970
  let v2972 : BitVec 32 := Scalar.minsi c120_i32_1620 v2971
  let v2987 : BitVec 32 := Scalar.subi v2972 v2969
  let c7_i32_1628 : BitVec 32 := 7#32
  let v2988 : BitVec 32 := Scalar.addi v2987 c7_i32_1628
  let c1_i32_1630 : BitVec 32 := 1#32
  let v2990 : BitVec 32 := Scalar.shrsi v2988 c1_i32_1630
  let c128_i32_1631 : BitVec 32 := 128#32
  let v2991 : BitVec 32 := Scalar.muli v2990 c128_i32_1631
  v2991
def k0_mult132 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1639 : BitVec 32 := 16#32
  let v3008 : BitVec 32 := Scalar.muli v2967 c16_i32_1639
  let c1_i32_1640 : BitVec 32 := 1#32
  let v3009 : BitVec 32 := Scalar.addi v3008 c1_i32_1640
  let c64_i32_1644 : BitVec 32 := 64#32
  let v3013 : BitVec 32 := Scalar.muli v3009 c64_i32_1644
  v3013
def k0_mult133 (k0_t1 : Fin k0_t1_loop.trips) : BitVec 32 :=
  let c120_i32_1643 : BitVec 32 := 120#32
  let c0_i32_1642 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1639 : BitVec 32 := 16#32
  let v3008 : BitVec 32 := Scalar.muli v2967 c16_i32_1639
  let c1_i32_1640 : BitVec 32 := 1#32
  let v3009 : BitVec 32 := Scalar.addi v3008 c1_i32_1640
  let c4_i32_1641 : BitVec 32 := 4#32
  let v3010 : BitVec 32 := Scalar.subi v3009 c4_i32_1641
  let v3011 : BitVec 32 := Scalar.maxsi c0_i32_1642 v3010
  let v3012 : BitVec 32 := Scalar.minsi c120_i32_1643 v3011
  let c64_i32_1648 : BitVec 32 := 64#32
  let v3022 : BitVec 32 := Scalar.muli v3012 c64_i32_1648
  v3022
def k0_mult134 (k0_t1 : Fin k0_t1_loop.trips) : BitVec 32 :=
  let c120_i32_1643 : BitVec 32 := 120#32
  let c0_i32_1642 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1639 : BitVec 32 := 16#32
  let v3008 : BitVec 32 := Scalar.muli v2967 c16_i32_1639
  let c1_i32_1640 : BitVec 32 := 1#32
  let v3009 : BitVec 32 := Scalar.addi v3008 c1_i32_1640
  let c4_i32_1641 : BitVec 32 := 4#32
  let v3010 : BitVec 32 := Scalar.subi v3009 c4_i32_1641
  let v3011 : BitVec 32 := Scalar.maxsi c0_i32_1642 v3010
  let v3012 : BitVec 32 := Scalar.minsi c120_i32_1643 v3011
  let v3027 : BitVec 32 := Scalar.subi v3012 v3009
  let c7_i32_1651 : BitVec 32 := 7#32
  let v3028 : BitVec 32 := Scalar.addi v3027 c7_i32_1651
  let c1_i32_1653 : BitVec 32 := 1#32
  let v3030 : BitVec 32 := Scalar.shrsi v3028 c1_i32_1653
  let c128_i32_1654 : BitVec 32 := 128#32
  let v3031 : BitVec 32 := Scalar.muli v3030 c128_i32_1654
  v3031
def k0_mult135 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1662 : BitVec 32 := 16#32
  let v3048 : BitVec 32 := Scalar.muli v2967 c16_i32_1662
  let c2_i32_1663 : BitVec 32 := 2#32
  let v3049 : BitVec 32 := Scalar.addi v3048 c2_i32_1663
  let c64_i32_1667 : BitVec 32 := 64#32
  let v3053 : BitVec 32 := Scalar.muli v3049 c64_i32_1667
  v3053
def k0_mult136 (k0_t1 : Fin k0_t1_loop.trips) : BitVec 32 :=
  let c120_i32_1666 : BitVec 32 := 120#32
  let c0_i32_1665 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1662 : BitVec 32 := 16#32
  let v3048 : BitVec 32 := Scalar.muli v2967 c16_i32_1662
  let c2_i32_1663 : BitVec 32 := 2#32
  let v3049 : BitVec 32 := Scalar.addi v3048 c2_i32_1663
  let c4_i32_1664 : BitVec 32 := 4#32
  let v3050 : BitVec 32 := Scalar.subi v3049 c4_i32_1664
  let v3051 : BitVec 32 := Scalar.maxsi c0_i32_1665 v3050
  let v3052 : BitVec 32 := Scalar.minsi c120_i32_1666 v3051
  let c64_i32_1671 : BitVec 32 := 64#32
  let v3062 : BitVec 32 := Scalar.muli v3052 c64_i32_1671
  v3062
def k0_mult137 (k0_t1 : Fin k0_t1_loop.trips) : BitVec 32 :=
  let c120_i32_1666 : BitVec 32 := 120#32
  let c0_i32_1665 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1662 : BitVec 32 := 16#32
  let v3048 : BitVec 32 := Scalar.muli v2967 c16_i32_1662
  let c2_i32_1663 : BitVec 32 := 2#32
  let v3049 : BitVec 32 := Scalar.addi v3048 c2_i32_1663
  let c4_i32_1664 : BitVec 32 := 4#32
  let v3050 : BitVec 32 := Scalar.subi v3049 c4_i32_1664
  let v3051 : BitVec 32 := Scalar.maxsi c0_i32_1665 v3050
  let v3052 : BitVec 32 := Scalar.minsi c120_i32_1666 v3051
  let v3067 : BitVec 32 := Scalar.subi v3052 v3049
  let c7_i32_1674 : BitVec 32 := 7#32
  let v3068 : BitVec 32 := Scalar.addi v3067 c7_i32_1674
  let c1_i32_1676 : BitVec 32 := 1#32
  let v3070 : BitVec 32 := Scalar.shrsi v3068 c1_i32_1676
  let c128_i32_1677 : BitVec 32 := 128#32
  let v3071 : BitVec 32 := Scalar.muli v3070 c128_i32_1677
  v3071
def k0_mult138 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1685 : BitVec 32 := 16#32
  let v3088 : BitVec 32 := Scalar.muli v2967 c16_i32_1685
  let c3_i32_1686 : BitVec 32 := 3#32
  let v3089 : BitVec 32 := Scalar.addi v3088 c3_i32_1686
  let c64_i32_1690 : BitVec 32 := 64#32
  let v3093 : BitVec 32 := Scalar.muli v3089 c64_i32_1690
  v3093
def k0_mult139 (k0_t1 : Fin k0_t1_loop.trips) : BitVec 32 :=
  let c120_i32_1689 : BitVec 32 := 120#32
  let c0_i32_1688 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1685 : BitVec 32 := 16#32
  let v3088 : BitVec 32 := Scalar.muli v2967 c16_i32_1685
  let c3_i32_1686 : BitVec 32 := 3#32
  let v3089 : BitVec 32 := Scalar.addi v3088 c3_i32_1686
  let c4_i32_1687 : BitVec 32 := 4#32
  let v3090 : BitVec 32 := Scalar.subi v3089 c4_i32_1687
  let v3091 : BitVec 32 := Scalar.maxsi c0_i32_1688 v3090
  let v3092 : BitVec 32 := Scalar.minsi c120_i32_1689 v3091
  let c64_i32_1694 : BitVec 32 := 64#32
  let v3102 : BitVec 32 := Scalar.muli v3092 c64_i32_1694
  v3102
def k0_mult140 (k0_t1 : Fin k0_t1_loop.trips) : BitVec 32 :=
  let c120_i32_1689 : BitVec 32 := 120#32
  let c0_i32_1688 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1685 : BitVec 32 := 16#32
  let v3088 : BitVec 32 := Scalar.muli v2967 c16_i32_1685
  let c3_i32_1686 : BitVec 32 := 3#32
  let v3089 : BitVec 32 := Scalar.addi v3088 c3_i32_1686
  let c4_i32_1687 : BitVec 32 := 4#32
  let v3090 : BitVec 32 := Scalar.subi v3089 c4_i32_1687
  let v3091 : BitVec 32 := Scalar.maxsi c0_i32_1688 v3090
  let v3092 : BitVec 32 := Scalar.minsi c120_i32_1689 v3091
  let v3107 : BitVec 32 := Scalar.subi v3092 v3089
  let c7_i32_1697 : BitVec 32 := 7#32
  let v3108 : BitVec 32 := Scalar.addi v3107 c7_i32_1697
  let c1_i32_1699 : BitVec 32 := 1#32
  let v3110 : BitVec 32 := Scalar.shrsi v3108 c1_i32_1699
  let c128_i32_1700 : BitVec 32 := 128#32
  let v3111 : BitVec 32 := Scalar.muli v3110 c128_i32_1700
  v3111
def k0_mult141 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1708 : BitVec 32 := 16#32
  let v3128 : BitVec 32 := Scalar.muli v2967 c16_i32_1708
  let c4_i32_1709 : BitVec 32 := 4#32
  let v3129 : BitVec 32 := Scalar.addi v3128 c4_i32_1709
  let c64_i32_1713 : BitVec 32 := 64#32
  let v3133 : BitVec 32 := Scalar.muli v3129 c64_i32_1713
  v3133
def k0_mult142 (k0_t1 : Fin k0_t1_loop.trips) : BitVec 32 :=
  let c120_i32_1712 : BitVec 32 := 120#32
  let c0_i32_1711 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1708 : BitVec 32 := 16#32
  let v3128 : BitVec 32 := Scalar.muli v2967 c16_i32_1708
  let c4_i32_1709 : BitVec 32 := 4#32
  let v3129 : BitVec 32 := Scalar.addi v3128 c4_i32_1709
  let c4_i32_1710 : BitVec 32 := 4#32
  let v3130 : BitVec 32 := Scalar.subi v3129 c4_i32_1710
  let v3131 : BitVec 32 := Scalar.maxsi c0_i32_1711 v3130
  let v3132 : BitVec 32 := Scalar.minsi c120_i32_1712 v3131
  let c64_i32_1717 : BitVec 32 := 64#32
  let v3142 : BitVec 32 := Scalar.muli v3132 c64_i32_1717
  v3142
def k0_mult143 (k0_t1 : Fin k0_t1_loop.trips) : BitVec 32 :=
  let c120_i32_1712 : BitVec 32 := 120#32
  let c0_i32_1711 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1708 : BitVec 32 := 16#32
  let v3128 : BitVec 32 := Scalar.muli v2967 c16_i32_1708
  let c4_i32_1709 : BitVec 32 := 4#32
  let v3129 : BitVec 32 := Scalar.addi v3128 c4_i32_1709
  let c4_i32_1710 : BitVec 32 := 4#32
  let v3130 : BitVec 32 := Scalar.subi v3129 c4_i32_1710
  let v3131 : BitVec 32 := Scalar.maxsi c0_i32_1711 v3130
  let v3132 : BitVec 32 := Scalar.minsi c120_i32_1712 v3131
  let v3147 : BitVec 32 := Scalar.subi v3132 v3129
  let c7_i32_1720 : BitVec 32 := 7#32
  let v3148 : BitVec 32 := Scalar.addi v3147 c7_i32_1720
  let c1_i32_1722 : BitVec 32 := 1#32
  let v3150 : BitVec 32 := Scalar.shrsi v3148 c1_i32_1722
  let c128_i32_1723 : BitVec 32 := 128#32
  let v3151 : BitVec 32 := Scalar.muli v3150 c128_i32_1723
  v3151
def k0_mult144 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1731 : BitVec 32 := 16#32
  let v3168 : BitVec 32 := Scalar.muli v2967 c16_i32_1731
  let c5_i32_1732 : BitVec 32 := 5#32
  let v3169 : BitVec 32 := Scalar.addi v3168 c5_i32_1732
  let c64_i32_1736 : BitVec 32 := 64#32
  let v3173 : BitVec 32 := Scalar.muli v3169 c64_i32_1736
  v3173
def k0_mult145 (k0_t1 : Fin k0_t1_loop.trips) : BitVec 32 :=
  let c120_i32_1735 : BitVec 32 := 120#32
  let c0_i32_1734 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1731 : BitVec 32 := 16#32
  let v3168 : BitVec 32 := Scalar.muli v2967 c16_i32_1731
  let c5_i32_1732 : BitVec 32 := 5#32
  let v3169 : BitVec 32 := Scalar.addi v3168 c5_i32_1732
  let c4_i32_1733 : BitVec 32 := 4#32
  let v3170 : BitVec 32 := Scalar.subi v3169 c4_i32_1733
  let v3171 : BitVec 32 := Scalar.maxsi c0_i32_1734 v3170
  let v3172 : BitVec 32 := Scalar.minsi c120_i32_1735 v3171
  let c64_i32_1740 : BitVec 32 := 64#32
  let v3182 : BitVec 32 := Scalar.muli v3172 c64_i32_1740
  v3182
def k0_mult146 (k0_t1 : Fin k0_t1_loop.trips) : BitVec 32 :=
  let c120_i32_1735 : BitVec 32 := 120#32
  let c0_i32_1734 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1731 : BitVec 32 := 16#32
  let v3168 : BitVec 32 := Scalar.muli v2967 c16_i32_1731
  let c5_i32_1732 : BitVec 32 := 5#32
  let v3169 : BitVec 32 := Scalar.addi v3168 c5_i32_1732
  let c4_i32_1733 : BitVec 32 := 4#32
  let v3170 : BitVec 32 := Scalar.subi v3169 c4_i32_1733
  let v3171 : BitVec 32 := Scalar.maxsi c0_i32_1734 v3170
  let v3172 : BitVec 32 := Scalar.minsi c120_i32_1735 v3171
  let v3187 : BitVec 32 := Scalar.subi v3172 v3169
  let c7_i32_1743 : BitVec 32 := 7#32
  let v3188 : BitVec 32 := Scalar.addi v3187 c7_i32_1743
  let c1_i32_1745 : BitVec 32 := 1#32
  let v3190 : BitVec 32 := Scalar.shrsi v3188 c1_i32_1745
  let c128_i32_1746 : BitVec 32 := 128#32
  let v3191 : BitVec 32 := Scalar.muli v3190 c128_i32_1746
  v3191
def k0_mult147 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1754 : BitVec 32 := 16#32
  let v3208 : BitVec 32 := Scalar.muli v2967 c16_i32_1754
  let c6_i32_1755 : BitVec 32 := 6#32
  let v3209 : BitVec 32 := Scalar.addi v3208 c6_i32_1755
  let c64_i32_1759 : BitVec 32 := 64#32
  let v3213 : BitVec 32 := Scalar.muli v3209 c64_i32_1759
  v3213
def k0_mult148 (k0_t1 : Fin k0_t1_loop.trips) : BitVec 32 :=
  let c120_i32_1758 : BitVec 32 := 120#32
  let c0_i32_1757 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1754 : BitVec 32 := 16#32
  let v3208 : BitVec 32 := Scalar.muli v2967 c16_i32_1754
  let c6_i32_1755 : BitVec 32 := 6#32
  let v3209 : BitVec 32 := Scalar.addi v3208 c6_i32_1755
  let c4_i32_1756 : BitVec 32 := 4#32
  let v3210 : BitVec 32 := Scalar.subi v3209 c4_i32_1756
  let v3211 : BitVec 32 := Scalar.maxsi c0_i32_1757 v3210
  let v3212 : BitVec 32 := Scalar.minsi c120_i32_1758 v3211
  let c64_i32_1763 : BitVec 32 := 64#32
  let v3222 : BitVec 32 := Scalar.muli v3212 c64_i32_1763
  v3222
def k0_mult149 (k0_t1 : Fin k0_t1_loop.trips) : BitVec 32 :=
  let c120_i32_1758 : BitVec 32 := 120#32
  let c0_i32_1757 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1754 : BitVec 32 := 16#32
  let v3208 : BitVec 32 := Scalar.muli v2967 c16_i32_1754
  let c6_i32_1755 : BitVec 32 := 6#32
  let v3209 : BitVec 32 := Scalar.addi v3208 c6_i32_1755
  let c4_i32_1756 : BitVec 32 := 4#32
  let v3210 : BitVec 32 := Scalar.subi v3209 c4_i32_1756
  let v3211 : BitVec 32 := Scalar.maxsi c0_i32_1757 v3210
  let v3212 : BitVec 32 := Scalar.minsi c120_i32_1758 v3211
  let v3227 : BitVec 32 := Scalar.subi v3212 v3209
  let c7_i32_1766 : BitVec 32 := 7#32
  let v3228 : BitVec 32 := Scalar.addi v3227 c7_i32_1766
  let c1_i32_1768 : BitVec 32 := 1#32
  let v3230 : BitVec 32 := Scalar.shrsi v3228 c1_i32_1768
  let c128_i32_1769 : BitVec 32 := 128#32
  let v3231 : BitVec 32 := Scalar.muli v3230 c128_i32_1769
  v3231
def k0_mult150 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1777 : BitVec 32 := 16#32
  let v3248 : BitVec 32 := Scalar.muli v2967 c16_i32_1777
  let c7_i32_1778 : BitVec 32 := 7#32
  let v3249 : BitVec 32 := Scalar.addi v3248 c7_i32_1778
  let c64_i32_1782 : BitVec 32 := 64#32
  let v3253 : BitVec 32 := Scalar.muli v3249 c64_i32_1782
  v3253
def k0_mult151 (k0_t1 : Fin k0_t1_loop.trips) : BitVec 32 :=
  let c120_i32_1781 : BitVec 32 := 120#32
  let c0_i32_1780 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1777 : BitVec 32 := 16#32
  let v3248 : BitVec 32 := Scalar.muli v2967 c16_i32_1777
  let c7_i32_1778 : BitVec 32 := 7#32
  let v3249 : BitVec 32 := Scalar.addi v3248 c7_i32_1778
  let c4_i32_1779 : BitVec 32 := 4#32
  let v3250 : BitVec 32 := Scalar.subi v3249 c4_i32_1779
  let v3251 : BitVec 32 := Scalar.maxsi c0_i32_1780 v3250
  let v3252 : BitVec 32 := Scalar.minsi c120_i32_1781 v3251
  let c64_i32_1786 : BitVec 32 := 64#32
  let v3262 : BitVec 32 := Scalar.muli v3252 c64_i32_1786
  v3262
def k0_mult152 (k0_t1 : Fin k0_t1_loop.trips) : BitVec 32 :=
  let c120_i32_1781 : BitVec 32 := 120#32
  let c0_i32_1780 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1777 : BitVec 32 := 16#32
  let v3248 : BitVec 32 := Scalar.muli v2967 c16_i32_1777
  let c7_i32_1778 : BitVec 32 := 7#32
  let v3249 : BitVec 32 := Scalar.addi v3248 c7_i32_1778
  let c4_i32_1779 : BitVec 32 := 4#32
  let v3250 : BitVec 32 := Scalar.subi v3249 c4_i32_1779
  let v3251 : BitVec 32 := Scalar.maxsi c0_i32_1780 v3250
  let v3252 : BitVec 32 := Scalar.minsi c120_i32_1781 v3251
  let v3267 : BitVec 32 := Scalar.subi v3252 v3249
  let c7_i32_1789 : BitVec 32 := 7#32
  let v3268 : BitVec 32 := Scalar.addi v3267 c7_i32_1789
  let c1_i32_1791 : BitVec 32 := 1#32
  let v3270 : BitVec 32 := Scalar.shrsi v3268 c1_i32_1791
  let c128_i32_1792 : BitVec 32 := 128#32
  let v3271 : BitVec 32 := Scalar.muli v3270 c128_i32_1792
  v3271
def k0_mult153 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1800 : BitVec 32 := 16#32
  let v3288 : BitVec 32 := Scalar.muli v2967 c16_i32_1800
  let c8_i32_1801 : BitVec 32 := 8#32
  let v3289 : BitVec 32 := Scalar.addi v3288 c8_i32_1801
  let c64_i32_1805 : BitVec 32 := 64#32
  let v3293 : BitVec 32 := Scalar.muli v3289 c64_i32_1805
  v3293
def k0_mult154 (k0_t1 : Fin k0_t1_loop.trips) : BitVec 32 :=
  let c120_i32_1804 : BitVec 32 := 120#32
  let c0_i32_1803 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1800 : BitVec 32 := 16#32
  let v3288 : BitVec 32 := Scalar.muli v2967 c16_i32_1800
  let c8_i32_1801 : BitVec 32 := 8#32
  let v3289 : BitVec 32 := Scalar.addi v3288 c8_i32_1801
  let c4_i32_1802 : BitVec 32 := 4#32
  let v3290 : BitVec 32 := Scalar.subi v3289 c4_i32_1802
  let v3291 : BitVec 32 := Scalar.maxsi c0_i32_1803 v3290
  let v3292 : BitVec 32 := Scalar.minsi c120_i32_1804 v3291
  let c64_i32_1809 : BitVec 32 := 64#32
  let v3302 : BitVec 32 := Scalar.muli v3292 c64_i32_1809
  v3302
def k0_mult155 (k0_t1 : Fin k0_t1_loop.trips) : BitVec 32 :=
  let c120_i32_1804 : BitVec 32 := 120#32
  let c0_i32_1803 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1800 : BitVec 32 := 16#32
  let v3288 : BitVec 32 := Scalar.muli v2967 c16_i32_1800
  let c8_i32_1801 : BitVec 32 := 8#32
  let v3289 : BitVec 32 := Scalar.addi v3288 c8_i32_1801
  let c4_i32_1802 : BitVec 32 := 4#32
  let v3290 : BitVec 32 := Scalar.subi v3289 c4_i32_1802
  let v3291 : BitVec 32 := Scalar.maxsi c0_i32_1803 v3290
  let v3292 : BitVec 32 := Scalar.minsi c120_i32_1804 v3291
  let v3307 : BitVec 32 := Scalar.subi v3292 v3289
  let c7_i32_1812 : BitVec 32 := 7#32
  let v3308 : BitVec 32 := Scalar.addi v3307 c7_i32_1812
  let c1_i32_1814 : BitVec 32 := 1#32
  let v3310 : BitVec 32 := Scalar.shrsi v3308 c1_i32_1814
  let c128_i32_1815 : BitVec 32 := 128#32
  let v3311 : BitVec 32 := Scalar.muli v3310 c128_i32_1815
  v3311
def k0_mult156 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1823 : BitVec 32 := 16#32
  let v3328 : BitVec 32 := Scalar.muli v2967 c16_i32_1823
  let c9_i32_1824 : BitVec 32 := 9#32
  let v3329 : BitVec 32 := Scalar.addi v3328 c9_i32_1824
  let c64_i32_1828 : BitVec 32 := 64#32
  let v3333 : BitVec 32 := Scalar.muli v3329 c64_i32_1828
  v3333
def k0_mult157 (k0_t1 : Fin k0_t1_loop.trips) : BitVec 32 :=
  let c120_i32_1827 : BitVec 32 := 120#32
  let c0_i32_1826 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1823 : BitVec 32 := 16#32
  let v3328 : BitVec 32 := Scalar.muli v2967 c16_i32_1823
  let c9_i32_1824 : BitVec 32 := 9#32
  let v3329 : BitVec 32 := Scalar.addi v3328 c9_i32_1824
  let c4_i32_1825 : BitVec 32 := 4#32
  let v3330 : BitVec 32 := Scalar.subi v3329 c4_i32_1825
  let v3331 : BitVec 32 := Scalar.maxsi c0_i32_1826 v3330
  let v3332 : BitVec 32 := Scalar.minsi c120_i32_1827 v3331
  let c64_i32_1832 : BitVec 32 := 64#32
  let v3342 : BitVec 32 := Scalar.muli v3332 c64_i32_1832
  v3342
def k0_mult158 (k0_t1 : Fin k0_t1_loop.trips) : BitVec 32 :=
  let c120_i32_1827 : BitVec 32 := 120#32
  let c0_i32_1826 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1823 : BitVec 32 := 16#32
  let v3328 : BitVec 32 := Scalar.muli v2967 c16_i32_1823
  let c9_i32_1824 : BitVec 32 := 9#32
  let v3329 : BitVec 32 := Scalar.addi v3328 c9_i32_1824
  let c4_i32_1825 : BitVec 32 := 4#32
  let v3330 : BitVec 32 := Scalar.subi v3329 c4_i32_1825
  let v3331 : BitVec 32 := Scalar.maxsi c0_i32_1826 v3330
  let v3332 : BitVec 32 := Scalar.minsi c120_i32_1827 v3331
  let v3347 : BitVec 32 := Scalar.subi v3332 v3329
  let c7_i32_1835 : BitVec 32 := 7#32
  let v3348 : BitVec 32 := Scalar.addi v3347 c7_i32_1835
  let c1_i32_1837 : BitVec 32 := 1#32
  let v3350 : BitVec 32 := Scalar.shrsi v3348 c1_i32_1837
  let c128_i32_1838 : BitVec 32 := 128#32
  let v3351 : BitVec 32 := Scalar.muli v3350 c128_i32_1838
  v3351
def k0_mult159 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1846 : BitVec 32 := 16#32
  let v3368 : BitVec 32 := Scalar.muli v2967 c16_i32_1846
  let c10_i32_1847 : BitVec 32 := 10#32
  let v3369 : BitVec 32 := Scalar.addi v3368 c10_i32_1847
  let c64_i32_1851 : BitVec 32 := 64#32
  let v3373 : BitVec 32 := Scalar.muli v3369 c64_i32_1851
  v3373
def k0_mult160 (k0_t1 : Fin k0_t1_loop.trips) : BitVec 32 :=
  let c120_i32_1850 : BitVec 32 := 120#32
  let c0_i32_1849 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1846 : BitVec 32 := 16#32
  let v3368 : BitVec 32 := Scalar.muli v2967 c16_i32_1846
  let c10_i32_1847 : BitVec 32 := 10#32
  let v3369 : BitVec 32 := Scalar.addi v3368 c10_i32_1847
  let c4_i32_1848 : BitVec 32 := 4#32
  let v3370 : BitVec 32 := Scalar.subi v3369 c4_i32_1848
  let v3371 : BitVec 32 := Scalar.maxsi c0_i32_1849 v3370
  let v3372 : BitVec 32 := Scalar.minsi c120_i32_1850 v3371
  let c64_i32_1855 : BitVec 32 := 64#32
  let v3382 : BitVec 32 := Scalar.muli v3372 c64_i32_1855
  v3382
def k0_mult161 (k0_t1 : Fin k0_t1_loop.trips) : BitVec 32 :=
  let c120_i32_1850 : BitVec 32 := 120#32
  let c0_i32_1849 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1846 : BitVec 32 := 16#32
  let v3368 : BitVec 32 := Scalar.muli v2967 c16_i32_1846
  let c10_i32_1847 : BitVec 32 := 10#32
  let v3369 : BitVec 32 := Scalar.addi v3368 c10_i32_1847
  let c4_i32_1848 : BitVec 32 := 4#32
  let v3370 : BitVec 32 := Scalar.subi v3369 c4_i32_1848
  let v3371 : BitVec 32 := Scalar.maxsi c0_i32_1849 v3370
  let v3372 : BitVec 32 := Scalar.minsi c120_i32_1850 v3371
  let v3387 : BitVec 32 := Scalar.subi v3372 v3369
  let c7_i32_1858 : BitVec 32 := 7#32
  let v3388 : BitVec 32 := Scalar.addi v3387 c7_i32_1858
  let c1_i32_1860 : BitVec 32 := 1#32
  let v3390 : BitVec 32 := Scalar.shrsi v3388 c1_i32_1860
  let c128_i32_1861 : BitVec 32 := 128#32
  let v3391 : BitVec 32 := Scalar.muli v3390 c128_i32_1861
  v3391
def k0_mult162 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1869 : BitVec 32 := 16#32
  let v3408 : BitVec 32 := Scalar.muli v2967 c16_i32_1869
  let c11_i32_1870 : BitVec 32 := 11#32
  let v3409 : BitVec 32 := Scalar.addi v3408 c11_i32_1870
  let c64_i32_1874 : BitVec 32 := 64#32
  let v3413 : BitVec 32 := Scalar.muli v3409 c64_i32_1874
  v3413
def k0_mult163 (k0_t1 : Fin k0_t1_loop.trips) : BitVec 32 :=
  let c120_i32_1873 : BitVec 32 := 120#32
  let c0_i32_1872 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1869 : BitVec 32 := 16#32
  let v3408 : BitVec 32 := Scalar.muli v2967 c16_i32_1869
  let c11_i32_1870 : BitVec 32 := 11#32
  let v3409 : BitVec 32 := Scalar.addi v3408 c11_i32_1870
  let c4_i32_1871 : BitVec 32 := 4#32
  let v3410 : BitVec 32 := Scalar.subi v3409 c4_i32_1871
  let v3411 : BitVec 32 := Scalar.maxsi c0_i32_1872 v3410
  let v3412 : BitVec 32 := Scalar.minsi c120_i32_1873 v3411
  let c64_i32_1878 : BitVec 32 := 64#32
  let v3422 : BitVec 32 := Scalar.muli v3412 c64_i32_1878
  v3422
def k0_mult164 (k0_t1 : Fin k0_t1_loop.trips) : BitVec 32 :=
  let c120_i32_1873 : BitVec 32 := 120#32
  let c0_i32_1872 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1869 : BitVec 32 := 16#32
  let v3408 : BitVec 32 := Scalar.muli v2967 c16_i32_1869
  let c11_i32_1870 : BitVec 32 := 11#32
  let v3409 : BitVec 32 := Scalar.addi v3408 c11_i32_1870
  let c4_i32_1871 : BitVec 32 := 4#32
  let v3410 : BitVec 32 := Scalar.subi v3409 c4_i32_1871
  let v3411 : BitVec 32 := Scalar.maxsi c0_i32_1872 v3410
  let v3412 : BitVec 32 := Scalar.minsi c120_i32_1873 v3411
  let v3427 : BitVec 32 := Scalar.subi v3412 v3409
  let c7_i32_1881 : BitVec 32 := 7#32
  let v3428 : BitVec 32 := Scalar.addi v3427 c7_i32_1881
  let c1_i32_1883 : BitVec 32 := 1#32
  let v3430 : BitVec 32 := Scalar.shrsi v3428 c1_i32_1883
  let c128_i32_1884 : BitVec 32 := 128#32
  let v3431 : BitVec 32 := Scalar.muli v3430 c128_i32_1884
  v3431
def k0_mult165 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1892 : BitVec 32 := 16#32
  let v3448 : BitVec 32 := Scalar.muli v2967 c16_i32_1892
  let c12_i32_1893 : BitVec 32 := 12#32
  let v3449 : BitVec 32 := Scalar.addi v3448 c12_i32_1893
  let c64_i32_1897 : BitVec 32 := 64#32
  let v3453 : BitVec 32 := Scalar.muli v3449 c64_i32_1897
  v3453
def k0_mult166 (k0_t1 : Fin k0_t1_loop.trips) : BitVec 32 :=
  let c120_i32_1896 : BitVec 32 := 120#32
  let c0_i32_1895 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1892 : BitVec 32 := 16#32
  let v3448 : BitVec 32 := Scalar.muli v2967 c16_i32_1892
  let c12_i32_1893 : BitVec 32 := 12#32
  let v3449 : BitVec 32 := Scalar.addi v3448 c12_i32_1893
  let c4_i32_1894 : BitVec 32 := 4#32
  let v3450 : BitVec 32 := Scalar.subi v3449 c4_i32_1894
  let v3451 : BitVec 32 := Scalar.maxsi c0_i32_1895 v3450
  let v3452 : BitVec 32 := Scalar.minsi c120_i32_1896 v3451
  let c64_i32_1901 : BitVec 32 := 64#32
  let v3462 : BitVec 32 := Scalar.muli v3452 c64_i32_1901
  v3462
def k0_mult167 (k0_t1 : Fin k0_t1_loop.trips) : BitVec 32 :=
  let c120_i32_1896 : BitVec 32 := 120#32
  let c0_i32_1895 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1892 : BitVec 32 := 16#32
  let v3448 : BitVec 32 := Scalar.muli v2967 c16_i32_1892
  let c12_i32_1893 : BitVec 32 := 12#32
  let v3449 : BitVec 32 := Scalar.addi v3448 c12_i32_1893
  let c4_i32_1894 : BitVec 32 := 4#32
  let v3450 : BitVec 32 := Scalar.subi v3449 c4_i32_1894
  let v3451 : BitVec 32 := Scalar.maxsi c0_i32_1895 v3450
  let v3452 : BitVec 32 := Scalar.minsi c120_i32_1896 v3451
  let v3467 : BitVec 32 := Scalar.subi v3452 v3449
  let c7_i32_1904 : BitVec 32 := 7#32
  let v3468 : BitVec 32 := Scalar.addi v3467 c7_i32_1904
  let c1_i32_1906 : BitVec 32 := 1#32
  let v3470 : BitVec 32 := Scalar.shrsi v3468 c1_i32_1906
  let c128_i32_1907 : BitVec 32 := 128#32
  let v3471 : BitVec 32 := Scalar.muli v3470 c128_i32_1907
  v3471
def k0_mult168 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1915 : BitVec 32 := 16#32
  let v3488 : BitVec 32 := Scalar.muli v2967 c16_i32_1915
  let c13_i32_1916 : BitVec 32 := 13#32
  let v3489 : BitVec 32 := Scalar.addi v3488 c13_i32_1916
  let c64_i32_1920 : BitVec 32 := 64#32
  let v3493 : BitVec 32 := Scalar.muli v3489 c64_i32_1920
  v3493
def k0_mult169 (k0_t1 : Fin k0_t1_loop.trips) : BitVec 32 :=
  let c120_i32_1919 : BitVec 32 := 120#32
  let c0_i32_1918 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1915 : BitVec 32 := 16#32
  let v3488 : BitVec 32 := Scalar.muli v2967 c16_i32_1915
  let c13_i32_1916 : BitVec 32 := 13#32
  let v3489 : BitVec 32 := Scalar.addi v3488 c13_i32_1916
  let c4_i32_1917 : BitVec 32 := 4#32
  let v3490 : BitVec 32 := Scalar.subi v3489 c4_i32_1917
  let v3491 : BitVec 32 := Scalar.maxsi c0_i32_1918 v3490
  let v3492 : BitVec 32 := Scalar.minsi c120_i32_1919 v3491
  let c64_i32_1924 : BitVec 32 := 64#32
  let v3502 : BitVec 32 := Scalar.muli v3492 c64_i32_1924
  v3502
def k0_mult170 (k0_t1 : Fin k0_t1_loop.trips) : BitVec 32 :=
  let c120_i32_1919 : BitVec 32 := 120#32
  let c0_i32_1918 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1915 : BitVec 32 := 16#32
  let v3488 : BitVec 32 := Scalar.muli v2967 c16_i32_1915
  let c13_i32_1916 : BitVec 32 := 13#32
  let v3489 : BitVec 32 := Scalar.addi v3488 c13_i32_1916
  let c4_i32_1917 : BitVec 32 := 4#32
  let v3490 : BitVec 32 := Scalar.subi v3489 c4_i32_1917
  let v3491 : BitVec 32 := Scalar.maxsi c0_i32_1918 v3490
  let v3492 : BitVec 32 := Scalar.minsi c120_i32_1919 v3491
  let v3507 : BitVec 32 := Scalar.subi v3492 v3489
  let c7_i32_1927 : BitVec 32 := 7#32
  let v3508 : BitVec 32 := Scalar.addi v3507 c7_i32_1927
  let c1_i32_1929 : BitVec 32 := 1#32
  let v3510 : BitVec 32 := Scalar.shrsi v3508 c1_i32_1929
  let c128_i32_1930 : BitVec 32 := 128#32
  let v3511 : BitVec 32 := Scalar.muli v3510 c128_i32_1930
  v3511
def k0_mult171 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1938 : BitVec 32 := 16#32
  let v3528 : BitVec 32 := Scalar.muli v2967 c16_i32_1938
  let c14_i32_1939 : BitVec 32 := 14#32
  let v3529 : BitVec 32 := Scalar.addi v3528 c14_i32_1939
  let c64_i32_1943 : BitVec 32 := 64#32
  let v3533 : BitVec 32 := Scalar.muli v3529 c64_i32_1943
  v3533
def k0_mult172 (k0_t1 : Fin k0_t1_loop.trips) : BitVec 32 :=
  let c120_i32_1942 : BitVec 32 := 120#32
  let c0_i32_1941 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1938 : BitVec 32 := 16#32
  let v3528 : BitVec 32 := Scalar.muli v2967 c16_i32_1938
  let c14_i32_1939 : BitVec 32 := 14#32
  let v3529 : BitVec 32 := Scalar.addi v3528 c14_i32_1939
  let c4_i32_1940 : BitVec 32 := 4#32
  let v3530 : BitVec 32 := Scalar.subi v3529 c4_i32_1940
  let v3531 : BitVec 32 := Scalar.maxsi c0_i32_1941 v3530
  let v3532 : BitVec 32 := Scalar.minsi c120_i32_1942 v3531
  let c64_i32_1947 : BitVec 32 := 64#32
  let v3542 : BitVec 32 := Scalar.muli v3532 c64_i32_1947
  v3542
def k0_mult173 (k0_t1 : Fin k0_t1_loop.trips) : BitVec 32 :=
  let c120_i32_1942 : BitVec 32 := 120#32
  let c0_i32_1941 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1938 : BitVec 32 := 16#32
  let v3528 : BitVec 32 := Scalar.muli v2967 c16_i32_1938
  let c14_i32_1939 : BitVec 32 := 14#32
  let v3529 : BitVec 32 := Scalar.addi v3528 c14_i32_1939
  let c4_i32_1940 : BitVec 32 := 4#32
  let v3530 : BitVec 32 := Scalar.subi v3529 c4_i32_1940
  let v3531 : BitVec 32 := Scalar.maxsi c0_i32_1941 v3530
  let v3532 : BitVec 32 := Scalar.minsi c120_i32_1942 v3531
  let v3547 : BitVec 32 := Scalar.subi v3532 v3529
  let c7_i32_1950 : BitVec 32 := 7#32
  let v3548 : BitVec 32 := Scalar.addi v3547 c7_i32_1950
  let c1_i32_1952 : BitVec 32 := 1#32
  let v3550 : BitVec 32 := Scalar.shrsi v3548 c1_i32_1952
  let c128_i32_1953 : BitVec 32 := 128#32
  let v3551 : BitVec 32 := Scalar.muli v3550 c128_i32_1953
  v3551
def k0_mult174 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1961 : BitVec 32 := 16#32
  let v3568 : BitVec 32 := Scalar.muli v2967 c16_i32_1961
  let c15_i32_1962 : BitVec 32 := 15#32
  let v3569 : BitVec 32 := Scalar.addi v3568 c15_i32_1962
  let c64_i32_1966 : BitVec 32 := 64#32
  let v3573 : BitVec 32 := Scalar.muli v3569 c64_i32_1966
  v3573
def k0_mult175 (k0_t1 : Fin k0_t1_loop.trips) : BitVec 32 :=
  let c120_i32_1965 : BitVec 32 := 120#32
  let c0_i32_1964 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1961 : BitVec 32 := 16#32
  let v3568 : BitVec 32 := Scalar.muli v2967 c16_i32_1961
  let c15_i32_1962 : BitVec 32 := 15#32
  let v3569 : BitVec 32 := Scalar.addi v3568 c15_i32_1962
  let c4_i32_1963 : BitVec 32 := 4#32
  let v3570 : BitVec 32 := Scalar.subi v3569 c4_i32_1963
  let v3571 : BitVec 32 := Scalar.maxsi c0_i32_1964 v3570
  let v3572 : BitVec 32 := Scalar.minsi c120_i32_1965 v3571
  let c64_i32_1970 : BitVec 32 := 64#32
  let v3582 : BitVec 32 := Scalar.muli v3572 c64_i32_1970
  v3582
def k0_mult176 (k0_t1 : Fin k0_t1_loop.trips) : BitVec 32 :=
  let c120_i32_1965 : BitVec 32 := 120#32
  let c0_i32_1964 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c2_i32_1615 : BitVec 32 := 2#32
  let v2967 : BitVec 32 := Scalar.addi v1893 c2_i32_1615
  let c16_i32_1961 : BitVec 32 := 16#32
  let v3568 : BitVec 32 := Scalar.muli v2967 c16_i32_1961
  let c15_i32_1962 : BitVec 32 := 15#32
  let v3569 : BitVec 32 := Scalar.addi v3568 c15_i32_1962
  let c4_i32_1963 : BitVec 32 := 4#32
  let v3570 : BitVec 32 := Scalar.subi v3569 c4_i32_1963
  let v3571 : BitVec 32 := Scalar.maxsi c0_i32_1964 v3570
  let v3572 : BitVec 32 := Scalar.minsi c120_i32_1965 v3571
  let v3587 : BitVec 32 := Scalar.subi v3572 v3569
  let c7_i32_1973 : BitVec 32 := 7#32
  let v3588 : BitVec 32 := Scalar.addi v3587 c7_i32_1973
  let c1_i32_1975 : BitVec 32 := 1#32
  let v3590 : BitVec 32 := Scalar.shrsi v3588 c1_i32_1975
  let c128_i32_1976 : BitVec 32 := 128#32
  let v3591 : BitVec 32 := Scalar.muli v3590 c128_i32_1976
  v3591
def k0_mult177 (k0_t1 : Fin k0_t1_loop.trips) : BitVec 32 :=
  let c120_i32_1989 : BitVec 32 := 120#32
  let c0_i32_1988 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_1985 : BitVec 32 := 16#32
  let v3609 : BitVec 32 := Scalar.muli v3608 c16_i32_1985
  let c0_i32_1986 : BitVec 32 := 0#32
  let v3610 : BitVec 32 := Scalar.addi v3609 c0_i32_1986
  let c4_i32_1987 : BitVec 32 := 4#32
  let v3611 : BitVec 32 := Scalar.subi v3610 c4_i32_1987
  let v3612 : BitVec 32 := Scalar.maxsi c0_i32_1988 v3611
  let v3613 : BitVec 32 := Scalar.minsi c120_i32_1989 v3612
  let c64_i32_1990 : BitVec 32 := 64#32
  let v3614 : BitVec 32 := Scalar.muli v3613 c64_i32_1990
  v3614
def k0_mult178 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_1985 : BitVec 32 := 16#32
  let v3609 : BitVec 32 := Scalar.muli v3608 c16_i32_1985
  let c0_i32_1986 : BitVec 32 := 0#32
  let v3610 : BitVec 32 := Scalar.addi v3609 c0_i32_1986
  let c64_i32_1997 : BitVec 32 := 64#32
  let v3630 : BitVec 32 := Scalar.muli v3610 c64_i32_1997
  v3630
def k0_mult179 (k0_t1 : Fin k0_t1_loop.trips) : BitVec 32 :=
  let c120_i32_2004 : BitVec 32 := 120#32
  let c0_i32_2003 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2000 : BitVec 32 := 16#32
  let v3636 : BitVec 32 := Scalar.muli v3608 c16_i32_2000
  let c1_i32_2001 : BitVec 32 := 1#32
  let v3637 : BitVec 32 := Scalar.addi v3636 c1_i32_2001
  let c4_i32_2002 : BitVec 32 := 4#32
  let v3638 : BitVec 32 := Scalar.subi v3637 c4_i32_2002
  let v3639 : BitVec 32 := Scalar.maxsi c0_i32_2003 v3638
  let v3640 : BitVec 32 := Scalar.minsi c120_i32_2004 v3639
  let c64_i32_2005 : BitVec 32 := 64#32
  let v3641 : BitVec 32 := Scalar.muli v3640 c64_i32_2005
  v3641
def k0_mult180 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2000 : BitVec 32 := 16#32
  let v3636 : BitVec 32 := Scalar.muli v3608 c16_i32_2000
  let c1_i32_2001 : BitVec 32 := 1#32
  let v3637 : BitVec 32 := Scalar.addi v3636 c1_i32_2001
  let c64_i32_2012 : BitVec 32 := 64#32
  let v3657 : BitVec 32 := Scalar.muli v3637 c64_i32_2012
  v3657
def k0_mult181 (k0_t1 : Fin k0_t1_loop.trips) : BitVec 32 :=
  let c120_i32_2019 : BitVec 32 := 120#32
  let c0_i32_2018 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2015 : BitVec 32 := 16#32
  let v3663 : BitVec 32 := Scalar.muli v3608 c16_i32_2015
  let c2_i32_2016 : BitVec 32 := 2#32
  let v3664 : BitVec 32 := Scalar.addi v3663 c2_i32_2016
  let c4_i32_2017 : BitVec 32 := 4#32
  let v3665 : BitVec 32 := Scalar.subi v3664 c4_i32_2017
  let v3666 : BitVec 32 := Scalar.maxsi c0_i32_2018 v3665
  let v3667 : BitVec 32 := Scalar.minsi c120_i32_2019 v3666
  let c64_i32_2020 : BitVec 32 := 64#32
  let v3668 : BitVec 32 := Scalar.muli v3667 c64_i32_2020
  v3668
def k0_mult182 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2015 : BitVec 32 := 16#32
  let v3663 : BitVec 32 := Scalar.muli v3608 c16_i32_2015
  let c2_i32_2016 : BitVec 32 := 2#32
  let v3664 : BitVec 32 := Scalar.addi v3663 c2_i32_2016
  let c64_i32_2027 : BitVec 32 := 64#32
  let v3684 : BitVec 32 := Scalar.muli v3664 c64_i32_2027
  v3684
def k0_mult183 (k0_t1 : Fin k0_t1_loop.trips) : BitVec 32 :=
  let c120_i32_2034 : BitVec 32 := 120#32
  let c0_i32_2033 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2030 : BitVec 32 := 16#32
  let v3690 : BitVec 32 := Scalar.muli v3608 c16_i32_2030
  let c3_i32_2031 : BitVec 32 := 3#32
  let v3691 : BitVec 32 := Scalar.addi v3690 c3_i32_2031
  let c4_i32_2032 : BitVec 32 := 4#32
  let v3692 : BitVec 32 := Scalar.subi v3691 c4_i32_2032
  let v3693 : BitVec 32 := Scalar.maxsi c0_i32_2033 v3692
  let v3694 : BitVec 32 := Scalar.minsi c120_i32_2034 v3693
  let c64_i32_2035 : BitVec 32 := 64#32
  let v3695 : BitVec 32 := Scalar.muli v3694 c64_i32_2035
  v3695
def k0_mult184 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2030 : BitVec 32 := 16#32
  let v3690 : BitVec 32 := Scalar.muli v3608 c16_i32_2030
  let c3_i32_2031 : BitVec 32 := 3#32
  let v3691 : BitVec 32 := Scalar.addi v3690 c3_i32_2031
  let c64_i32_2042 : BitVec 32 := 64#32
  let v3711 : BitVec 32 := Scalar.muli v3691 c64_i32_2042
  v3711
def k0_mult185 (k0_t1 : Fin k0_t1_loop.trips) : BitVec 32 :=
  let c120_i32_2049 : BitVec 32 := 120#32
  let c0_i32_2048 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2045 : BitVec 32 := 16#32
  let v3717 : BitVec 32 := Scalar.muli v3608 c16_i32_2045
  let c4_i32_2046 : BitVec 32 := 4#32
  let v3718 : BitVec 32 := Scalar.addi v3717 c4_i32_2046
  let c4_i32_2047 : BitVec 32 := 4#32
  let v3719 : BitVec 32 := Scalar.subi v3718 c4_i32_2047
  let v3720 : BitVec 32 := Scalar.maxsi c0_i32_2048 v3719
  let v3721 : BitVec 32 := Scalar.minsi c120_i32_2049 v3720
  let c64_i32_2050 : BitVec 32 := 64#32
  let v3722 : BitVec 32 := Scalar.muli v3721 c64_i32_2050
  v3722
def k0_mult186 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2045 : BitVec 32 := 16#32
  let v3717 : BitVec 32 := Scalar.muli v3608 c16_i32_2045
  let c4_i32_2046 : BitVec 32 := 4#32
  let v3718 : BitVec 32 := Scalar.addi v3717 c4_i32_2046
  let c64_i32_2057 : BitVec 32 := 64#32
  let v3738 : BitVec 32 := Scalar.muli v3718 c64_i32_2057
  v3738
def k0_mult187 (k0_t1 : Fin k0_t1_loop.trips) : BitVec 32 :=
  let c120_i32_2064 : BitVec 32 := 120#32
  let c0_i32_2063 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2060 : BitVec 32 := 16#32
  let v3744 : BitVec 32 := Scalar.muli v3608 c16_i32_2060
  let c5_i32_2061 : BitVec 32 := 5#32
  let v3745 : BitVec 32 := Scalar.addi v3744 c5_i32_2061
  let c4_i32_2062 : BitVec 32 := 4#32
  let v3746 : BitVec 32 := Scalar.subi v3745 c4_i32_2062
  let v3747 : BitVec 32 := Scalar.maxsi c0_i32_2063 v3746
  let v3748 : BitVec 32 := Scalar.minsi c120_i32_2064 v3747
  let c64_i32_2065 : BitVec 32 := 64#32
  let v3749 : BitVec 32 := Scalar.muli v3748 c64_i32_2065
  v3749
def k0_mult188 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2060 : BitVec 32 := 16#32
  let v3744 : BitVec 32 := Scalar.muli v3608 c16_i32_2060
  let c5_i32_2061 : BitVec 32 := 5#32
  let v3745 : BitVec 32 := Scalar.addi v3744 c5_i32_2061
  let c64_i32_2072 : BitVec 32 := 64#32
  let v3765 : BitVec 32 := Scalar.muli v3745 c64_i32_2072
  v3765
def k0_mult189 (k0_t1 : Fin k0_t1_loop.trips) : BitVec 32 :=
  let c120_i32_2079 : BitVec 32 := 120#32
  let c0_i32_2078 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2075 : BitVec 32 := 16#32
  let v3771 : BitVec 32 := Scalar.muli v3608 c16_i32_2075
  let c6_i32_2076 : BitVec 32 := 6#32
  let v3772 : BitVec 32 := Scalar.addi v3771 c6_i32_2076
  let c4_i32_2077 : BitVec 32 := 4#32
  let v3773 : BitVec 32 := Scalar.subi v3772 c4_i32_2077
  let v3774 : BitVec 32 := Scalar.maxsi c0_i32_2078 v3773
  let v3775 : BitVec 32 := Scalar.minsi c120_i32_2079 v3774
  let c64_i32_2080 : BitVec 32 := 64#32
  let v3776 : BitVec 32 := Scalar.muli v3775 c64_i32_2080
  v3776
def k0_mult190 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2075 : BitVec 32 := 16#32
  let v3771 : BitVec 32 := Scalar.muli v3608 c16_i32_2075
  let c6_i32_2076 : BitVec 32 := 6#32
  let v3772 : BitVec 32 := Scalar.addi v3771 c6_i32_2076
  let c64_i32_2087 : BitVec 32 := 64#32
  let v3792 : BitVec 32 := Scalar.muli v3772 c64_i32_2087
  v3792
def k0_mult191 (k0_t1 : Fin k0_t1_loop.trips) : BitVec 32 :=
  let c120_i32_2094 : BitVec 32 := 120#32
  let c0_i32_2093 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2090 : BitVec 32 := 16#32
  let v3798 : BitVec 32 := Scalar.muli v3608 c16_i32_2090
  let c7_i32_2091 : BitVec 32 := 7#32
  let v3799 : BitVec 32 := Scalar.addi v3798 c7_i32_2091
  let c4_i32_2092 : BitVec 32 := 4#32
  let v3800 : BitVec 32 := Scalar.subi v3799 c4_i32_2092
  let v3801 : BitVec 32 := Scalar.maxsi c0_i32_2093 v3800
  let v3802 : BitVec 32 := Scalar.minsi c120_i32_2094 v3801
  let c64_i32_2095 : BitVec 32 := 64#32
  let v3803 : BitVec 32 := Scalar.muli v3802 c64_i32_2095
  v3803
def k0_mult192 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2090 : BitVec 32 := 16#32
  let v3798 : BitVec 32 := Scalar.muli v3608 c16_i32_2090
  let c7_i32_2091 : BitVec 32 := 7#32
  let v3799 : BitVec 32 := Scalar.addi v3798 c7_i32_2091
  let c64_i32_2102 : BitVec 32 := 64#32
  let v3819 : BitVec 32 := Scalar.muli v3799 c64_i32_2102
  v3819
def k0_mult193 (k0_t1 : Fin k0_t1_loop.trips) : BitVec 32 :=
  let c120_i32_2109 : BitVec 32 := 120#32
  let c0_i32_2108 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2105 : BitVec 32 := 16#32
  let v3825 : BitVec 32 := Scalar.muli v3608 c16_i32_2105
  let c8_i32_2106 : BitVec 32 := 8#32
  let v3826 : BitVec 32 := Scalar.addi v3825 c8_i32_2106
  let c4_i32_2107 : BitVec 32 := 4#32
  let v3827 : BitVec 32 := Scalar.subi v3826 c4_i32_2107
  let v3828 : BitVec 32 := Scalar.maxsi c0_i32_2108 v3827
  let v3829 : BitVec 32 := Scalar.minsi c120_i32_2109 v3828
  let c64_i32_2110 : BitVec 32 := 64#32
  let v3830 : BitVec 32 := Scalar.muli v3829 c64_i32_2110
  v3830
def k0_mult194 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2105 : BitVec 32 := 16#32
  let v3825 : BitVec 32 := Scalar.muli v3608 c16_i32_2105
  let c8_i32_2106 : BitVec 32 := 8#32
  let v3826 : BitVec 32 := Scalar.addi v3825 c8_i32_2106
  let c64_i32_2117 : BitVec 32 := 64#32
  let v3846 : BitVec 32 := Scalar.muli v3826 c64_i32_2117
  v3846
def k0_mult195 (k0_t1 : Fin k0_t1_loop.trips) : BitVec 32 :=
  let c120_i32_2124 : BitVec 32 := 120#32
  let c0_i32_2123 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2120 : BitVec 32 := 16#32
  let v3852 : BitVec 32 := Scalar.muli v3608 c16_i32_2120
  let c9_i32_2121 : BitVec 32 := 9#32
  let v3853 : BitVec 32 := Scalar.addi v3852 c9_i32_2121
  let c4_i32_2122 : BitVec 32 := 4#32
  let v3854 : BitVec 32 := Scalar.subi v3853 c4_i32_2122
  let v3855 : BitVec 32 := Scalar.maxsi c0_i32_2123 v3854
  let v3856 : BitVec 32 := Scalar.minsi c120_i32_2124 v3855
  let c64_i32_2125 : BitVec 32 := 64#32
  let v3857 : BitVec 32 := Scalar.muli v3856 c64_i32_2125
  v3857
def k0_mult196 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2120 : BitVec 32 := 16#32
  let v3852 : BitVec 32 := Scalar.muli v3608 c16_i32_2120
  let c9_i32_2121 : BitVec 32 := 9#32
  let v3853 : BitVec 32 := Scalar.addi v3852 c9_i32_2121
  let c64_i32_2132 : BitVec 32 := 64#32
  let v3873 : BitVec 32 := Scalar.muli v3853 c64_i32_2132
  v3873
def k0_mult197 (k0_t1 : Fin k0_t1_loop.trips) : BitVec 32 :=
  let c120_i32_2139 : BitVec 32 := 120#32
  let c0_i32_2138 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2135 : BitVec 32 := 16#32
  let v3879 : BitVec 32 := Scalar.muli v3608 c16_i32_2135
  let c10_i32_2136 : BitVec 32 := 10#32
  let v3880 : BitVec 32 := Scalar.addi v3879 c10_i32_2136
  let c4_i32_2137 : BitVec 32 := 4#32
  let v3881 : BitVec 32 := Scalar.subi v3880 c4_i32_2137
  let v3882 : BitVec 32 := Scalar.maxsi c0_i32_2138 v3881
  let v3883 : BitVec 32 := Scalar.minsi c120_i32_2139 v3882
  let c64_i32_2140 : BitVec 32 := 64#32
  let v3884 : BitVec 32 := Scalar.muli v3883 c64_i32_2140
  v3884
def k0_mult198 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2135 : BitVec 32 := 16#32
  let v3879 : BitVec 32 := Scalar.muli v3608 c16_i32_2135
  let c10_i32_2136 : BitVec 32 := 10#32
  let v3880 : BitVec 32 := Scalar.addi v3879 c10_i32_2136
  let c64_i32_2147 : BitVec 32 := 64#32
  let v3900 : BitVec 32 := Scalar.muli v3880 c64_i32_2147
  v3900
def k0_mult199 (k0_t1 : Fin k0_t1_loop.trips) : BitVec 32 :=
  let c120_i32_2154 : BitVec 32 := 120#32
  let c0_i32_2153 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2150 : BitVec 32 := 16#32
  let v3906 : BitVec 32 := Scalar.muli v3608 c16_i32_2150
  let c11_i32_2151 : BitVec 32 := 11#32
  let v3907 : BitVec 32 := Scalar.addi v3906 c11_i32_2151
  let c4_i32_2152 : BitVec 32 := 4#32
  let v3908 : BitVec 32 := Scalar.subi v3907 c4_i32_2152
  let v3909 : BitVec 32 := Scalar.maxsi c0_i32_2153 v3908
  let v3910 : BitVec 32 := Scalar.minsi c120_i32_2154 v3909
  let c64_i32_2155 : BitVec 32 := 64#32
  let v3911 : BitVec 32 := Scalar.muli v3910 c64_i32_2155
  v3911
def k0_mult200 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2150 : BitVec 32 := 16#32
  let v3906 : BitVec 32 := Scalar.muli v3608 c16_i32_2150
  let c11_i32_2151 : BitVec 32 := 11#32
  let v3907 : BitVec 32 := Scalar.addi v3906 c11_i32_2151
  let c64_i32_2162 : BitVec 32 := 64#32
  let v3927 : BitVec 32 := Scalar.muli v3907 c64_i32_2162
  v3927
def k0_mult201 (k0_t1 : Fin k0_t1_loop.trips) : BitVec 32 :=
  let c120_i32_2169 : BitVec 32 := 120#32
  let c0_i32_2168 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2165 : BitVec 32 := 16#32
  let v3933 : BitVec 32 := Scalar.muli v3608 c16_i32_2165
  let c12_i32_2166 : BitVec 32 := 12#32
  let v3934 : BitVec 32 := Scalar.addi v3933 c12_i32_2166
  let c4_i32_2167 : BitVec 32 := 4#32
  let v3935 : BitVec 32 := Scalar.subi v3934 c4_i32_2167
  let v3936 : BitVec 32 := Scalar.maxsi c0_i32_2168 v3935
  let v3937 : BitVec 32 := Scalar.minsi c120_i32_2169 v3936
  let c64_i32_2170 : BitVec 32 := 64#32
  let v3938 : BitVec 32 := Scalar.muli v3937 c64_i32_2170
  v3938
def k0_mult202 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2165 : BitVec 32 := 16#32
  let v3933 : BitVec 32 := Scalar.muli v3608 c16_i32_2165
  let c12_i32_2166 : BitVec 32 := 12#32
  let v3934 : BitVec 32 := Scalar.addi v3933 c12_i32_2166
  let c64_i32_2177 : BitVec 32 := 64#32
  let v3954 : BitVec 32 := Scalar.muli v3934 c64_i32_2177
  v3954
def k0_mult203 (k0_t1 : Fin k0_t1_loop.trips) : BitVec 32 :=
  let c120_i32_2184 : BitVec 32 := 120#32
  let c0_i32_2183 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2180 : BitVec 32 := 16#32
  let v3960 : BitVec 32 := Scalar.muli v3608 c16_i32_2180
  let c13_i32_2181 : BitVec 32 := 13#32
  let v3961 : BitVec 32 := Scalar.addi v3960 c13_i32_2181
  let c4_i32_2182 : BitVec 32 := 4#32
  let v3962 : BitVec 32 := Scalar.subi v3961 c4_i32_2182
  let v3963 : BitVec 32 := Scalar.maxsi c0_i32_2183 v3962
  let v3964 : BitVec 32 := Scalar.minsi c120_i32_2184 v3963
  let c64_i32_2185 : BitVec 32 := 64#32
  let v3965 : BitVec 32 := Scalar.muli v3964 c64_i32_2185
  v3965
def k0_mult204 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2180 : BitVec 32 := 16#32
  let v3960 : BitVec 32 := Scalar.muli v3608 c16_i32_2180
  let c13_i32_2181 : BitVec 32 := 13#32
  let v3961 : BitVec 32 := Scalar.addi v3960 c13_i32_2181
  let c64_i32_2192 : BitVec 32 := 64#32
  let v3981 : BitVec 32 := Scalar.muli v3961 c64_i32_2192
  v3981
def k0_mult205 (k0_t1 : Fin k0_t1_loop.trips) : BitVec 32 :=
  let c120_i32_2199 : BitVec 32 := 120#32
  let c0_i32_2198 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2195 : BitVec 32 := 16#32
  let v3987 : BitVec 32 := Scalar.muli v3608 c16_i32_2195
  let c14_i32_2196 : BitVec 32 := 14#32
  let v3988 : BitVec 32 := Scalar.addi v3987 c14_i32_2196
  let c4_i32_2197 : BitVec 32 := 4#32
  let v3989 : BitVec 32 := Scalar.subi v3988 c4_i32_2197
  let v3990 : BitVec 32 := Scalar.maxsi c0_i32_2198 v3989
  let v3991 : BitVec 32 := Scalar.minsi c120_i32_2199 v3990
  let c64_i32_2200 : BitVec 32 := 64#32
  let v3992 : BitVec 32 := Scalar.muli v3991 c64_i32_2200
  v3992
def k0_mult206 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2195 : BitVec 32 := 16#32
  let v3987 : BitVec 32 := Scalar.muli v3608 c16_i32_2195
  let c14_i32_2196 : BitVec 32 := 14#32
  let v3988 : BitVec 32 := Scalar.addi v3987 c14_i32_2196
  let c64_i32_2207 : BitVec 32 := 64#32
  let v4008 : BitVec 32 := Scalar.muli v3988 c64_i32_2207
  v4008
def k0_mult207 (k0_t1 : Fin k0_t1_loop.trips) : BitVec 32 :=
  let c120_i32_2214 : BitVec 32 := 120#32
  let c0_i32_2213 : BitVec 32 := 0#32
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2210 : BitVec 32 := 16#32
  let v4014 : BitVec 32 := Scalar.muli v3608 c16_i32_2210
  let c15_i32_2211 : BitVec 32 := 15#32
  let v4015 : BitVec 32 := Scalar.addi v4014 c15_i32_2211
  let c4_i32_2212 : BitVec 32 := 4#32
  let v4016 : BitVec 32 := Scalar.subi v4015 c4_i32_2212
  let v4017 : BitVec 32 := Scalar.maxsi c0_i32_2213 v4016
  let v4018 : BitVec 32 := Scalar.minsi c120_i32_2214 v4017
  let c64_i32_2215 : BitVec 32 := 64#32
  let v4019 : BitVec 32 := Scalar.muli v4018 c64_i32_2215
  v4019
def k0_mult208 (k0_t1 : Fin k0_t1_loop.trips) : BitVec 32 :=
  let c2_i32_1006 : BitVec 32 := 2#32
  let c0_i32_301 : BitVec 32 := 0#32
  let c1_i32_303 : BitVec 32 := 1#32
  let arg9 : BitVec 32 := Scf.iv c0_i32_301 c1_i32_303 k0_t1
  let v1893 : BitVec 32 := Scalar.muli c2_i32_1006 arg9
  let c1_i32_1984 : BitVec 32 := 1#32
  let v3608 : BitVec 32 := Scalar.addi v1893 c1_i32_1984
  let c16_i32_2210 : BitVec 32 := 16#32
  let v4014 : BitVec 32 := Scalar.muli v3608 c16_i32_2210
  let c15_i32_2211 : BitVec 32 := 15#32
  let v4015 : BitVec 32 := Scalar.addi v4014 c15_i32_2211
  let c64_i32_2222 : BitVec 32 := 64#32
  let v4035 : BitVec 32 := Scalar.muli v4015 c64_i32_2222
  v4035
def k0_mult209 : BitVec 32 :=
  let c7168_i32 : BitVec 32 := 7168#32
  c7168_i32
def k0_mult210 : BitVec 32 :=
  let c120_i32_306 : BitVec 32 := 120#32
  let c0_i32_305 : BitVec 32 := 0#32
  let c108_i32 : BitVec 32 := 108#32
  let v581 : BitVec 32 := Scalar.maxsi c0_i32_305 c108_i32
  let v582 : BitVec 32 := Scalar.minsi c120_i32_306 v581
  let c64_i32_310 : BitVec 32 := 64#32
  let v591 : BitVec 32 := Scalar.muli v582 c64_i32_310
  v591
def k0_mult211 : BitVec 32 :=
  let c120_i32_306 : BitVec 32 := 120#32
  let c0_i32_305 : BitVec 32 := 0#32
  let c108_i32 : BitVec 32 := 108#32
  let v581 : BitVec 32 := Scalar.maxsi c0_i32_305 c108_i32
  let v582 : BitVec 32 := Scalar.minsi c120_i32_306 v581
  let c112_i32 : BitVec 32 := 112#32
  let v596 : BitVec 32 := Scalar.subi v582 c112_i32
  let c7_i32_313 : BitVec 32 := 7#32
  let v597 : BitVec 32 := Scalar.addi v596 c7_i32_313
  let c1_i32_315 : BitVec 32 := 1#32
  let v599 : BitVec 32 := Scalar.shrsi v597 c1_i32_315
  let c128_i32_316 : BitVec 32 := 128#32
  let v600 : BitVec 32 := Scalar.muli v599 c128_i32_316
  v600
def k0_mult212 : BitVec 32 :=
  let c7232_i32 : BitVec 32 := 7232#32
  c7232_i32
def k0_mult213 : BitVec 32 :=
  let c120_i32_325 : BitVec 32 := 120#32
  let c0_i32_324 : BitVec 32 := 0#32
  let c109_i32 : BitVec 32 := 109#32
  let v617 : BitVec 32 := Scalar.maxsi c0_i32_324 c109_i32
  let v618 : BitVec 32 := Scalar.minsi c120_i32_325 v617
  let c64_i32_329 : BitVec 32 := 64#32
  let v627 : BitVec 32 := Scalar.muli v618 c64_i32_329
  v627
def k0_mult214 : BitVec 32 :=
  let c120_i32_325 : BitVec 32 := 120#32
  let c0_i32_324 : BitVec 32 := 0#32
  let c109_i32 : BitVec 32 := 109#32
  let v617 : BitVec 32 := Scalar.maxsi c0_i32_324 c109_i32
  let v618 : BitVec 32 := Scalar.minsi c120_i32_325 v617
  let c113_i32 : BitVec 32 := 113#32
  let v632 : BitVec 32 := Scalar.subi v618 c113_i32
  let c7_i32_332 : BitVec 32 := 7#32
  let v633 : BitVec 32 := Scalar.addi v632 c7_i32_332
  let c1_i32_334 : BitVec 32 := 1#32
  let v635 : BitVec 32 := Scalar.shrsi v633 c1_i32_334
  let c128_i32_335 : BitVec 32 := 128#32
  let v636 : BitVec 32 := Scalar.muli v635 c128_i32_335
  v636
def k0_mult215 : BitVec 32 :=
  let c7296_i32 : BitVec 32 := 7296#32
  c7296_i32
def k0_mult216 : BitVec 32 :=
  let c120_i32_344 : BitVec 32 := 120#32
  let c0_i32_343 : BitVec 32 := 0#32
  let c110_i32 : BitVec 32 := 110#32
  let v653 : BitVec 32 := Scalar.maxsi c0_i32_343 c110_i32
  let v654 : BitVec 32 := Scalar.minsi c120_i32_344 v653
  let c64_i32_348 : BitVec 32 := 64#32
  let v663 : BitVec 32 := Scalar.muli v654 c64_i32_348
  v663
def k0_mult217 : BitVec 32 :=
  let c120_i32_344 : BitVec 32 := 120#32
  let c0_i32_343 : BitVec 32 := 0#32
  let c110_i32 : BitVec 32 := 110#32
  let v653 : BitVec 32 := Scalar.maxsi c0_i32_343 c110_i32
  let v654 : BitVec 32 := Scalar.minsi c120_i32_344 v653
  let c114_i32 : BitVec 32 := 114#32
  let v668 : BitVec 32 := Scalar.subi v654 c114_i32
  let c7_i32_351 : BitVec 32 := 7#32
  let v669 : BitVec 32 := Scalar.addi v668 c7_i32_351
  let c1_i32_353 : BitVec 32 := 1#32
  let v671 : BitVec 32 := Scalar.shrsi v669 c1_i32_353
  let c128_i32_354 : BitVec 32 := 128#32
  let v672 : BitVec 32 := Scalar.muli v671 c128_i32_354
  v672
def k0_mult218 : BitVec 32 :=
  let c7360_i32 : BitVec 32 := 7360#32
  c7360_i32
def k0_mult219 : BitVec 32 :=
  let c120_i32_363 : BitVec 32 := 120#32
  let c0_i32_362 : BitVec 32 := 0#32
  let c111_i32 : BitVec 32 := 111#32
  let v689 : BitVec 32 := Scalar.maxsi c0_i32_362 c111_i32
  let v690 : BitVec 32 := Scalar.minsi c120_i32_363 v689
  let c64_i32_367 : BitVec 32 := 64#32
  let v699 : BitVec 32 := Scalar.muli v690 c64_i32_367
  v699
def k0_mult220 : BitVec 32 :=
  let c120_i32_363 : BitVec 32 := 120#32
  let c0_i32_362 : BitVec 32 := 0#32
  let c111_i32 : BitVec 32 := 111#32
  let v689 : BitVec 32 := Scalar.maxsi c0_i32_362 c111_i32
  let v690 : BitVec 32 := Scalar.minsi c120_i32_363 v689
  let c115_i32 : BitVec 32 := 115#32
  let v704 : BitVec 32 := Scalar.subi v690 c115_i32
  let c7_i32_370 : BitVec 32 := 7#32
  let v705 : BitVec 32 := Scalar.addi v704 c7_i32_370
  let c1_i32_372 : BitVec 32 := 1#32
  let v707 : BitVec 32 := Scalar.shrsi v705 c1_i32_372
  let c128_i32_373 : BitVec 32 := 128#32
  let v708 : BitVec 32 := Scalar.muli v707 c128_i32_373
  v708
def k0_mult221 : BitVec 32 :=
  let c7424_i32 : BitVec 32 := 7424#32
  c7424_i32
def k0_mult222 : BitVec 32 :=
  let c120_i32_383 : BitVec 32 := 120#32
  let c0_i32_382 : BitVec 32 := 0#32
  let c112_i32_381 : BitVec 32 := 112#32
  let v725 : BitVec 32 := Scalar.maxsi c0_i32_382 c112_i32_381
  let v726 : BitVec 32 := Scalar.minsi c120_i32_383 v725
  let c64_i32_387 : BitVec 32 := 64#32
  let v735 : BitVec 32 := Scalar.muli v726 c64_i32_387
  v735
def k0_mult223 : BitVec 32 :=
  let c120_i32_383 : BitVec 32 := 120#32
  let c0_i32_382 : BitVec 32 := 0#32
  let c112_i32_381 : BitVec 32 := 112#32
  let v725 : BitVec 32 := Scalar.maxsi c0_i32_382 c112_i32_381
  let v726 : BitVec 32 := Scalar.minsi c120_i32_383 v725
  let c116_i32 : BitVec 32 := 116#32
  let v740 : BitVec 32 := Scalar.subi v726 c116_i32
  let c7_i32_390 : BitVec 32 := 7#32
  let v741 : BitVec 32 := Scalar.addi v740 c7_i32_390
  let c1_i32_392 : BitVec 32 := 1#32
  let v743 : BitVec 32 := Scalar.shrsi v741 c1_i32_392
  let c128_i32_393 : BitVec 32 := 128#32
  let v744 : BitVec 32 := Scalar.muli v743 c128_i32_393
  v744
def k0_mult224 : BitVec 32 :=
  let c7488_i32 : BitVec 32 := 7488#32
  c7488_i32
def k0_mult225 : BitVec 32 :=
  let c120_i32_403 : BitVec 32 := 120#32
  let c0_i32_402 : BitVec 32 := 0#32
  let c113_i32_401 : BitVec 32 := 113#32
  let v761 : BitVec 32 := Scalar.maxsi c0_i32_402 c113_i32_401
  let v762 : BitVec 32 := Scalar.minsi c120_i32_403 v761
  let c64_i32_407 : BitVec 32 := 64#32
  let v771 : BitVec 32 := Scalar.muli v762 c64_i32_407
  v771
def k0_mult226 : BitVec 32 :=
  let c120_i32_403 : BitVec 32 := 120#32
  let c0_i32_402 : BitVec 32 := 0#32
  let c113_i32_401 : BitVec 32 := 113#32
  let v761 : BitVec 32 := Scalar.maxsi c0_i32_402 c113_i32_401
  let v762 : BitVec 32 := Scalar.minsi c120_i32_403 v761
  let c117_i32 : BitVec 32 := 117#32
  let v776 : BitVec 32 := Scalar.subi v762 c117_i32
  let c7_i32_410 : BitVec 32 := 7#32
  let v777 : BitVec 32 := Scalar.addi v776 c7_i32_410
  let c1_i32_412 : BitVec 32 := 1#32
  let v779 : BitVec 32 := Scalar.shrsi v777 c1_i32_412
  let c128_i32_413 : BitVec 32 := 128#32
  let v780 : BitVec 32 := Scalar.muli v779 c128_i32_413
  v780
def k0_mult227 : BitVec 32 :=
  let c7552_i32 : BitVec 32 := 7552#32
  c7552_i32
def k0_mult228 : BitVec 32 :=
  let c120_i32_423 : BitVec 32 := 120#32
  let c0_i32_422 : BitVec 32 := 0#32
  let c114_i32_421 : BitVec 32 := 114#32
  let v797 : BitVec 32 := Scalar.maxsi c0_i32_422 c114_i32_421
  let v798 : BitVec 32 := Scalar.minsi c120_i32_423 v797
  let c64_i32_427 : BitVec 32 := 64#32
  let v807 : BitVec 32 := Scalar.muli v798 c64_i32_427
  v807
def k0_mult229 : BitVec 32 :=
  let c120_i32_423 : BitVec 32 := 120#32
  let c0_i32_422 : BitVec 32 := 0#32
  let c114_i32_421 : BitVec 32 := 114#32
  let v797 : BitVec 32 := Scalar.maxsi c0_i32_422 c114_i32_421
  let v798 : BitVec 32 := Scalar.minsi c120_i32_423 v797
  let c118_i32 : BitVec 32 := 118#32
  let v812 : BitVec 32 := Scalar.subi v798 c118_i32
  let c7_i32_430 : BitVec 32 := 7#32
  let v813 : BitVec 32 := Scalar.addi v812 c7_i32_430
  let c1_i32_432 : BitVec 32 := 1#32
  let v815 : BitVec 32 := Scalar.shrsi v813 c1_i32_432
  let c128_i32_433 : BitVec 32 := 128#32
  let v816 : BitVec 32 := Scalar.muli v815 c128_i32_433
  v816
def k0_mult230 : BitVec 32 :=
  let c7616_i32 : BitVec 32 := 7616#32
  c7616_i32
def k0_mult231 : BitVec 32 :=
  let c120_i32_443 : BitVec 32 := 120#32
  let c0_i32_442 : BitVec 32 := 0#32
  let c115_i32_441 : BitVec 32 := 115#32
  let v833 : BitVec 32 := Scalar.maxsi c0_i32_442 c115_i32_441
  let v834 : BitVec 32 := Scalar.minsi c120_i32_443 v833
  let c64_i32_447 : BitVec 32 := 64#32
  let v843 : BitVec 32 := Scalar.muli v834 c64_i32_447
  v843
def k0_mult232 : BitVec 32 :=
  let c120_i32_443 : BitVec 32 := 120#32
  let c0_i32_442 : BitVec 32 := 0#32
  let c115_i32_441 : BitVec 32 := 115#32
  let v833 : BitVec 32 := Scalar.maxsi c0_i32_442 c115_i32_441
  let v834 : BitVec 32 := Scalar.minsi c120_i32_443 v833
  let c119_i32 : BitVec 32 := 119#32
  let v848 : BitVec 32 := Scalar.subi v834 c119_i32
  let c7_i32_450 : BitVec 32 := 7#32
  let v849 : BitVec 32 := Scalar.addi v848 c7_i32_450
  let c1_i32_452 : BitVec 32 := 1#32
  let v851 : BitVec 32 := Scalar.shrsi v849 c1_i32_452
  let c128_i32_453 : BitVec 32 := 128#32
  let v852 : BitVec 32 := Scalar.muli v851 c128_i32_453
  v852
def k0_mult233 : BitVec 32 :=
  let c7680_i32 : BitVec 32 := 7680#32
  c7680_i32
def k0_mult234 : BitVec 32 :=
  let c120_i32_463 : BitVec 32 := 120#32
  let c0_i32_462 : BitVec 32 := 0#32
  let c116_i32_461 : BitVec 32 := 116#32
  let v869 : BitVec 32 := Scalar.maxsi c0_i32_462 c116_i32_461
  let v870 : BitVec 32 := Scalar.minsi c120_i32_463 v869
  let c64_i32_467 : BitVec 32 := 64#32
  let v879 : BitVec 32 := Scalar.muli v870 c64_i32_467
  v879
def k0_mult235 : BitVec 32 :=
  let c120_i32_463 : BitVec 32 := 120#32
  let c0_i32_462 : BitVec 32 := 0#32
  let c116_i32_461 : BitVec 32 := 116#32
  let v869 : BitVec 32 := Scalar.maxsi c0_i32_462 c116_i32_461
  let v870 : BitVec 32 := Scalar.minsi c120_i32_463 v869
  let c120_i32_470 : BitVec 32 := 120#32
  let v884 : BitVec 32 := Scalar.subi v870 c120_i32_470
  let c7_i32_471 : BitVec 32 := 7#32
  let v885 : BitVec 32 := Scalar.addi v884 c7_i32_471
  let c1_i32_473 : BitVec 32 := 1#32
  let v887 : BitVec 32 := Scalar.shrsi v885 c1_i32_473
  let c128_i32_474 : BitVec 32 := 128#32
  let v888 : BitVec 32 := Scalar.muli v887 c128_i32_474
  v888
def k0_mult236 : BitVec 32 :=
  let c7744_i32 : BitVec 32 := 7744#32
  c7744_i32
def k0_mult237 : BitVec 32 :=
  let c120_i32_484 : BitVec 32 := 120#32
  let c0_i32_483 : BitVec 32 := 0#32
  let c117_i32_482 : BitVec 32 := 117#32
  let v905 : BitVec 32 := Scalar.maxsi c0_i32_483 c117_i32_482
  let v906 : BitVec 32 := Scalar.minsi c120_i32_484 v905
  let c64_i32_488 : BitVec 32 := 64#32
  let v915 : BitVec 32 := Scalar.muli v906 c64_i32_488
  v915
def k0_mult238 : BitVec 32 :=
  let c120_i32_484 : BitVec 32 := 120#32
  let c0_i32_483 : BitVec 32 := 0#32
  let c117_i32_482 : BitVec 32 := 117#32
  let v905 : BitVec 32 := Scalar.maxsi c0_i32_483 c117_i32_482
  let v906 : BitVec 32 := Scalar.minsi c120_i32_484 v905
  let c121_i32 : BitVec 32 := 121#32
  let v920 : BitVec 32 := Scalar.subi v906 c121_i32
  let c7_i32_491 : BitVec 32 := 7#32
  let v921 : BitVec 32 := Scalar.addi v920 c7_i32_491
  let c1_i32_493 : BitVec 32 := 1#32
  let v923 : BitVec 32 := Scalar.shrsi v921 c1_i32_493
  let c128_i32_494 : BitVec 32 := 128#32
  let v924 : BitVec 32 := Scalar.muli v923 c128_i32_494
  v924
def k0_mult239 : BitVec 32 :=
  let c7808_i32 : BitVec 32 := 7808#32
  c7808_i32
def k0_mult240 : BitVec 32 :=
  let c120_i32_504 : BitVec 32 := 120#32
  let c0_i32_503 : BitVec 32 := 0#32
  let c118_i32_502 : BitVec 32 := 118#32
  let v941 : BitVec 32 := Scalar.maxsi c0_i32_503 c118_i32_502
  let v942 : BitVec 32 := Scalar.minsi c120_i32_504 v941
  let c64_i32_508 : BitVec 32 := 64#32
  let v951 : BitVec 32 := Scalar.muli v942 c64_i32_508
  v951
def k0_mult241 : BitVec 32 :=
  let c120_i32_504 : BitVec 32 := 120#32
  let c0_i32_503 : BitVec 32 := 0#32
  let c118_i32_502 : BitVec 32 := 118#32
  let v941 : BitVec 32 := Scalar.maxsi c0_i32_503 c118_i32_502
  let v942 : BitVec 32 := Scalar.minsi c120_i32_504 v941
  let c122_i32 : BitVec 32 := 122#32
  let v956 : BitVec 32 := Scalar.subi v942 c122_i32
  let c7_i32_511 : BitVec 32 := 7#32
  let v957 : BitVec 32 := Scalar.addi v956 c7_i32_511
  let c1_i32_513 : BitVec 32 := 1#32
  let v959 : BitVec 32 := Scalar.shrsi v957 c1_i32_513
  let c128_i32_514 : BitVec 32 := 128#32
  let v960 : BitVec 32 := Scalar.muli v959 c128_i32_514
  v960
def k0_mult242 : BitVec 32 :=
  let c7872_i32 : BitVec 32 := 7872#32
  c7872_i32
def k0_mult243 : BitVec 32 :=
  let c120_i32_524 : BitVec 32 := 120#32
  let c0_i32_523 : BitVec 32 := 0#32
  let c119_i32_522 : BitVec 32 := 119#32
  let v977 : BitVec 32 := Scalar.maxsi c0_i32_523 c119_i32_522
  let v978 : BitVec 32 := Scalar.minsi c120_i32_524 v977
  let c64_i32_528 : BitVec 32 := 64#32
  let v987 : BitVec 32 := Scalar.muli v978 c64_i32_528
  v987
def k0_mult244 : BitVec 32 :=
  let c120_i32_524 : BitVec 32 := 120#32
  let c0_i32_523 : BitVec 32 := 0#32
  let c119_i32_522 : BitVec 32 := 119#32
  let v977 : BitVec 32 := Scalar.maxsi c0_i32_523 c119_i32_522
  let v978 : BitVec 32 := Scalar.minsi c120_i32_524 v977
  let c123_i32 : BitVec 32 := 123#32
  let v992 : BitVec 32 := Scalar.subi v978 c123_i32
  let c7_i32_531 : BitVec 32 := 7#32
  let v993 : BitVec 32 := Scalar.addi v992 c7_i32_531
  let c1_i32_533 : BitVec 32 := 1#32
  let v995 : BitVec 32 := Scalar.shrsi v993 c1_i32_533
  let c128_i32_534 : BitVec 32 := 128#32
  let v996 : BitVec 32 := Scalar.muli v995 c128_i32_534
  v996
def k0_mult245 : BitVec 32 :=
  let c7936_i32 : BitVec 32 := 7936#32
  c7936_i32
def k0_mult246 : BitVec 32 :=
  let c120_i32_544 : BitVec 32 := 120#32
  let c0_i32_543 : BitVec 32 := 0#32
  let c120_i32_542 : BitVec 32 := 120#32
  let v1013 : BitVec 32 := Scalar.maxsi c0_i32_543 c120_i32_542
  let v1014 : BitVec 32 := Scalar.minsi c120_i32_544 v1013
  let c64_i32_548 : BitVec 32 := 64#32
  let v1023 : BitVec 32 := Scalar.muli v1014 c64_i32_548
  v1023
def k0_mult247 : BitVec 32 :=
  let c120_i32_544 : BitVec 32 := 120#32
  let c0_i32_543 : BitVec 32 := 0#32
  let c120_i32_542 : BitVec 32 := 120#32
  let v1013 : BitVec 32 := Scalar.maxsi c0_i32_543 c120_i32_542
  let v1014 : BitVec 32 := Scalar.minsi c120_i32_544 v1013
  let c124_i32 : BitVec 32 := 124#32
  let v1028 : BitVec 32 := Scalar.subi v1014 c124_i32
  let c7_i32_551 : BitVec 32 := 7#32
  let v1029 : BitVec 32 := Scalar.addi v1028 c7_i32_551
  let c1_i32_553 : BitVec 32 := 1#32
  let v1031 : BitVec 32 := Scalar.shrsi v1029 c1_i32_553
  let c128_i32_554 : BitVec 32 := 128#32
  let v1032 : BitVec 32 := Scalar.muli v1031 c128_i32_554
  v1032
def k0_mult248 : BitVec 32 :=
  let c8000_i32 : BitVec 32 := 8000#32
  c8000_i32
def k0_mult249 : BitVec 32 :=
  let c120_i32_564 : BitVec 32 := 120#32
  let c0_i32_563 : BitVec 32 := 0#32
  let c121_i32_562 : BitVec 32 := 121#32
  let v1049 : BitVec 32 := Scalar.maxsi c0_i32_563 c121_i32_562
  let v1050 : BitVec 32 := Scalar.minsi c120_i32_564 v1049
  let c64_i32_568 : BitVec 32 := 64#32
  let v1059 : BitVec 32 := Scalar.muli v1050 c64_i32_568
  v1059
def k0_mult250 : BitVec 32 :=
  let c120_i32_564 : BitVec 32 := 120#32
  let c0_i32_563 : BitVec 32 := 0#32
  let c121_i32_562 : BitVec 32 := 121#32
  let v1049 : BitVec 32 := Scalar.maxsi c0_i32_563 c121_i32_562
  let v1050 : BitVec 32 := Scalar.minsi c120_i32_564 v1049
  let c125_i32 : BitVec 32 := 125#32
  let v1064 : BitVec 32 := Scalar.subi v1050 c125_i32
  let c7_i32_571 : BitVec 32 := 7#32
  let v1065 : BitVec 32 := Scalar.addi v1064 c7_i32_571
  let c1_i32_573 : BitVec 32 := 1#32
  let v1067 : BitVec 32 := Scalar.shrsi v1065 c1_i32_573
  let c128_i32_574 : BitVec 32 := 128#32
  let v1068 : BitVec 32 := Scalar.muli v1067 c128_i32_574
  v1068
def k0_mult251 : BitVec 32 :=
  let c8064_i32 : BitVec 32 := 8064#32
  c8064_i32
def k0_mult252 : BitVec 32 :=
  let c120_i32_584 : BitVec 32 := 120#32
  let c0_i32_583 : BitVec 32 := 0#32
  let c122_i32_582 : BitVec 32 := 122#32
  let v1085 : BitVec 32 := Scalar.maxsi c0_i32_583 c122_i32_582
  let v1086 : BitVec 32 := Scalar.minsi c120_i32_584 v1085
  let c64_i32_588 : BitVec 32 := 64#32
  let v1095 : BitVec 32 := Scalar.muli v1086 c64_i32_588
  v1095
def k0_mult253 : BitVec 32 :=
  let c120_i32_584 : BitVec 32 := 120#32
  let c0_i32_583 : BitVec 32 := 0#32
  let c122_i32_582 : BitVec 32 := 122#32
  let v1085 : BitVec 32 := Scalar.maxsi c0_i32_583 c122_i32_582
  let v1086 : BitVec 32 := Scalar.minsi c120_i32_584 v1085
  let c126_i32 : BitVec 32 := 126#32
  let v1100 : BitVec 32 := Scalar.subi v1086 c126_i32
  let c7_i32_591 : BitVec 32 := 7#32
  let v1101 : BitVec 32 := Scalar.addi v1100 c7_i32_591
  let c1_i32_593 : BitVec 32 := 1#32
  let v1103 : BitVec 32 := Scalar.shrsi v1101 c1_i32_593
  let c128_i32_594 : BitVec 32 := 128#32
  let v1104 : BitVec 32 := Scalar.muli v1103 c128_i32_594
  v1104
def k0_mult254 : BitVec 32 :=
  let c8128_i32 : BitVec 32 := 8128#32
  c8128_i32
def k0_mult255 : BitVec 32 :=
  let c120_i32_604 : BitVec 32 := 120#32
  let c0_i32_603 : BitVec 32 := 0#32
  let c123_i32_602 : BitVec 32 := 123#32
  let v1121 : BitVec 32 := Scalar.maxsi c0_i32_603 c123_i32_602
  let v1122 : BitVec 32 := Scalar.minsi c120_i32_604 v1121
  let c64_i32_608 : BitVec 32 := 64#32
  let v1131 : BitVec 32 := Scalar.muli v1122 c64_i32_608
  v1131
def k0_mult256 : BitVec 32 :=
  let c120_i32_604 : BitVec 32 := 120#32
  let c0_i32_603 : BitVec 32 := 0#32
  let c123_i32_602 : BitVec 32 := 123#32
  let v1121 : BitVec 32 := Scalar.maxsi c0_i32_603 c123_i32_602
  let v1122 : BitVec 32 := Scalar.minsi c120_i32_604 v1121
  let c127_i32 : BitVec 32 := 127#32
  let v1136 : BitVec 32 := Scalar.subi v1122 c127_i32
  let c7_i32_611 : BitVec 32 := 7#32
  let v1137 : BitVec 32 := Scalar.addi v1136 c7_i32_611
  let c1_i32_613 : BitVec 32 := 1#32
  let v1139 : BitVec 32 := Scalar.shrsi v1137 c1_i32_613
  let c128_i32_614 : BitVec 32 := 128#32
  let v1140 : BitVec 32 := Scalar.muli v1139 c128_i32_614
  v1140
def k0_mult257 : BitVec 32 :=
  let c120_i32_623 : BitVec 32 := 120#32
  let c0_i32_622 : BitVec 32 := 0#32
  let c92_i32 : BitVec 32 := 92#32
  let v1157 : BitVec 32 := Scalar.maxsi c0_i32_622 c92_i32
  let v1158 : BitVec 32 := Scalar.minsi c120_i32_623 v1157
  let c64_i32_624 : BitVec 32 := 64#32
  let v1159 : BitVec 32 := Scalar.muli v1158 c64_i32_624
  v1159
def k0_mult258 : BitVec 32 :=
  let c6144_i32 : BitVec 32 := 6144#32
  c6144_i32
def k0_mult259 : BitVec 32 :=
  let c120_i32_634 : BitVec 32 := 120#32
  let c0_i32_633 : BitVec 32 := 0#32
  let c93_i32 : BitVec 32 := 93#32
  let v1180 : BitVec 32 := Scalar.maxsi c0_i32_633 c93_i32
  let v1181 : BitVec 32 := Scalar.minsi c120_i32_634 v1180
  let c64_i32_635 : BitVec 32 := 64#32
  let v1182 : BitVec 32 := Scalar.muli v1181 c64_i32_635
  v1182
def k0_mult260 : BitVec 32 :=
  let c6208_i32 : BitVec 32 := 6208#32
  c6208_i32
def k0_mult261 : BitVec 32 :=
  let c120_i32_645 : BitVec 32 := 120#32
  let c0_i32_644 : BitVec 32 := 0#32
  let c94_i32 : BitVec 32 := 94#32
  let v1203 : BitVec 32 := Scalar.maxsi c0_i32_644 c94_i32
  let v1204 : BitVec 32 := Scalar.minsi c120_i32_645 v1203
  let c64_i32_646 : BitVec 32 := 64#32
  let v1205 : BitVec 32 := Scalar.muli v1204 c64_i32_646
  v1205
def k0_mult262 : BitVec 32 :=
  let c6272_i32 : BitVec 32 := 6272#32
  c6272_i32
def k0_mult263 : BitVec 32 :=
  let c120_i32_656 : BitVec 32 := 120#32
  let c0_i32_655 : BitVec 32 := 0#32
  let c95_i32 : BitVec 32 := 95#32
  let v1226 : BitVec 32 := Scalar.maxsi c0_i32_655 c95_i32
  let v1227 : BitVec 32 := Scalar.minsi c120_i32_656 v1226
  let c64_i32_657 : BitVec 32 := 64#32
  let v1228 : BitVec 32 := Scalar.muli v1227 c64_i32_657
  v1228
def k0_mult264 : BitVec 32 :=
  let c6336_i32 : BitVec 32 := 6336#32
  c6336_i32
def k0_mult265 : BitVec 32 :=
  let c120_i32_667 : BitVec 32 := 120#32
  let c0_i32_666 : BitVec 32 := 0#32
  let c96_i32 : BitVec 32 := 96#32
  let v1249 : BitVec 32 := Scalar.maxsi c0_i32_666 c96_i32
  let v1250 : BitVec 32 := Scalar.minsi c120_i32_667 v1249
  let c64_i32_668 : BitVec 32 := 64#32
  let v1251 : BitVec 32 := Scalar.muli v1250 c64_i32_668
  v1251
def k0_mult266 : BitVec 32 :=
  let c6400_i32 : BitVec 32 := 6400#32
  c6400_i32
def k0_mult267 : BitVec 32 :=
  let c120_i32_678 : BitVec 32 := 120#32
  let c0_i32_677 : BitVec 32 := 0#32
  let c97_i32 : BitVec 32 := 97#32
  let v1272 : BitVec 32 := Scalar.maxsi c0_i32_677 c97_i32
  let v1273 : BitVec 32 := Scalar.minsi c120_i32_678 v1272
  let c64_i32_679 : BitVec 32 := 64#32
  let v1274 : BitVec 32 := Scalar.muli v1273 c64_i32_679
  v1274
def k0_mult268 : BitVec 32 :=
  let c6464_i32 : BitVec 32 := 6464#32
  c6464_i32
def k0_mult269 : BitVec 32 :=
  let c120_i32_689 : BitVec 32 := 120#32
  let c0_i32_688 : BitVec 32 := 0#32
  let c98_i32 : BitVec 32 := 98#32
  let v1295 : BitVec 32 := Scalar.maxsi c0_i32_688 c98_i32
  let v1296 : BitVec 32 := Scalar.minsi c120_i32_689 v1295
  let c64_i32_690 : BitVec 32 := 64#32
  let v1297 : BitVec 32 := Scalar.muli v1296 c64_i32_690
  v1297
def k0_mult270 : BitVec 32 :=
  let c6528_i32 : BitVec 32 := 6528#32
  c6528_i32
def k0_mult271 : BitVec 32 :=
  let c120_i32_700 : BitVec 32 := 120#32
  let c0_i32_699 : BitVec 32 := 0#32
  let c99_i32 : BitVec 32 := 99#32
  let v1318 : BitVec 32 := Scalar.maxsi c0_i32_699 c99_i32
  let v1319 : BitVec 32 := Scalar.minsi c120_i32_700 v1318
  let c64_i32_701 : BitVec 32 := 64#32
  let v1320 : BitVec 32 := Scalar.muli v1319 c64_i32_701
  v1320
def k0_mult272 : BitVec 32 :=
  let c6592_i32 : BitVec 32 := 6592#32
  c6592_i32
def k0_mult273 : BitVec 32 :=
  let c120_i32_711 : BitVec 32 := 120#32
  let c0_i32_710 : BitVec 32 := 0#32
  let c100_i32 : BitVec 32 := 100#32
  let v1341 : BitVec 32 := Scalar.maxsi c0_i32_710 c100_i32
  let v1342 : BitVec 32 := Scalar.minsi c120_i32_711 v1341
  let c64_i32_712 : BitVec 32 := 64#32
  let v1343 : BitVec 32 := Scalar.muli v1342 c64_i32_712
  v1343
def k0_mult274 : BitVec 32 :=
  let c6656_i32 : BitVec 32 := 6656#32
  c6656_i32
def k0_mult275 : BitVec 32 :=
  let c120_i32_722 : BitVec 32 := 120#32
  let c0_i32_721 : BitVec 32 := 0#32
  let c101_i32 : BitVec 32 := 101#32
  let v1364 : BitVec 32 := Scalar.maxsi c0_i32_721 c101_i32
  let v1365 : BitVec 32 := Scalar.minsi c120_i32_722 v1364
  let c64_i32_723 : BitVec 32 := 64#32
  let v1366 : BitVec 32 := Scalar.muli v1365 c64_i32_723
  v1366
def k0_mult276 : BitVec 32 :=
  let c6720_i32 : BitVec 32 := 6720#32
  c6720_i32
def k0_mult277 : BitVec 32 :=
  let c120_i32_733 : BitVec 32 := 120#32
  let c0_i32_732 : BitVec 32 := 0#32
  let c102_i32 : BitVec 32 := 102#32
  let v1387 : BitVec 32 := Scalar.maxsi c0_i32_732 c102_i32
  let v1388 : BitVec 32 := Scalar.minsi c120_i32_733 v1387
  let c64_i32_734 : BitVec 32 := 64#32
  let v1389 : BitVec 32 := Scalar.muli v1388 c64_i32_734
  v1389
def k0_mult278 : BitVec 32 :=
  let c6784_i32 : BitVec 32 := 6784#32
  c6784_i32
def k0_mult279 : BitVec 32 :=
  let c120_i32_744 : BitVec 32 := 120#32
  let c0_i32_743 : BitVec 32 := 0#32
  let c103_i32 : BitVec 32 := 103#32
  let v1410 : BitVec 32 := Scalar.maxsi c0_i32_743 c103_i32
  let v1411 : BitVec 32 := Scalar.minsi c120_i32_744 v1410
  let c64_i32_745 : BitVec 32 := 64#32
  let v1412 : BitVec 32 := Scalar.muli v1411 c64_i32_745
  v1412
def k0_mult280 : BitVec 32 :=
  let c6848_i32 : BitVec 32 := 6848#32
  c6848_i32
def k0_mult281 : BitVec 32 :=
  let c120_i32_755 : BitVec 32 := 120#32
  let c0_i32_754 : BitVec 32 := 0#32
  let c104_i32 : BitVec 32 := 104#32
  let v1433 : BitVec 32 := Scalar.maxsi c0_i32_754 c104_i32
  let v1434 : BitVec 32 := Scalar.minsi c120_i32_755 v1433
  let c64_i32_756 : BitVec 32 := 64#32
  let v1435 : BitVec 32 := Scalar.muli v1434 c64_i32_756
  v1435
def k0_mult282 : BitVec 32 :=
  let c6912_i32 : BitVec 32 := 6912#32
  c6912_i32
def k0_mult283 : BitVec 32 :=
  let c120_i32_766 : BitVec 32 := 120#32
  let c0_i32_765 : BitVec 32 := 0#32
  let c105_i32 : BitVec 32 := 105#32
  let v1456 : BitVec 32 := Scalar.maxsi c0_i32_765 c105_i32
  let v1457 : BitVec 32 := Scalar.minsi c120_i32_766 v1456
  let c64_i32_767 : BitVec 32 := 64#32
  let v1458 : BitVec 32 := Scalar.muli v1457 c64_i32_767
  v1458
def k0_mult284 : BitVec 32 :=
  let c6976_i32 : BitVec 32 := 6976#32
  c6976_i32
def k0_mult285 : BitVec 32 :=
  let c120_i32_777 : BitVec 32 := 120#32
  let c0_i32_776 : BitVec 32 := 0#32
  let c106_i32 : BitVec 32 := 106#32
  let v1479 : BitVec 32 := Scalar.maxsi c0_i32_776 c106_i32
  let v1480 : BitVec 32 := Scalar.minsi c120_i32_777 v1479
  let c64_i32_778 : BitVec 32 := 64#32
  let v1481 : BitVec 32 := Scalar.muli v1480 c64_i32_778
  v1481
def k0_mult286 : BitVec 32 :=
  let c7040_i32 : BitVec 32 := 7040#32
  c7040_i32
def k0_mult287 : BitVec 32 :=
  let c120_i32_788 : BitVec 32 := 120#32
  let c0_i32_787 : BitVec 32 := 0#32
  let c107_i32 : BitVec 32 := 107#32
  let v1502 : BitVec 32 := Scalar.maxsi c0_i32_787 c107_i32
  let v1503 : BitVec 32 := Scalar.minsi c120_i32_788 v1502
  let c64_i32_789 : BitVec 32 := 64#32
  let v1504 : BitVec 32 := Scalar.muli v1503 c64_i32_789
  v1504
def k0_mult288 : BitVec 32 :=
  let c7104_i32 : BitVec 32 := 7104#32
  c7104_i32
def k0_mult289 : BitVec 32 :=
  let c120_i32_800 : BitVec 32 := 120#32
  let c0_i32_799 : BitVec 32 := 0#32
  let c108_i32_798 : BitVec 32 := 108#32
  let v1525 : BitVec 32 := Scalar.maxsi c0_i32_799 c108_i32_798
  let v1526 : BitVec 32 := Scalar.minsi c120_i32_800 v1525
  let c64_i32_801 : BitVec 32 := 64#32
  let v1527 : BitVec 32 := Scalar.muli v1526 c64_i32_801
  v1527
def k0_mult290 : BitVec 32 :=
  let c7168_i32_808 : BitVec 32 := 7168#32
  c7168_i32_808
def k0_mult291 : BitVec 32 :=
  let c120_i32_813 : BitVec 32 := 120#32
  let c0_i32_812 : BitVec 32 := 0#32
  let c109_i32_811 : BitVec 32 := 109#32
  let v1548 : BitVec 32 := Scalar.maxsi c0_i32_812 c109_i32_811
  let v1549 : BitVec 32 := Scalar.minsi c120_i32_813 v1548
  let c64_i32_814 : BitVec 32 := 64#32
  let v1550 : BitVec 32 := Scalar.muli v1549 c64_i32_814
  v1550
def k0_mult292 : BitVec 32 :=
  let c7232_i32_821 : BitVec 32 := 7232#32
  c7232_i32_821
def k0_mult293 : BitVec 32 :=
  let c120_i32_826 : BitVec 32 := 120#32
  let c0_i32_825 : BitVec 32 := 0#32
  let c110_i32_824 : BitVec 32 := 110#32
  let v1571 : BitVec 32 := Scalar.maxsi c0_i32_825 c110_i32_824
  let v1572 : BitVec 32 := Scalar.minsi c120_i32_826 v1571
  let c64_i32_827 : BitVec 32 := 64#32
  let v1573 : BitVec 32 := Scalar.muli v1572 c64_i32_827
  v1573
def k0_mult294 : BitVec 32 :=
  let c7296_i32_834 : BitVec 32 := 7296#32
  c7296_i32_834
def k0_mult295 : BitVec 32 :=
  let c120_i32_839 : BitVec 32 := 120#32
  let c0_i32_838 : BitVec 32 := 0#32
  let c111_i32_837 : BitVec 32 := 111#32
  let v1594 : BitVec 32 := Scalar.maxsi c0_i32_838 c111_i32_837
  let v1595 : BitVec 32 := Scalar.minsi c120_i32_839 v1594
  let c64_i32_840 : BitVec 32 := 64#32
  let v1596 : BitVec 32 := Scalar.muli v1595 c64_i32_840
  v1596
def k0_mult296 : BitVec 32 :=
  let c7360_i32_847 : BitVec 32 := 7360#32
  c7360_i32_847
def k0_mult297 : BitVec 32 :=
  let c120_i32_852 : BitVec 32 := 120#32
  let c0_i32_851 : BitVec 32 := 0#32
  let c112_i32_850 : BitVec 32 := 112#32
  let v1617 : BitVec 32 := Scalar.maxsi c0_i32_851 c112_i32_850
  let v1618 : BitVec 32 := Scalar.minsi c120_i32_852 v1617
  let c64_i32_853 : BitVec 32 := 64#32
  let v1619 : BitVec 32 := Scalar.muli v1618 c64_i32_853
  v1619
def k0_mult298 : BitVec 32 :=
  let c7424_i32_860 : BitVec 32 := 7424#32
  c7424_i32_860
def k0_mult299 : BitVec 32 :=
  let c120_i32_865 : BitVec 32 := 120#32
  let c0_i32_864 : BitVec 32 := 0#32
  let c113_i32_863 : BitVec 32 := 113#32
  let v1640 : BitVec 32 := Scalar.maxsi c0_i32_864 c113_i32_863
  let v1641 : BitVec 32 := Scalar.minsi c120_i32_865 v1640
  let c64_i32_866 : BitVec 32 := 64#32
  let v1642 : BitVec 32 := Scalar.muli v1641 c64_i32_866
  v1642
def k0_mult300 : BitVec 32 :=
  let c7488_i32_873 : BitVec 32 := 7488#32
  c7488_i32_873
def k0_mult301 : BitVec 32 :=
  let c120_i32_878 : BitVec 32 := 120#32
  let c0_i32_877 : BitVec 32 := 0#32
  let c114_i32_876 : BitVec 32 := 114#32
  let v1663 : BitVec 32 := Scalar.maxsi c0_i32_877 c114_i32_876
  let v1664 : BitVec 32 := Scalar.minsi c120_i32_878 v1663
  let c64_i32_879 : BitVec 32 := 64#32
  let v1665 : BitVec 32 := Scalar.muli v1664 c64_i32_879
  v1665
def k0_mult302 : BitVec 32 :=
  let c7552_i32_886 : BitVec 32 := 7552#32
  c7552_i32_886
def k0_mult303 : BitVec 32 :=
  let c120_i32_891 : BitVec 32 := 120#32
  let c0_i32_890 : BitVec 32 := 0#32
  let c115_i32_889 : BitVec 32 := 115#32
  let v1686 : BitVec 32 := Scalar.maxsi c0_i32_890 c115_i32_889
  let v1687 : BitVec 32 := Scalar.minsi c120_i32_891 v1686
  let c64_i32_892 : BitVec 32 := 64#32
  let v1688 : BitVec 32 := Scalar.muli v1687 c64_i32_892
  v1688
def k0_mult304 : BitVec 32 :=
  let c7616_i32_899 : BitVec 32 := 7616#32
  c7616_i32_899
def k0_mult305 : BitVec 32 :=
  let c120_i32_904 : BitVec 32 := 120#32
  let c0_i32_903 : BitVec 32 := 0#32
  let c116_i32_902 : BitVec 32 := 116#32
  let v1709 : BitVec 32 := Scalar.maxsi c0_i32_903 c116_i32_902
  let v1710 : BitVec 32 := Scalar.minsi c120_i32_904 v1709
  let c64_i32_905 : BitVec 32 := 64#32
  let v1711 : BitVec 32 := Scalar.muli v1710 c64_i32_905
  v1711
def k0_mult306 : BitVec 32 :=
  let c7680_i32_912 : BitVec 32 := 7680#32
  c7680_i32_912
def k0_mult307 : BitVec 32 :=
  let c120_i32_917 : BitVec 32 := 120#32
  let c0_i32_916 : BitVec 32 := 0#32
  let c117_i32_915 : BitVec 32 := 117#32
  let v1732 : BitVec 32 := Scalar.maxsi c0_i32_916 c117_i32_915
  let v1733 : BitVec 32 := Scalar.minsi c120_i32_917 v1732
  let c64_i32_918 : BitVec 32 := 64#32
  let v1734 : BitVec 32 := Scalar.muli v1733 c64_i32_918
  v1734
def k0_mult308 : BitVec 32 :=
  let c7744_i32_925 : BitVec 32 := 7744#32
  c7744_i32_925
def k0_mult309 : BitVec 32 :=
  let c120_i32_930 : BitVec 32 := 120#32
  let c0_i32_929 : BitVec 32 := 0#32
  let c118_i32_928 : BitVec 32 := 118#32
  let v1755 : BitVec 32 := Scalar.maxsi c0_i32_929 c118_i32_928
  let v1756 : BitVec 32 := Scalar.minsi c120_i32_930 v1755
  let c64_i32_931 : BitVec 32 := 64#32
  let v1757 : BitVec 32 := Scalar.muli v1756 c64_i32_931
  v1757
def k0_mult310 : BitVec 32 :=
  let c7808_i32_938 : BitVec 32 := 7808#32
  c7808_i32_938
def k0_mult311 : BitVec 32 :=
  let c120_i32_943 : BitVec 32 := 120#32
  let c0_i32_942 : BitVec 32 := 0#32
  let c119_i32_941 : BitVec 32 := 119#32
  let v1778 : BitVec 32 := Scalar.maxsi c0_i32_942 c119_i32_941
  let v1779 : BitVec 32 := Scalar.minsi c120_i32_943 v1778
  let c64_i32_944 : BitVec 32 := 64#32
  let v1780 : BitVec 32 := Scalar.muli v1779 c64_i32_944
  v1780
def k0_mult312 : BitVec 32 :=
  let c7872_i32_951 : BitVec 32 := 7872#32
  c7872_i32_951
def k0_mult313 : BitVec 32 :=
  let c120_i32_956 : BitVec 32 := 120#32
  let c0_i32_955 : BitVec 32 := 0#32
  let c120_i32_954 : BitVec 32 := 120#32
  let v1801 : BitVec 32 := Scalar.maxsi c0_i32_955 c120_i32_954
  let v1802 : BitVec 32 := Scalar.minsi c120_i32_956 v1801
  let c64_i32_957 : BitVec 32 := 64#32
  let v1803 : BitVec 32 := Scalar.muli v1802 c64_i32_957
  v1803
def k0_mult314 : BitVec 32 :=
  let c7936_i32_964 : BitVec 32 := 7936#32
  c7936_i32_964
def k0_mult315 : BitVec 32 :=
  let c120_i32_969 : BitVec 32 := 120#32
  let c0_i32_968 : BitVec 32 := 0#32
  let c121_i32_967 : BitVec 32 := 121#32
  let v1824 : BitVec 32 := Scalar.maxsi c0_i32_968 c121_i32_967
  let v1825 : BitVec 32 := Scalar.minsi c120_i32_969 v1824
  let c64_i32_970 : BitVec 32 := 64#32
  let v1826 : BitVec 32 := Scalar.muli v1825 c64_i32_970
  v1826
def k0_mult316 : BitVec 32 :=
  let c8000_i32_977 : BitVec 32 := 8000#32
  c8000_i32_977
def k0_mult317 : BitVec 32 :=
  let c120_i32_982 : BitVec 32 := 120#32
  let c0_i32_981 : BitVec 32 := 0#32
  let c122_i32_980 : BitVec 32 := 122#32
  let v1847 : BitVec 32 := Scalar.maxsi c0_i32_981 c122_i32_980
  let v1848 : BitVec 32 := Scalar.minsi c120_i32_982 v1847
  let c64_i32_983 : BitVec 32 := 64#32
  let v1849 : BitVec 32 := Scalar.muli v1848 c64_i32_983
  v1849
def k0_mult318 : BitVec 32 :=
  let c8064_i32_990 : BitVec 32 := 8064#32
  c8064_i32_990
def k0_mult319 : BitVec 32 :=
  let c120_i32_995 : BitVec 32 := 120#32
  let c0_i32_994 : BitVec 32 := 0#32
  let c123_i32_993 : BitVec 32 := 123#32
  let v1870 : BitVec 32 := Scalar.maxsi c0_i32_994 c123_i32_993
  let v1871 : BitVec 32 := Scalar.minsi c120_i32_995 v1870
  let c64_i32_996 : BitVec 32 := 64#32
  let v1872 : BitVec 32 := Scalar.muli v1871 c64_i32_996
  v1872
def k0_mult320 : BitVec 32 :=
  let c8128_i32_1003 : BitVec 32 := 8128#32
  c8128_i32_1003
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x128x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x8192x512 : Shape := ⟨3, ![2, 8192, 512]⟩
abbrev S1x8x15x31 : Shape := ⟨4, ![1, 8, 15, 31]⟩
abbrev S2x8192x8x64 : Shape := ⟨4, ![2, 8192, 8, 64]⟩
abbrev S128x64x8x16 : Shape := ⟨4, ![128, 64, 8, 16]⟩
abbrev S_ : Shape := ⟨0, ![]⟩
abbrev S1048576 : Shape := ⟨1, ![1048576]⟩
abbrev S1048576x1 : Shape := ⟨2, ![1048576, 1]⟩
abbrev S2x1048576x8x64 : Shape := ⟨4, ![2, 1048576, 8, 64]⟩
abbrev S2x8192x128x8x64 : Shape := ⟨5, ![2, 8192, 128, 8, 64]⟩
abbrev S8x15x31 : Shape := ⟨3, ![8, 15, 31]⟩
abbrev S8x465 : Shape := ⟨2, ![8, 465]⟩
abbrev S8x1048576 : Shape := ⟨2, ![8, 1048576]⟩
abbrev S8x8192x128 : Shape := ⟨3, ![8, 8192, 128]⟩
abbrev S2x8x8192x128 : Shape := ⟨4, ![2, 8, 8192, 128]⟩
abbrev S1x8x8192x128 : Shape := ⟨4, ![1, 8, 8192, 128]⟩
abbrev S2x8x8192 : Shape := ⟨3, ![2, 8, 8192]⟩
abbrev S2x8x8192x1 : Shape := ⟨4, ![2, 8, 8192, 1]⟩

abbrev nBuf : Space → Nat
  | .hbm => 88
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x512, .bf16⟩
  | .hbm, ⟨3, _⟩ => ⟨S1x8x15x31, .f32⟩
  | .hbm, ⟨4, _⟩ => ⟨S2x8192x512, .f32⟩
  | .hbm, ⟨5, _⟩ => ⟨S2x8192x8x64, .f32⟩
  | .hbm, ⟨6, _⟩ => ⟨S2x8192x512, .f32⟩
  | .hbm, ⟨7, _⟩ => ⟨S2x8192x8x64, .f32⟩
  | .hbm, ⟨8, _⟩ => ⟨S2x8192x512, .f32⟩
  | .hbm, ⟨9, _⟩ => ⟨S2x8192x8x64, .f32⟩
  | .hbm, ⟨10, _⟩ => ⟨S128x64x8x16, .i32⟩
  | .hbm, ⟨11, _⟩ => ⟨S128x64x8x16, .i32⟩
  | .hbm, ⟨12, _⟩ => ⟨S128x64x8x16, .i32⟩
  | .hbm, ⟨13, _⟩ => ⟨S128x64x8x16, .i32⟩
  | .hbm, ⟨14, _⟩ => ⟨S_, .i32⟩
  | .hbm, ⟨15, _⟩ => ⟨S128x64x8x16, .i32⟩
  | .hbm, ⟨16, _⟩ => ⟨S128x64x8x16, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S128x64x8x16, .i32⟩
  | .hbm, ⟨21, _⟩ => ⟨S128x64x8x16, .i32⟩
  | .hbm, ⟨22, _⟩ => ⟨S_, .i32⟩
  | .hbm, ⟨23, _⟩ => ⟨S128x64x8x16, .i32⟩
  | .hbm, ⟨24, _⟩ => ⟨S128x64x8x16, .i32⟩
  | .hbm, ⟨25, _⟩ => ⟨S128x64x8x16, .i32⟩
  | .hbm, ⟨26, _⟩ => ⟨S_, .i32⟩
  | .hbm, ⟨27, _⟩ => ⟨S128x64x8x16, .i32⟩
  | .hbm, ⟨28, _⟩ => ⟨S128x64x8x16, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S128x64x8x16, .i32⟩
  | .hbm, ⟨33, _⟩ => ⟨S128x64x8x16, .i32⟩
  | .hbm, ⟨34, _⟩ => ⟨S_, .i32⟩
  | .hbm, ⟨35, _⟩ => ⟨S128x64x8x16, .i32⟩
  | .hbm, ⟨36, _⟩ => ⟨S128x64x8x16, .i32⟩
  | .hbm, ⟨37, _⟩ => ⟨S128x64x8x16, .i32⟩
  | .hbm, ⟨38, _⟩ => ⟨S_, .i32⟩
  | .hbm, ⟨39, _⟩ => ⟨S128x64x8x16, .i32⟩
  | .hbm, ⟨40, _⟩ => ⟨S128x64x8x16, .i32⟩
  | .hbm, ⟨41, _⟩ => ⟨S128x64x8x16, .i32⟩
  | .hbm, ⟨42, _⟩ => ⟨S1048576, .i32⟩
  | .hbm, ⟨43, _⟩ => ⟨S128x64x8x16, .i32⟩
  | .hbm, ⟨44, _⟩ => ⟨S_, .i32⟩
  | .hbm, ⟨45, _⟩ => ⟨S128x64x8x16, .i32⟩
  | .hbm, ⟨46, _⟩ => ⟨S128x64x8x16, .i32⟩
  | .hbm, ⟨47, _⟩ => ⟨S_, .i32⟩
  | .hbm, ⟨48, _⟩ => ⟨S128x64x8x16, .i32⟩
  | .hbm, ⟨49, _⟩ => ⟨S128x64x8x16, .i32⟩
  | .hbm, ⟨50, _⟩ => ⟨S128x64x8x16, .i32⟩
  | .hbm, ⟨51, _⟩ => ⟨S_, .i32⟩
  | .hbm, ⟨52, _⟩ => ⟨S128x64x8x16, .i32⟩
  | .hbm, ⟨53, _⟩ => ⟨S128x64x8x16, .i32⟩
  | .hbm, ⟨54, _⟩ => ⟨S128x64x8x16, .i32⟩
  | .hbm, ⟨55, _⟩ => ⟨S1048576, .i32⟩
  | .hbm, ⟨56, _⟩ => ⟨S1048576x1, .i32⟩
  | .hbm, ⟨57, _⟩ => ⟨S2x1048576x8x64, .f32⟩
  | .hbm, ⟨58, _⟩ => ⟨S2x8192x128x8x64, .f32⟩
  | .hbm, ⟨59, _⟩ => ⟨S1048576x1, .i32⟩
  | .hbm, ⟨60, _⟩ => ⟨S2x1048576x8x64, .f32⟩
  | .hbm, ⟨61, _⟩ => ⟨S2x8192x128x8x64, .f32⟩
  | .hbm, ⟨62, _⟩ => ⟨S8x15x31, .f32⟩
  | .hbm, ⟨63, _⟩ => ⟨S8x465, .f32⟩
  | .hbm, ⟨64, _⟩ => ⟨S1048576x1, .i32⟩
  | .hbm, ⟨65, _⟩ => ⟨S8x1048576, .f32⟩
  | .hbm, ⟨66, _⟩ => ⟨S8x8192x128, .f32⟩
  | .hbm, ⟨67, _⟩ => ⟨S2x8x8192x128, .f32⟩
  | .hbm, ⟨68, _⟩ => ⟨S1x8x8192x128, .f32⟩
  | .hbm, ⟨69, _⟩ => ⟨S2x8x8192x128, .f32⟩
  | .hbm, ⟨70, _⟩ => ⟨S2x8x8192x128, .f32⟩
  | .hbm, ⟨71, _⟩ => ⟨S_, .f32⟩
  | .hbm, ⟨72, _⟩ => ⟨S2x8x8192, .f32⟩
  | .hbm, ⟨73, _⟩ => ⟨S_, .f32⟩
  | .hbm, ⟨74, _⟩ => ⟨S2x8x8192, .f32⟩
  | .hbm, ⟨75, _⟩ => ⟨S2x8x8192, .f32⟩
  | .hbm, ⟨76, _⟩ => ⟨S2x8x8192x1, .f32⟩
  | .hbm, ⟨77, _⟩ => ⟨S2x8x8192x128, .f32⟩
  | .hbm, ⟨78, _⟩ => ⟨S2x8x8192x128, .f32⟩
  | .hbm, ⟨79, _⟩ => ⟨S2x8x8192x128, .f32⟩
  | .hbm, ⟨80, _⟩ => ⟨S_, .f32⟩
  | .hbm, ⟨81, _⟩ => ⟨S2x8x8192, .f32⟩
  | .hbm, ⟨82, _⟩ => ⟨S2x8x8192x1, .f32⟩
  | .hbm, ⟨83, _⟩ => ⟨S2x8x8192x128, .f32⟩
  | .hbm, ⟨84, _⟩ => ⟨S2x8x8192x128, .f32⟩
  | .hbm, ⟨85, _⟩ => ⟨S2x8192x8x64, .f32⟩
  | .hbm, ⟨86, _⟩ => ⟨S2x8192x512, .f32⟩
  | .hbm, ⟨87, _⟩ => ⟨S2x8192x512, .bf16⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_c_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call2_v0 : Ref sig .tc := ⟨.hbm, 56, rfl⟩
abbrev main_v32 : Ref sig .tc := ⟨.hbm, 57, rfl⟩
abbrev main_v33 : Ref sig .tc := ⟨.hbm, 58, rfl⟩
abbrev main_call3_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call4_v0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x512 : Shape := ⟨3, ![2, 8192, 512]⟩
abbrev S1x2x8192x256 : Shape := ⟨4, ![1, 2, 8192, 256]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S16384x1024 : Shape := ⟨2, ![16384, 1024]⟩
abbrev S16384x512 : Shape := ⟨2, ![16384, 512]⟩
abbrev S2x8192x256 : Shape := ⟨3, ![2, 8192, 256]⟩
abbrev S16384x256 : Shape := ⟨2, ![16384, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1024x512 : Shape := ⟨2, ![1024, 512]⟩
abbrev S1024x256 : Shape := ⟨2, ![1024, 256]⟩
abbrev S512x1024 : Shape := ⟨2, ![512, 1024]⟩
abbrev S1024x1 : Shape := ⟨2, ![1024, 1]⟩

abbrev nBuf : Space → Nat
  | .hbm => 31
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S1x2x8192x256, .f32⟩
  | .hbm, ⟨4, _⟩ => ⟨S1x1024x1024, .f32⟩
  | .hbm, ⟨5, _⟩ => ⟨S1x1024, .f32⟩
  | .hbm, ⟨6, _⟩ => ⟨S1x1024x4096, .f32⟩
  | .hbm, ⟨7, _⟩ => ⟨S1x4096x1024, .f32⟩
  | .hbm, ⟨8, _⟩ => ⟨S1x1024, .f32⟩
  | .hbm, ⟨9, _⟩ => ⟨S1x1024x1024, .f32⟩
  | .hbm, ⟨10, _⟩ => ⟨S1x256x1024, .f32⟩
  | .hbm, ⟨11, _⟩ => ⟨S16384x1024, .f32⟩
  | .hbm, ⟨12, _⟩ => ⟨S16384x512, .bf16⟩
  | .hbm, ⟨13, _⟩ => ⟨S16384x512, .bf16⟩
  | .hbm, ⟨14, _⟩ => ⟨S2x8192x256, .f32⟩
  | .hbm, ⟨15, _⟩ => ⟨S16384x256, .f32⟩
  | .hbm, ⟨16, _⟩ => ⟨S1024x1024, .f32⟩
  | .hbm, ⟨17, _⟩ => ⟨S1024x1024, .bf16⟩
  | .hbm, ⟨18, _⟩ => ⟨S1024, .f32⟩
  | .hbm, ⟨19, _⟩ => ⟨S1x1024, .f32⟩
  | .hbm, ⟨20, _⟩ => ⟨S1024x4096, .f32⟩
  | .hbm, ⟨21, _⟩ => ⟨S1024x4096, .bf16⟩
  | .hbm, ⟨22, _⟩ => ⟨S4096x1024, .f32⟩
  | .hbm, ⟨23, _⟩ => ⟨S4096x1024, .bf16⟩
  | .hbm, ⟨24, _⟩ => ⟨S1024, .f32⟩
  | .hbm, ⟨25, _⟩ => ⟨S1x1024, .f32⟩
  | .hbm, ⟨26, _⟩ => ⟨S1024x1024, .f32⟩
  | .hbm, ⟨27, _⟩ => ⟨S1024x1024, .bf16⟩
  | .hbm, ⟨28, _⟩ => ⟨S256x1024, .f32⟩
  | .hbm, ⟨29, _⟩ => ⟨S256x1024, .bf16⟩
  | .hbm, ⟨30, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .f32⟩
  | .local _ .vmem, ⟨7, _⟩ => ⟨S1024x256, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .bf16⟩
  | .local _ .vmem, ⟨16, _⟩ => ⟨S1024x1024, .f32⟩
  | .local _ .vmem, ⟨17, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S2x8192x1024 : Shape := ⟨3, ![2, 8192, 1024]⟩
abbrev S2x8192x512 : Shape := ⟨3, ![2, 8192, 512]⟩
abbrev S1x2x8192x256 : Shape := ⟨4, ![1, 2, 8192, 256]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x4096 : Shape := ⟨2, ![1024, 4096]⟩
abbrev S2x8192x4096 : Shape := ⟨3, ![2, 8192, 4096]⟩
abbrev S4096x1024 : Shape := ⟨2, ![4096, 1024]⟩
abbrev S2x8192x256 : Shape := ⟨3, ![2, 8192, 256]⟩
abbrev S256x1024 : Shape := ⟨2, ![256, 1024]⟩
abbrev S16384x1024 : Shape := ⟨2, ![16384, 1024]⟩

abbrev nBuf : Space → Nat
  | .hbm => 76
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S1x2x8192x256, .f32⟩
  | .hbm, ⟨4, _⟩ => ⟨S1x1024x1024, .f32⟩
  | .hbm, ⟨5, _⟩ => ⟨S1x1024, .f32⟩
  | .hbm, ⟨6, _⟩ => ⟨S1x1024x4096, .f32⟩
  | .hbm, ⟨7, _⟩ => ⟨S1x4096x1024, .f32⟩
  | .hbm, ⟨8, _⟩ => ⟨S1x1024, .f32⟩
  | .hbm, ⟨9, _⟩ => ⟨S1x1024x1024, .f32⟩
  | .hbm, ⟨10, _⟩ => ⟨S1x256x1024, .f32⟩
  | .hbm, ⟨11, _⟩ => ⟨S2x8192x512, .f32⟩
  | .hbm, ⟨12, _⟩ => ⟨S2x8192x512, .f32⟩
  | .hbm, ⟨13, _⟩ => ⟨S2x8192x1024, .f32⟩
  | .hbm, ⟨14, _⟩ => ⟨S1024x1024, .f32⟩
  | .hbm, ⟨15, _⟩ => ⟨S2x8192x1024, .f32⟩
  | .hbm, ⟨16, _⟩ => ⟨S2x8192x1024, .f32⟩
  | .hbm, ⟨17, _⟩ => ⟨S1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S1024x4096, .f32⟩
  | .hbm, ⟨35, _⟩ => ⟨S2x8192x4096, .f32⟩
  | .hbm, ⟨36, _⟩ => ⟨S_, .f32⟩
  | .hbm, ⟨37, _⟩ => ⟨S2x8192x4096, .f32⟩
  | .hbm, ⟨38, _⟩ => ⟨S2x8192x4096, .f32⟩
  | .hbm, ⟨39, _⟩ => ⟨S2x8192x4096, .f32⟩
  | .hbm, ⟨40, _⟩ => ⟨S4096x1024, .f32⟩
  | .hbm, ⟨41, _⟩ => ⟨S2x8192x1024, .f32⟩
  | .hbm, ⟨42, _⟩ => ⟨S2x8192x1024, .f32⟩
  | .hbm, ⟨43, _⟩ => ⟨S1024, .f32⟩
  | .hbm, ⟨44, _⟩ => ⟨S2x8192x1024, .f32⟩
  | .hbm, ⟨45, _⟩ => ⟨S_, .f32⟩
  | .hbm, ⟨46, _⟩ => ⟨S2x8192, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S2x8192x1, .f32⟩
  | .hbm, ⟨55, _⟩ => ⟨S2x8192x1024, .f32⟩
  | .hbm, ⟨56, _⟩ => ⟨S2x8192x1024, .f32⟩
  | .hbm, ⟨57, _⟩ => ⟨S1x1x1024, .f32⟩
  | .hbm, ⟨58, _⟩ => ⟨S2x8192x1024, .f32⟩
  | .hbm, ⟨59, _⟩ => ⟨S2x8192x1024, .f32⟩
  | .hbm, ⟨60, _⟩ => ⟨S1024x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S_, .f32⟩
  | .hbm, ⟨65, _⟩ => ⟨S2x8192x1024, .f32⟩
  | .hbm, ⟨66, _⟩ => ⟨S2x8192x1024, .f32⟩
  | .hbm, ⟨67, _⟩ => ⟨S_, .f32⟩
  | .hbm, ⟨68, _⟩ => ⟨S2x8192x1024, .f32⟩
  | .hbm, ⟨69, _⟩ => ⟨S2x8192x1024, .f32⟩
  | .hbm, ⟨70, _⟩ => ⟨S2x8192x256, .f32⟩
  | .hbm, ⟨71, _⟩ => ⟨S256x1024, .f32⟩
  | .hbm, ⟨72, _⟩ => ⟨S2x8192x1024, .f32⟩
  | .hbm, ⟨73, _⟩ => ⟨S2x8192x1024, .f32⟩
  | .hbm, ⟨74, _⟩ => ⟨S2x8192x1024, .f32⟩
  | .hbm, ⟨75, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024 : Shape := ⟨2, ![1, 1024]⟩
abbrev S1x1024x3600 : Shape := ⟨3, ![1, 1024, 3600]⟩
abbrev S1x16 : Shape := ⟨2, ![1, 16]⟩
abbrev S1x8x64 : Shape := ⟨3, ![1, 8, 64]⟩
abbrev S8x64x8x64 : Shape := ⟨4, ![8, 64, 8, 64]⟩
abbrev S512x512 : Shape := ⟨2, ![512, 512]⟩
abbrev S1024x3600 : Shape := ⟨2, ![1024, 3600]⟩
abbrev S1024x1536 : Shape := ⟨2, ![1024, 1536]⟩
abbrev S8x64 : Shape := ⟨2, ![8, 64]⟩
abbrev S1x512 : Shape := ⟨2, ![1, 512]⟩
abbrev S_ : Shape := ⟨0, ![]⟩
abbrev S16384x1024 : Shape := ⟨2, ![16384, 1024]⟩
abbrev S1024 : Shape := ⟨1, ![1024]⟩
abbrev S16 : Shape := ⟨1, ![16]⟩
abbrev S16x1 : Shape := ⟨2, ![16, 1]⟩
abbrev S16384x512 : Shape := ⟨2, ![16384, 512]⟩
abbrev S16x16384 : Shape := ⟨2, ![16, 16384]⟩
abbrev S1024x1024 : Shape := ⟨2, ![1024, 1024]⟩
abbrev S1024x2048 : Shape := ⟨2, ![1024, 2048]⟩
abbrev S1024x128 : Shape := ⟨2, ![1024, 128]⟩
abbrev S1024x512 : Shape := ⟨2, ![1024, 512]⟩
abbrev S16x1024 : Shape := ⟨2, ![16, 1024]⟩
abbrev S1024x1 : Shape := ⟨2, ![1024, 1]⟩
abbrev S128x1024 : Shape := ⟨2, ![128, 1024]⟩

abbrev nBuf : Space → Nat
  | .hbm => 35
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3600, .f32⟩
  | .hbm, ⟨3, _⟩ => ⟨S1x16, .f32⟩
  | .hbm, ⟨4, _⟩ => ⟨S1x8x64, .f32⟩
  | .hbm, ⟨5, _⟩ => ⟨S1x8x64, .f32⟩
  | .hbm, ⟨6, _⟩ => ⟨S8x64x8x64, .i32⟩
  | .hbm, ⟨7, _⟩ => ⟨S8x64x8x64, .i32⟩
  | .hbm, ⟨8, _⟩ => ⟨S8x64x8x64, .i1⟩
  | .hbm, ⟨9, _⟩ => ⟨S8x64x8x64, .i32⟩
  | .hbm, ⟨10, _⟩ => ⟨S8x64x8x64, .f32⟩
  | .hbm, ⟨11, _⟩ => ⟨S8x64x8x64, .bf16⟩
  | .hbm, ⟨12, _⟩ => ⟨S512x512, .bf16⟩
  | .hbm, ⟨13, _⟩ => ⟨S1024x3600, .f32⟩
  | .hbm, ⟨14, _⟩ => ⟨S1024x3600, .bf16⟩
  | .hbm, ⟨15, _⟩ => ⟨S1024x1536, .bf16⟩
  | .hbm, ⟨16, _⟩ => ⟨S8x64, .f32⟩
  | .hbm, ⟨17, _⟩ => ⟨S1x512, .f32⟩
  | .hbm, ⟨18, _⟩ => ⟨S_, .f32⟩
  | .hbm, ⟨19, _⟩ => ⟨S1x512, .f32⟩
  | .hbm, ⟨20, _⟩ => ⟨S1x512, .f32⟩
  | .hbm, ⟨21, _⟩ => ⟨S8x64, .f32⟩
  | .hbm, ⟨22, _⟩ => ⟨S1x512, .f32⟩
  | .hbm, ⟨23, _⟩ => ⟨S16384x1024, .f32⟩
  | .hbm, ⟨24, _⟩ => ⟨S1024, .f32⟩
  | .hbm, ⟨25, _⟩ => ⟨S1x1024, .f32⟩
  | .hbm, ⟨26, _⟩ => ⟨S16, .f32⟩
  | .hbm, ⟨27, _⟩ => ⟨S16x1, .f32⟩
  | .hbm, ⟨28, _⟩ => ⟨S16384x1024, .bf16⟩
  | .hbm, ⟨29, _⟩ => ⟨S16384x512, .bf16⟩
  | .hbm, ⟨30, _⟩ => ⟨S16384x512, .bf16⟩
  | .hbm, ⟨31, _⟩ => ⟨S16384x512, .bf16⟩
  | .hbm, ⟨32, _⟩ => ⟨S16384x512, .bf16⟩
  | .hbm, ⟨33, _⟩ => ⟨S16384x512, .bf16⟩
  | .hbm, ⟨34, _⟩ => ⟨S16x16384, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x1536, .bf16⟩
  | .local _ .vmem, ⟨5, _⟩ => ⟨S1024x128, .bf16⟩
  | .local _ .vmem, ⟨6, _⟩ => ⟨S16x1, .f32⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1024x1024, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S16x1024, .f32⟩
  | .local _ .vmem, ⟨23, _⟩ => ⟨S16x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v21_2 : Ref sig .tc := ⟨.hbm, 30, rfl⟩
abbrev main_v21_3 : Ref sig .tc := ⟨.hbm, 31, rfl⟩
abbrev main_v21_4 : Ref sig .tc := ⟨.hbm, 32, rfl⟩
abbrev main_v21_5 : Ref sig .tc := ⟨.hbm, 33, rfl⟩
abbrev main_v21_6 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c16_i32 : BitVec 32 := 16#32
  let c0_i32_0 : BitVec 32 := 0#32
  ![c0_i32.toNat, c16_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S2x8192x1024 : Shape := ⟨3, ![2, 8192, 1024]⟩
abbrev S1x1024 : Shape := ⟨2, ![1, 1024]⟩
abbrev S1x1024x3600 : Shape := ⟨3, ![1, 1024, 3600]⟩
abbrev S1x16 : Shape := ⟨2, ![1, 16]⟩
abbrev S1x8x64 : Shape := ⟨3, ![1, 8, 64]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3600 : Shape := ⟨2, ![1024, 3600]⟩
abbrev S2x8192x3600 : Shape := ⟨3, ![2, 8192, 3600]⟩
abbrev S16384x3600 : Shape := ⟨2, ![16384, 3600]⟩
abbrev S16384x1024 : Shape := ⟨2, ![16384, 1024]⟩
abbrev S16384x512 : Shape := ⟨2, ![16384, 512]⟩
abbrev S16384x16 : Shape := ⟨2, ![16384, 16]⟩
abbrev S16384x8x64 : Shape := ⟨3, ![16384, 8, 64]⟩
abbrev S8x64 : Shape := ⟨2, ![8, 64]⟩
abbrev S16384x8 : Shape := ⟨2, ![16384, 8]⟩
abbrev S16384x8x1 : Shape := ⟨3, ![16384, 8, 1]⟩
abbrev S16 : Shape := ⟨1, ![16]⟩
abbrev S16x16384 : Shape := ⟨2, ![16, 16384]⟩

abbrev nBuf : Space → Nat
  | .hbm => 85
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3600, .f32⟩
  | .hbm, ⟨3, _⟩ => ⟨S1x16, .f32⟩
  | .hbm, ⟨4, _⟩ => ⟨S1x8x64, .f32⟩
  | .hbm, ⟨5, _⟩ => ⟨S1x8x64, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S1024x3600, .f32⟩
  | .hbm, ⟨24, _⟩ => ⟨S2x8192x3600, .f32⟩
  | .hbm, ⟨25, _⟩ => ⟨S16384x3600, .f32⟩
  | .hbm, ⟨26, _⟩ => ⟨S16384x1024, .f32⟩
  | .hbm, ⟨27, _⟩ => ⟨S16384x512, .f32⟩
  | .hbm, ⟨28, _⟩ => ⟨S16384x512, .f32⟩
  | .hbm, ⟨29, _⟩ => ⟨S16384x16, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x8x64, .f32⟩
  | .hbm, ⟨34, _⟩ => ⟨S8x64, .f32⟩
  | .hbm, ⟨35, _⟩ => ⟨S16384x8x64, .f32⟩
  | .hbm, ⟨36, _⟩ => ⟨S_, .f32⟩
  | .hbm, ⟨37, _⟩ => ⟨S16384x8, .f32⟩
  | .hbm, ⟨38, _⟩ => ⟨S16384x8x1, .f32⟩
  | .hbm, ⟨39, _⟩ => ⟨S_, .f32⟩
  | .hbm, ⟨40, _⟩ => ⟨S16384x8x1, .f32⟩
  | .hbm, ⟨41, _⟩ => ⟨S16384x8x1, .f32⟩
  | .hbm, ⟨42, _⟩ => ⟨S_, .f32⟩
  | .hbm, ⟨43, _⟩ => ⟨S16384x8x1, .f32⟩
  | .hbm, ⟨44, _⟩ => ⟨S16384x8x1, .f32⟩
  | .hbm, ⟨45, _⟩ => ⟨S16384x8x1, .f32⟩
  | .hbm, ⟨46, _⟩ => ⟨S16384x8x64, .f32⟩
  | .hbm, ⟨47, _⟩ => ⟨S16384x8x64, .f32⟩
  | .hbm, ⟨48, _⟩ => ⟨S1x8x64, .f32⟩
  | .hbm, ⟨49, _⟩ => ⟨S16384x8x64, .f32⟩
  | .hbm, ⟨50, _⟩ => ⟨S16384x8x64, .f32⟩
  | .hbm, ⟨51, _⟩ => ⟨S_, .f32⟩
  | .hbm, ⟨52, _⟩ => ⟨S16384x8x64, .f32⟩
  | .hbm, ⟨53, _⟩ => ⟨S16384x8x64, .f32⟩
  | .hbm, ⟨54, _⟩ => ⟨S16384x8x64, .f32⟩
  | .hbm, ⟨55, _⟩ => ⟨S8x64, .f32⟩
  | .hbm, ⟨56, _⟩ => ⟨S16384x8x64, .f32⟩
  | .hbm, ⟨57, _⟩ => ⟨S_, .f32⟩
  | .hbm, ⟨58, _⟩ => ⟨S16384x8, .f32⟩
  | .hbm, ⟨59, _⟩ => ⟨S16384x8x1, .f32⟩
  | .hbm, ⟨60, _⟩ => ⟨S_, .f32⟩
  | .hbm, ⟨61, _⟩ => ⟨S16384x8x1, .f32⟩
  | .hbm, ⟨62, _⟩ => ⟨S16384x8x1, .f32⟩
  | .hbm, ⟨63, _⟩ => ⟨S_, .f32⟩
  | .hbm, ⟨64, _⟩ => ⟨S16384x8x1, .f32⟩
  | .hbm, ⟨65, _⟩ => ⟨S16384x8x1, .f32⟩
  | .hbm, ⟨66, _⟩ => ⟨S16384x8x1, .f32⟩
  | .hbm, ⟨67, _⟩ => ⟨S16384x8x64, .f32⟩
  | .hbm, ⟨68, _⟩ => ⟨S16384x8x64, .f32⟩
  | .hbm, ⟨69, _⟩ => ⟨S1x8x64, .f32⟩
  | .hbm, ⟨70, _⟩ => ⟨S16384x8x64, .f32⟩
  | .hbm, ⟨71, _⟩ => ⟨S16384x8x64, .f32⟩
  | .hbm, ⟨72, _⟩ => ⟨S16384x1024, .bf16⟩
  | .hbm, ⟨73, _⟩ => ⟨S16384x512, .bf16⟩
  | .hbm, ⟨74, _⟩ => ⟨S16384x512, .bf16⟩
  | .hbm, ⟨75, _⟩ => ⟨S16384x512, .f32⟩
  | .hbm, ⟨76, _⟩ => ⟨S16384x512, .bf16⟩
  | .hbm, ⟨77, _⟩ => ⟨S16384x512, .f32⟩
  | .hbm, ⟨78, _⟩ => ⟨S16384x512, .bf16⟩
  | .hbm, ⟨79, _⟩ => ⟨S16384x512, .bf16⟩
  | .hbm, ⟨80, _⟩ => ⟨S16, .f32⟩
  | .hbm, ⟨81, _⟩ => ⟨S1x16, .f32⟩
  | .hbm, ⟨82, _⟩ => ⟨S16384x16, .f32⟩
  | .hbm, ⟨83, _⟩ => ⟨S16384x16, .f32⟩
  | .hbm, ⟨84, _⟩ => ⟨S16x16384, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩

abbrev nD : Nat := 1
abbrev τ : Topo := Topo.v7x

variable {F : FTy → Type} [FloatOps F]
-- ==== Proof.NatDefs.lean ====
module

public import proofs.«01_k».proof.Proof.Gen.KernelIdeal.Frame.Runs
public import Idealize.ShloMosaic.Lib.Pipeline.ReadBack
public import Idealize.ShloMosaic.Lib.Pipeline.ValueKit.Tiles
public import Idealize.ShloMosaic.Lib.Pointwise

@[expose] public section

noncomputable section

/-! What the attention kernel computes for one image row `r`, in terms of the block's queries, keys,
values and bias table, at any float arithmetic. -/

namespace Cert.NatDefs

open Cert.KernelIdeal Cert.KernelIdeal.Gen
open Idealize.ShloMosaic Idealize.ShloMosaic.Tactic

variable {F : FTy → Type} [FloatOps F]

/-- The first of the eight key rows the window of image row `r` reads. -/
def start (r : ℕ) : ℕ := min 120 (r - 4)

/-- The relative row of the window's first key row, counted from seven rows above. -/
def rel (r : ℕ) : ℕ := start r + 7 - r

/-- The queries of image row `r`. -/
def qRow (x : Vec F S1x8192x128 .bf16) (r : ℕ) : Vec F S1x64x128 .bf16 :=
  fun i => x (ix3 0 ⟨(64 * r + (i 1).val) % 8192, Nat.mod_lt _ (by norm_num)⟩ (i 2))

/-- The keys (or values) of the window of image row `r`. -/
def kWin (x : Vec F S1x8192x128 .bf16) (r : ℕ) : Vec F S1x512x128 .bf16 :=
  fun i => x (ix3 0 ⟨(64 * start r + (i 1).val) % 8192, Nat.mod_lt _ (by norm_num)⟩ (i 2))

/-- The bias of the window of image row `r`, out of the two interleaved tables. -/
def bWin (x : Vec F S1x2x128x896 .f32) (r : ℕ) : Vec F S1x1x128x512 .f32 :=
  fun i => x (ix4 0 ⟨rel r % 2, Nat.mod_lt _ (by norm_num)⟩ (i 2)
    ⟨(rel r / 2 * 128 + (i 3).val) % 896, Nat.mod_lt _ (by norm_num)⟩)

/-- The unnormalised weights of one row, for both heads, from its queries, window keys and bias. -/
def prob (v2 : IVec S64x128 1) (q : Vec F S1x64x128 .bf16) (k : Vec F S1x512x128 .bf16)
    (b : Vec F S1x1x128x512 .f32) : FVec F S1x128x512 .bf16 := k0_pay5 (k0_pay4 v2 q k b)

/-- The output of one row from its window values and weights. -/
def mix (v2 : IVec S64x128 1) (v3 : FVec F S512x128 .bf16) (v : Vec F S1x512x128 .bf16)
    (p : Vec F S1x128x512 .bf16) : FVec F S1x64x128 .bf16 := k0_pay36 v2 v3 v p

/-- The weights of image row `r`. -/
def probRow (v2 : IVec S64x128 1) (x0 x1 : Vec F S1x8192x128 .bf16) (x3 : Vec F S1x2x128x896 .f32)
    (r : ℕ) : FVec F S1x128x512 .bf16 := prob v2 (qRow x0 r) (kWin x1 r) (bWin x3 r)

/-- The weights of the sixteen image rows of group `g`. -/
def probs (v2 : IVec S64x128 1) (x0 x1 : Vec F S1x8192x128 .bf16) (x3 : Vec F S1x2x128x896 .f32)
    (g : ℕ) : FVec F S16x128x512 .bf16 :=
  fun y => probRow v2 x0 x1 x3 (16 * g + (y 0).val) (ix3 0 (y 1) (y 2))

/-- The block the kernel leaves: each image row's output. -/
def block (v2 : IVec S64x128 1) (v3 : FVec F S512x128 .bf16) (x0 x1 x2 : Vec F S1x8192x128 .bf16)
    (x3 : Vec F S1x2x128x896 .f32) : FVec F S1x8192x128 .bf16 :=
  fun y => mix v2 v3 (kWin x2 ((y 1).val / 64)) (probRow v2 x0 x1 x3 ((y 1).val / 64))
    (ix3 0 ⟨(y 1).val % 64, Nat.mod_lt _ (by norm_num)⟩ (y 2))

/-- Every slot lies in a weight buffer. -/
theorem slot_inb (i : ℕ) (hi : i < 16) :
    ∀ a, (![i, 0, 0] : Fin 3 → ℕ) a + S1x128x512.size a ≤ S16x128x512.size a := by
  intro a
  fin_cases a
  · show i + 1 ≤ 16; omega
  · show 0 + 128 ≤ 128; omega
  · show 0 + 512 ≤ 512; omega

section Loads

variable (v2 : IVec S64x128 1) (v3 : FVec F S512x128 .bf16)
  {arg : Memref sig .tc .vmem S1x8192x128 .bf16} (harg : arg.IsWhole)
  {argb : Memref sig .tc .vmem S1x2x128x896 .f32} (hargb : argb.IsWhole)

/-- A load of 64 rows from `64 r` is the queries of row `r`. -/
theorem q_load (x : Vec F S1x8192x128 .bf16) {off : Fin 3 → ℕ}
    (inb : ∀ a, off a + S1x64x128.size a ≤ S1x8192x128.size a) (r : ℕ) (h : off = ![0, 64 * r, 0]) :
    View.readAt (Elt F) arg.view (Rect.unit (s := S1x8192x128) off S1x64x128.size inb).toLoadRect
      (harg.unread x) = qRow x r := by
  subst h
  funext i
  have hb : 64 * r + 64 ≤ 8192 := inb 1
  have hi : (i 1).val < 64 := (i 1).isLt
  have h0 : (i 0).val < 1 := (i 0).isLt
  rw [View.readAt_eq_ld, harg.read_unread]
  refine View.ld_unit_apply_of x _ _ inb i _ fun a => ?_
  fin_cases a
  · show 0 = 0 + (i 0).val; omega
  · show (64 * r + (i 1).val) % 8192 = 64 * r + (i 1).val; omega
  · show (i 2).val = 0 + (i 2).val; omega

/-- A load of 512 rows from the window's start is the window of row `r`. -/
theorem k_load (x : Vec F S1x8192x128 .bf16) {off : Fin 3 → ℕ}
    (inb : ∀ a, off a + S1x512x128.size a ≤ S1x8192x128.size a) (r : ℕ) (h : off = ![0, 64 * start r, 0]) :
    View.readAt (Elt F) arg.view (Rect.unit (s := S1x8192x128) off S1x512x128.size inb).toLoadRect
      (harg.unread x) = kWin x r := by
  subst h
  funext i
  have hb : 64 * start r + 512 ≤ 8192 := inb 1
  have hi : (i 1).val < 512 := (i 1).isLt
  have h0 : (i 0).val < 1 := (i 0).isLt
  rw [View.readAt_eq_ld, harg.read_unread]
  refine View.ld_unit_apply_of x _ _ inb i _ fun a => ?_
  fin_cases a
  · show 0 = 0 + (i 0).val; omega
  · show (64 * start r + (i 1).val) % 8192 = 64 * start r + (i 1).val; omega
  · show (i 2).val = 0 + (i 2).val; omega

/-- A load of the bias at the window's relative row is the bias window of row `r`. -/
theorem b_load (x : Vec F S1x2x128x896 .f32) {off : Fin 4 → ℕ}
    (inb : ∀ a, off a + S1x1x128x512.size a ≤ S1x2x128x896.size a) (r : ℕ)
    (h : off = ![0, rel r % 2, 0, rel r / 2 * 128]) :
    View.readAt (Elt F) argb.view (Rect.unit (s := S1x2x128x896) off S1x1x128x512.size inb).toLoadRect
      (hargb.unread x) = bWin x r := by
  subst h
  funext i
  have hb : rel r / 2 * 128 + 512 ≤ 896 := inb 3
  have hi : (i 3).val < 512 := (i 3).isLt
  have h0 : (i 0).val < 1 := (i 0).isLt
  have h1 : (i 1).val < 1 := (i 1).isLt
  rw [View.readAt_eq_ld, hargb.read_unread]
  refine View.ld_unit_apply_of x _ _ inb i _ fun a => ?_
  fin_cases a
  · show 0 = 0 + (i 0).val; omega
  · show rel r % 2 = rel r % 2 + (i 1).val; omega
  · show (i 2).val = 0 + (i 2).val; omega
  · show (rel r / 2 * 128 + (i 3).val) % 896 = rel r / 2 * 128 + (i 3).val; omega

end Loads

section Pieces

variable {v2 : IVec S64x128 1} {v3 : FVec F S512x128 .bf16}
  {arg2 arg3 arg4 : Memref sig .tc .vmem S1x8192x128 .bf16} {harg2 : arg2.IsWhole} {harg3 : arg3.IsWhole}
  {harg4 : arg4.IsWhole} {arg5 : Memref sig .tc .vmem S1x2x128x896 .f32} {harg5 : arg5.IsWhole}
  {x0 x1 x2 : Vec F S1x8192x128 .bf16} {x3 : Vec F S1x2x128x896 .f32}

/-- The weights' slot `i` of group `g`, read at an index of the slot. -/
theorem probs_emb (g i : ℕ) (inb : ∀ a, (![i, 0, 0] : Fin 3 → ℕ) a + S1x128x512.size a ≤ S16x128x512.size a)
    (x : S1x128x512.Idx) :
    probs v2 x0 x1 x3 g ((Rect.unit (s := S16x128x512) ![i, 0, 0] S1x128x512.size inb).emb x)
      = probRow v2 x0 x1 x3 (16 * g + i) x := by
  have h0 : (x 0).val < 1 := (x 0).isLt
  have e0 : ((Rect.unit (s := S16x128x512) ![i, 0, 0] S1x128x512.size inb).emb x 0).val = i := by
    show i + 1 * (x 0).val = i; omega
  have e : (ix3 0 ((Rect.unit (s := S16x128x512) ![i, 0, 0] S1x128x512.size inb).emb x 1)
      ((Rect.unit (s := S16x128x512) ![i, 0, 0] S1x128x512.size inb).emb x 2) : S1x128x512.Idx) = x := by
    funext a
    apply Fin.ext
    fin_cases a
    · show 0 = (x 0).val; omega
    · show 0 + 1 * (x 1).val = (x 1).val; omega
    · show 0 + 1 * (x 2).val = (x 2).val; omega
  unfold probs
  rw [e0]
  exact congrArg _ e

/-- The output's rows of image row `r`, read at an index of them. -/
theorem block_emb (r : ℕ) {off : Fin 3 → ℕ} (h : off = ![0, 64 * r, 0])
    (inb : ∀ a, off a + S1x64x128.size a ≤ S1x8192x128.size a) (x : S1x64x128.Idx) :
    block v2 v3 x0 x1 x2 x3 ((Rect.unit (s := S1x8192x128) off S1x64x128.size inb).emb x)
      = mix v2 v3 (kWin x2 r) (probRow v2 x0 x1 x3 r) x := by
  subst h
  have h0 : (x 0).val < 1 := (x 0).isLt
  have h1 : (x 1).val < 64 := (x 1).isLt
  have e1 : ((Rect.unit (s := S1x8192x128) ![0, 64 * r, 0] S1x64x128.size inb).emb x 1).val
      = 64 * r + (x 1).val := by
    show 64 * r + 1 * (x 1).val = _; omega
  have ed : ((Rect.unit (s := S1x8192x128) ![0, 64 * r, 0] S1x64x128.size inb).emb x 1).val / 64 = r := by
    rw [e1]; omega
  unfold block
  rw [ed]
  refine congrArg _ ?_
  funext a
  apply Fin.ext
  fin_cases a
  · show 0 = (x 0).val; omega
  · show ((Rect.unit (s := S1x8192x128) ![0, 64 * r, 0] S1x64x128.size inb).emb x 1).val % 64 = (x 1).val
    rw [e1]; omega
  · show 0 + 1 * (x 2).val = (x 2).val; omega

/-- A store into slot `i` of the weights computed from the loads of row `16 g + i` is a piece of group
    `g`'s weights. -/
theorem prob_piece (g i : ℕ) {offq offk : Fin 3 → ℕ} {offb : Fin 4 → ℕ}
    (inb : ∀ a, (![i, 0, 0] : Fin 3 → ℕ) a + S1x128x512.size a ≤ S16x128x512.size a)
    (inbq : ∀ a, offq a + S1x64x128.size a ≤ S1x8192x128.size a)
    (inbk : ∀ a, offk a + S1x512x128.size a ≤ S1x8192x128.size a)
    (inbb : ∀ a, offb a + S1x1x128x512.size a ≤ S1x2x128x896.size a)
    (hq : offq = ![0, 64 * (16 * g + i), 0]) (hk : offk = ![0, 64 * start (16 * g + i), 0])
    (hb : offb = ![0, rel (16 * g + i) % 2, 0, rel (16 * g + i) / 2 * 128])
    (x : S1x128x512.Idx) :
    prob v2
        (View.readAt (Elt F) arg2.view (Rect.unit (s := S1x8192x128) offq S1x64x128.size inbq).toLoadRect (harg2.unread x0))
        (View.readAt (Elt F) arg3.view (Rect.unit (s := S1x8192x128) offk S1x512x128.size inbk).toLoadRect (harg3.unread x1))
        (View.readAt (Elt F) arg5.view (Rect.unit (s := S1x2x128x896) offb S1x1x128x512.size inbb).toLoadRect (harg5.unread x3)) x
      = probs v2 x0 x1 x3 g ((Rect.unit (s := S16x128x512) ![i, 0, 0] S1x128x512.size inb).emb x) := by
  rw [q_load harg2 x0 inbq _ hq, k_load harg3 x1 inbk _ hk, b_load harg5 x3 inbb _ hb, probs_emb]
  rfl

/-- A store of image row `r`'s output, from its window values and its weights, is a piece of the block. -/
theorem mix_piece (r : ℕ) {offo offv : Fin 3 → ℕ} {p : Vec F S1x128x512 .bf16}
    (inb : ∀ a, offo a + S1x64x128.size a ≤ S1x8192x128.size a)
    (inbv : ∀ a, offv a + S1x512x128.size a ≤ S1x8192x128.size a)
    (ho : offo = ![0, 64 * r, 0]) (hv : offv = ![0, 64 * start r, 0])
    (hp : p = probRow v2 x0 x1 x3 r) (x : S1x64x128.Idx) :
    mix v2 v3
        (View.readAt (Elt F) arg4.view (Rect.unit (s := S1x8192x128) offv S1x512x128.size inbv).toLoadRect (harg4.unread x2)) p x
      = block v2 v3 x0 x1 x2 x3 ((Rect.unit (s := S1x8192x128) offo S1x64x128.size inb).emb x) := by
  rw [k_load harg4 x2 inbv _ hv, block_emb r ho, hp]

/-- What image row `r`'s loads and stores address lies in the buffers. -/
theorem q_inb {off : Fin 3 → ℕ} {r : ℕ} (hr : r < 128) (h : off = ![0, 64 * r, 0]) :
    ∀ a, off a + S1x64x128.size a ≤ S1x8192x128.size a := by
  subst h
  intro a
  fin_cases a
  · show 0 + 1 ≤ 1; omega
  · show 64 * r + 64 ≤ 8192; omega
  · show 0 + 128 ≤ 128; omega

theorem k_inb {off : Fin 3 → ℕ} {r : ℕ} (h : off = ![0, 64 * start r, 0]) :
    ∀ a, off a + S1x512x128.size a ≤ S1x8192x128.size a := by
  subst h
  intro a
  fin_cases a
  · show 0 + 1 ≤ 1; omega
  · show 64 * start r + 512 ≤ 8192; unfold start; omega
  · show 0 + 128 ≤ 128; omega

theorem b_inb {off : Fin 4 → ℕ} {r : ℕ} (hr : r < 128) (h : off = ![0, rel r % 2, 0, rel r / 2 * 128]) :
    ∀ a, off a + S1x1x128x512.size a ≤ S1x2x128x896.size a := by
  subst h
  intro a
  fin_cases a
  · show 0 + 1 ≤ 1; omega
  · show rel r % 2 + 1 ≤ 2; omega
  · show 0 + 128 ≤ 128; omega
  · show rel r / 2 * 128 + 512 ≤ 896; unfold rel start; omega

/-- `prob_piece`, with the bounds that follow. -/
theorem prob_store (g i : ℕ) (hi : i < 16) {offq offk : Fin 3 → ℕ} {offb : Fin 4 → ℕ} (hr : 16 * g + i < 128)
    (hq : offq = ![0, 64 * (16 * g + i), 0]) (hk : offk = ![0, 64 * start (16 * g + i), 0])
    (hb : offb = ![0, rel (16 * g + i) % 2, 0, rel (16 * g + i) / 2 * 128])
    (x : S1x128x512.Idx) :
    prob v2
        (View.readAt (Elt F) arg2.view (Rect.unit (s := S1x8192x128) offq S1x64x128.size (q_inb hr hq)).toLoadRect (harg2.unread x0))
        (View.readAt (Elt F) arg3.view (Rect.unit (s := S1x8192x128) offk S1x512x128.size (k_inb hk)).toLoadRect (harg3.unread x1))
        (View.readAt (Elt F) arg5.view (Rect.unit (s := S1x2x128x896) offb S1x1x128x512.size (b_inb hr hb)).toLoadRect (harg5.unread x3)) x
      = probs v2 x0 x1 x3 g ((Rect.unit (s := S16x128x512) ![i, 0, 0] S1x128x512.size (slot_inb i hi)).emb x) :=
  prob_piece g i _ _ _ _ hq hk hb x

/-- `mix_piece`, with the bounds that follow. -/
theorem mix_store (r : ℕ) {offo offv : Fin 3 → ℕ} {p : Vec F S1x128x512 .bf16} (hr : r < 128)
    (ho : offo = ![0, 64 * r, 0]) (hv : offv = ![0, 64 * start r, 0])
    (hp : p = probRow v2 x0 x1 x3 r) (x : S1x64x128.Idx) :
    mix v2 v3
        (View.readAt (Elt F) arg4.view (Rect.unit (s := S1x8192x128) offv S1x512x128.size (k_inb hv)).toLoadRect (harg4.unread x2)) p x
      = block v2 v3 x0 x1 x2 x3 ((Rect.unit (s := S1x8192x128) offo S1x64x128.size (q_inb hr ho)).emb x) :=
  mix_piece r _ _ ho hv hp x

/-- A load of slot `i` of a buffer holding group `g`'s weights is row `16 g + i`'s weights. -/
theorem slot_load {arg : Memref sig .tc .vmem S16x128x512 .bf16} {f : BufTy.Contents (Elt F) arg.view.ty} (g i : ℕ)
    (h : arg.view.read (Elt F) f = probs v2 x0 x1 x3 g) (hi : i < 16) :
    View.readAt (Elt F) arg.view (Rect.unit (s := S16x128x512) ![i, 0, 0] S1x128x512.size (slot_inb i hi)).toLoadRect f
      = probRow v2 x0 x1 x3 (16 * g + i) := by
  rw [View.readAt_eq_ld, h]
  exact funext fun x => probs_emb g i _ x

/-- The same load after stores that fill the buffer with group `g`'s weights. -/
theorem slot_readCov {arg : Memref sig .tc .vmem S16x128x512 .bf16} (g i : ℕ) (L : List (View.Piece (Elt F) S16x128x512 .bf16))
    (hL : View.PiecesOf (probs v2 x0 x1 x3 g) L) (hc : ∀ y, ∃ p ∈ L, y ∈ p.1.set) (hi : i < 16) :
    arg.view.readCov L (Rect.unit (s := S16x128x512) ![i, 0, 0] S1x128x512.size (slot_inb i hi)).toLoadRect
      = probRow v2 x0 x1 x3 (16 * g + i) := by
  rw [View.readCov_eq_canon']
  exact funext fun x => (View.canon_apply_of_pieces _ L hL.mem _ (hc _)).trans (probs_emb g i _ x)

/-- The same load after any stores into an unknown buffer that leave group `g`'s weights in it. -/
theorem slot_readJunk {arg : Memref sig .tc .vmem S16x128x512 .bf16} (g i : ℕ) (L : List (View.Piece (Elt F) S16x128x512 .bf16))
    (h : arg.view.read (Elt F) (arg.view.writes (Elt F) arg.view.junk L) = probs v2 x0 x1 x3 g) (hi : i < 16) :
    arg.view.readCov L (Rect.unit (s := S16x128x512) ![i, 0, 0] S1x128x512.size (slot_inb i hi)).toLoadRect
      = probRow v2 x0 x1 x3 (16 * g + i) := by
  rw [View.read_writes_junk_eq_canon] at h
  rw [View.readCov_eq_canon', h]
  exact funext fun x => probs_emb g i _ x

/-- The latest stores decide: when they are pieces of `G` and reach every index, `G` is what is read. -/
theorem read_take {arg : Memref sig .tc .vmem S16x128x512 .bf16} {G : S16x128x512.Idx → Elt F .bf16} (n : ℕ)
    (L : List (View.Piece (Elt F) S16x128x512 .bf16)) (hL : View.PiecesOf G (L.take n))
    (hc : ∀ y, ∃ p ∈ L.take n, y ∈ p.1.set) :
    arg.view.read (Elt F) (arg.view.writes (Elt F) arg.view.junk L) = G := by
  conv_lhs => rw [← List.take_append_drop n L, View.writes_append]
  exact funext fun y => View.read_writes_apply_of_pieces _ _ _ _ hL.mem y (hc y)

/-- An index of image row `r` lies in the store of its output. -/
theorem mem_row (r : ℕ) {off : Fin 3 → ℕ} (inb : ∀ a, off a + S1x64x128.size a ≤ S1x8192x128.size a)
    (h : off = ![0, 64 * r, 0]) (y : S1x8192x128.Idx) (hy : (y 1).val / 64 = r) :
    y ∈ (Rect.unit (s := S1x8192x128) off S1x64x128.size inb).set := by
  subst h
  rw [Rect.mem_set_unit]
  intro a
  have h0 : (y 0).val < 1 := (y 0).isLt
  have h2 : (y 2).val < 128 := (y 2).isLt
  fin_cases a
  · show 0 ≤ (y 0).val ∧ (y 0).val < 0 + 1; omega
  · show 64 * r ≤ (y 1).val ∧ (y 1).val < 64 * r + 64; omega
  · show 0 ≤ (y 2).val ∧ (y 2).val < 0 + 128; omega

end Pieces

/-- `mem_row`, with the bounds that follow. -/
theorem mem_store (r : ℕ) (hr : r < 128) {off : Fin 3 → ℕ} (h : off = ![0, 64 * r, 0]) (y : S1x8192x128.Idx)
    (hy : (y 1).val / 64 = r) :
    y ∈ (Rect.unit (s := S1x8192x128) off S1x64x128.size (q_inb hr h)).set := mem_row r _ h y hy

/-- One more store in front: it reaches image row `r + n`, the rest the rows below. -/
theorem cover_cons {e : EltTy} (y : S1x8192x128.Idx) (r n : ℕ) (p : View.Piece (Elt F) S1x8192x128 e)
    (L : List (View.Piece (Elt F) S1x8192x128 e)) (hp : (y 1).val / 64 = r + n → y ∈ p.1.set)
    (hL : (y 1).val / 64 < r + n → ∃ q ∈ L, y ∈ q.1.set) (h : (y 1).val / 64 < r + (n + 1)) :
    ∃ q ∈ p :: L, y ∈ q.1.set := by
  by_cases e : (y 1).val / 64 = r + n
  · exact ⟨p, List.mem_cons_self, hp e⟩
  · obtain ⟨q, hq, hy⟩ := hL (by omega)
    exact ⟨q, List.mem_cons_of_mem _ hq, hy⟩

/-- Blocks of `G` in front of blocks of `G`. -/
theorem piecesOf_append {S : Shape} {e : EltTy} {G : S.Idx → Elt F e} :
    ∀ {L L' : List (View.Piece (Elt F) S e)}, View.PiecesOf G L → View.PiecesOf G L' → View.PiecesOf G (L ++ L')
  | [], _, _, h' => h'
  | _ :: _, _, h, h' => ⟨h.1, piecesOf_append h.2 h'⟩

end Cert.NatDefs
-- ==== Proof.NatRows.lean ====
module

public import proofs.«01_k».proof.Proof.NatDefs

@[expose] public section

set_option maxRecDepth 16384
set_option maxHeartbeats 4000000

noncomputable section

/-! The rows one trip of the kernel's loop addresses, and its stores as rows of the block. -/

namespace Cert.NatTrip

open Cert.KernelIdeal Cert.KernelIdeal.Gen Cert.NatDefs
open Idealize.ShloMosaic Idealize.ShloMosaic.TcCoe Idealize.ShloMosaic.Tactic

variable {F : FTy → Type} [FloatOps F]

/-- The rows a trip's first producer and last consumer address. -/
theorem row3 : ∀ (k : Fin k0_t1_loop.trips) (c : Fin 2) (i : Fin 16),
    k0_off3 k (BitVec.ofNat 32 (1 + c.val)) (BitVec.ofNat 32 i.val)
      = ![0, 64 * (16 * (2 * k.val + (1 + c.val)) + i.val), 0] := by decide +kernel

theorem row4 : ∀ (k : Fin k0_t1_loop.trips) (c : Fin 2) (i : Fin 16),
    k0_off4 k (BitVec.ofNat 32 (1 + c.val)) (BitVec.ofNat 32 i.val)
      = ![0, 64 * start (16 * (2 * k.val + (1 + c.val)) + i.val), 0] := by decide +kernel

theorem row5 : ∀ (k : Fin k0_t1_loop.trips) (c : Fin 2) (i : Fin 16),
    k0_off5 k (BitVec.ofNat 32 (1 + c.val)) (BitVec.ofNat 32 i.val)
      = ![0, rel (16 * (2 * k.val + (1 + c.val)) + i.val) % 2, 0,
          rel (16 * (2 * k.val + (1 + c.val)) + i.val) / 2 * 128] := by decide +kernel

theorem row6 : ∀ (k : Fin k0_t1_loop.trips) (i : Fin 16),
    k0_off6 k (BitVec.ofNat 32 i.val) = ![0, 64 * start (16 * (2 * k.val) + i.val), 0] := by decide +kernel

theorem row7 : ∀ (k : Fin k0_t1_loop.trips) (i : Fin 16),
    k0_off7 k (BitVec.ofNat 32 i.val) = ![0, 64 * (16 * (2 * k.val) + i.val), 0] := by decide +kernel

/-- What a trip addresses lies in the buffers. -/
theorem inb3 (k : Fin k0_t1_loop.trips) (c i : ℕ) (hc : 1 ≤ c ∧ c < 3) (hi : i < 16) :
    ∀ a, k0_off3 k (BitVec.ofNat 32 c) (BitVec.ofNat 32 i) a + S1x64x128.size a ≤ S1x8192x128.size a := by
  have h := k0_off3_inb k ⟨c - 1, by omega⟩ ⟨i, hi⟩
  rwa [show 1 + (⟨c - 1, by omega⟩ : Fin 2).val = c from by show 1 + (c - 1) = c; omega] at h

theorem inb4 (k : Fin k0_t1_loop.trips) (c i : ℕ) (hc : 1 ≤ c ∧ c < 3) (hi : i < 16) :
    ∀ a, k0_off4 k (BitVec.ofNat 32 c) (BitVec.ofNat 32 i) a + S1x512x128.size a ≤ S1x8192x128.size a := by
  have h := k0_off4_inb k ⟨c - 1, by omega⟩ ⟨i, hi⟩
  rwa [show 1 + (⟨c - 1, by omega⟩ : Fin 2).val = c from by show 1 + (c - 1) = c; omega] at h

theorem inb5 (k : Fin k0_t1_loop.trips) (c i : ℕ) (hc : 1 ≤ c ∧ c < 3) (hi : i < 16) :
    ∀ a, k0_off5 k (BitVec.ofNat 32 c) (BitVec.ofNat 32 i) a + S1x1x128x512.size a ≤ S1x2x128x896.size a := by
  have h := k0_off5_inb k ⟨c - 1, by omega⟩ ⟨i, hi⟩
  rwa [show 1 + (⟨c - 1, by omega⟩ : Fin 2).val = c from by show 1 + (c - 1) = c; omega] at h

section Trip

variable {v2 : IVec S64x128 1} {v3 : FVec F S512x128 .bf16}
  {arg2 arg3 arg4 : Memref sig .tc .vmem S1x8192x128 .bf16} {harg2 : arg2.IsWhole} {harg3 : arg3.IsWhole}
  {harg4 : arg4.IsWhole} {arg5 : Memref sig .tc .vmem S1x2x128x896 .f32} {harg5 : arg5.IsWhole}
  {x0 x1 x2 : Vec F S1x8192x128 .bf16} {x3 : Vec F S1x2x128x896 .f32}

/-- A producer's store of a trip: slot `i` of group `2 k + c`. -/
theorem prob_trip (k : Fin k0_t1_loop.trips) (c i : ℕ) (hc : 1 ≤ c ∧ c < 3) (hi : i < 16)
    (x : S1x128x512.Idx) :
    prob v2
        (View.readAt (Elt F) arg2.view (Rect.unit (s := S1x8192x128) (k0_off3 k (BitVec.ofNat 32 c) (BitVec.ofNat 32 i)) S1x64x128.size (inb3 k c i hc hi)).toLoadRect (harg2.unread x0))
        (View.readAt (Elt F) arg3.view (Rect.unit (s := S1x8192x128) (k0_off4 k (BitVec.ofNat 32 c) (BitVec.ofNat 32 i)) S1x512x128.size (inb4 k c i hc hi)).toLoadRect (harg3.unread x1))
        (View.readAt (Elt F) arg5.view (Rect.unit (s := S1x2x128x896) (k0_off5 k (BitVec.ofNat 32 c) (BitVec.ofNat 32 i)) S1x1x128x512.size (inb5 k c i hc hi)).toLoadRect (harg5.unread x3)) x
      = probs v2 x0 x1 x3 (2 * k.val + c) ((Rect.unit (s := S16x128x512) ![i, 0, 0] S1x128x512.size (slot_inb i hi)).emb x) := by
  have hcc : c = 1 + (⟨c - 1, by omega⟩ : Fin 2).val := by show c = 1 + (c - 1); omega
  refine prob_piece _ _ _ _ _ _ ?_ ?_ ?_ x
  · have := row3 k ⟨c - 1, by omega⟩ ⟨i, hi⟩; rw [← hcc] at this; exact this
  · have := row4 k ⟨c - 1, by omega⟩ ⟨i, hi⟩; rw [← hcc] at this; exact this
  · have := row5 k ⟨c - 1, by omega⟩ ⟨i, hi⟩; rw [← hcc] at this; exact this

/-- The first consumer's store of a trip: row `i` of group `2 k`. -/
theorem mix_trip_even (k : Fin k0_t1_loop.trips) (i : ℕ) (hi : i < 16) {p : Vec F S1x128x512 .bf16}
    (hp : p = probRow v2 x0 x1 x3 (16 * (2 * k.val) + i)) (x : S1x64x128.Idx) :
    mix v2 v3
        (View.readAt (Elt F) arg4.view (Rect.unit (s := S1x8192x128) (k0_off6 k (BitVec.ofNat 32 i)) S1x512x128.size (k0_off6_inb k ⟨i, hi⟩)).toLoadRect (harg4.unread x2)) p x
      = block v2 v3 x0 x1 x2 x3 ((Rect.unit (s := S1x8192x128) (k0_off7 k (BitVec.ofNat 32 i)) S1x64x128.size (k0_off7_inb k ⟨i, hi⟩)).emb x) :=
  mix_piece _ _ _ (row7 k ⟨i, hi⟩) (row6 k ⟨i, hi⟩) hp x

/-- The second consumer's store of a trip: row `i` of group `2 k + 1`. -/
theorem mix_trip_odd (k : Fin k0_t1_loop.trips) (i : ℕ) (hi : i < 16) {p : Vec F S1x128x512 .bf16}
    (hp : p = probRow v2 x0 x1 x3 (16 * (2 * k.val + 1) + i)) (x : S1x64x128.Idx) :
    mix v2 v3
        (View.readAt (Elt F) arg4.view (Rect.unit (s := S1x8192x128) (k0_off4 k (BitVec.ofNat 32 1) (BitVec.ofNat 32 i)) S1x512x128.size (inb4 k 1 i (by decide) hi)).toLoadRect (harg4.unread x2)) p x
      = block v2 v3 x0 x1 x2 x3 ((Rect.unit (s := S1x8192x128) (k0_off3 k (BitVec.ofNat 32 1) (BitVec.ofNat 32 i)) S1x64x128.size (inb3 k 1 i (by decide) hi)).emb x) :=
  mix_piece _ _ _ (row3 k 0 ⟨i, hi⟩) (row4 k 0 ⟨i, hi⟩) hp x

/-- An index of row `i` of group `2 k` lies in the first consumer's store. -/
theorem mem_trip_even (k : Fin k0_t1_loop.trips) (i : ℕ) (hi : i < 16) (y : S1x8192x128.Idx)
    (hy : (y 1).val / 64 = 16 * (2 * k.val) + i) :
    y ∈ (Rect.unit (s := S1x8192x128) (k0_off7 k (BitVec.ofNat 32 i)) S1x64x128.size (k0_off7_inb k ⟨i, hi⟩)).set :=
  mem_row _ _ (row7 k ⟨i, hi⟩) y hy

/-- An index of row `i` of group `2 k + 1` lies in the second consumer's store. -/
theorem mem_trip_odd (k : Fin k0_t1_loop.trips) (i : ℕ) (hi : i < 16) (y : S1x8192x128.Idx)
    (hy : (y 1).val / 64 = 16 * (2 * k.val + 1) + i) :
    y ∈ (Rect.unit (s := S1x8192x128) (k0_off3 k (BitVec.ofNat 32 1) (BitVec.ofNat 32 i)) S1x64x128.size (inb3 k 1 i (by decide) hi)).set :=
  mem_row _ _ (row3 k 0 ⟨i, hi⟩) y hy

end Trip

end Cert.NatTrip
-- ==== Proof.NatFirst.lean ====
module

public import proofs.«01_k».proof.Proof.NatRows

@[expose] public section

set_option maxRecDepth 16384
set_option maxHeartbeats 4000000

noncomputable section

/-! The first weight buffer of one trip. -/

namespace Cert.NatTrip

open Cert.KernelIdeal Cert.KernelIdeal.Gen Cert.NatDefs
open Idealize.ShloMosaic Idealize.ShloMosaic.TcCoe Idealize.ShloMosaic.Tactic

variable {F : FTy → Type} [FloatOps F]

attribute [local irreducible] k0_off3 k0_off4 k0_off5 k0_off6 k0_off7 View.readAt View.readCov probs block

section Lists

variable (𝒱 : Variants) (c : Dev nD) (bd : Option 𝒱.V) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x2x128x896 .f32) (harg5 : arg5.IsWhole)
  (arg6 : Memref sig .tc .vmem S1x8192x128 .bf16) (harg6 : arg6.IsWhole)
  (arg7 : Memref sig .tc .vmem S16x128x512 .bf16) (harg7 : arg7.IsWhole)
  (arg8 : Memref sig .tc .vmem S16x128x512 .bf16) (harg8 : arg8.IsWhole)
  (v2 : IVec S64x128 1) (v3 : FVec F S512x128 .bf16) (v545 v546 : BitVec 32)
  (x0 x1 x2 : Vec F S1x8192x128 .bf16) (x3 : Vec F S1x2x128x896 .f32) (k : Fin k0_t1_loop.trips)
  (f6 : BufTy.Contents (Elt F) arg6.view.ty) (f7 : BufTy.Contents (Elt F) arg7.view.ty)
  (f8 : BufTy.Contents (Elt F) arg8.view.ty)

/-- One row's weights, from its scores and their row maxima. -/
theorem prob_max (q : Vec F S1x64x128 .bf16) (kk : Vec F S1x512x128 .bf16) (b : Vec F S1x1x128x512 .f32) :
    k0_pay73 (k0_pay71 v2 q kk b) (k0_pay72 v2 q kk b) = prob v2 q kk b := rfl

attribute [local irreducible] k0_pay71 k0_pay72 k0_pay73

/-- The stores into the first weight buffer are the weights of group `2 k + 2`. -/
theorem first_pieces : View.PiecesOf (probs v2 x0 x1 x3 (2 * k.val + 2))
    (tripL_k0_t1 𝒱 c bd i arg2 harg2 arg3 harg3 arg4 harg4 arg5 harg5 arg6 harg6 arg7 harg7 arg8 harg8 v2 v3 v545 v546
      (harg2.unread x0) (harg3.unread x1) (harg4.unread x2) (harg5.unread x3) k f6 f7 f8).2.1 := by
  unfold tripL_k0_t1 trip_k0_t1
  dsimp only
  iterate 8 refine ⟨fun x => prob_trip k 2 _ (by decide) (by decide) x, ?_⟩
  refine ⟨fun x => (congrFun (prob_max v2 _ _ _) x).trans (prob_trip k 2 7 (by decide) (by decide) x), ?_⟩
  repeat' first
    | exact trivial
    | refine ⟨fun x => prob_trip k 2 _ (by decide) (by decide) x, ?_⟩

theorem first_cover (y : S16x128x512.Idx) : ∃ p ∈
    (tripL_k0_t1 𝒱 c bd i arg2 harg2 arg3 harg3 arg4 harg4 arg5 harg5 arg6 harg6 arg7 harg7 arg8 harg8 v2 v3 v545 v546
      (harg2.unread x0) (harg3.unread x1) (harg4.unread x2) (harg5.unread x3) k f6 f7 f8).2.1, y ∈ p.1.set := by
  unfold tripL_k0_t1 trip_k0_t1
  dsimp only
  exact View.cover_of_tiled (s := S16x128x512) _ ![1, 128, 512] (by rfl) y

end Lists

end Cert.NatTrip
-- ==== Proof.NatSecond.lean ====
module

public import proofs.«01_k».proof.Proof.NatRows

@[expose] public section

set_option maxRecDepth 16384
set_option maxHeartbeats 4000000

noncomputable section

/-! The second weight buffer of one trip. -/

namespace Cert.NatTrip

open Cert.KernelIdeal Cert.KernelIdeal.Gen Cert.NatDefs
open Idealize.ShloMosaic Idealize.ShloMosaic.TcCoe Idealize.ShloMosaic.Tactic

variable {F : FTy → Type} [FloatOps F]

attribute [local irreducible] k0_off3 k0_off4 k0_off5 k0_off6 k0_off7 View.readAt View.readCov probs block

section Lists

variable (𝒱 : Variants) (c : Dev nD) (bd : Option 𝒱.V) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x2x128x896 .f32) (harg5 : arg5.IsWhole)
  (arg6 : Memref sig .tc .vmem S1x8192x128 .bf16) (harg6 : arg6.IsWhole)
  (arg7 : Memref sig .tc .vmem S16x128x512 .bf16) (harg7 : arg7.IsWhole)
  (arg8 : Memref sig .tc .vmem S16x128x512 .bf16) (harg8 : arg8.IsWhole)
  (v2 : IVec S64x128 1) (v3 : FVec F S512x128 .bf16) (v545 v546 : BitVec 32)
  (x0 x1 x2 : Vec F S1x8192x128 .bf16) (x3 : Vec F S1x2x128x896 .f32) (k : Fin k0_t1_loop.trips)
  (f6 : BufTy.Contents (Elt F) arg6.view.ty) (f7 : BufTy.Contents (Elt F) arg7.view.ty)
  (f8 : BufTy.Contents (Elt F) arg8.view.ty)

/-- The stores into the second weight buffer are the weights of group `2 k + 1`. -/
theorem second_pieces : View.PiecesOf (probs v2 x0 x1 x3 (2 * k.val + 1))
    (trip_k0_t1.sl.HW_arg8_16 arg2 arg3 arg5 v2 (harg2.unread x0) (harg3.unread x1) (harg5.unread x3) k) := by
  unfold trip_k0_t1.sl.HW_arg8_16
  repeat' first
    | exact trivial
    | refine ⟨fun x => prob_trip k _ _ (by decide) (by decide) x, ?_⟩

theorem second_cover (y : S16x128x512.Idx) : ∃ p ∈
    (trip_k0_t1.sl.HW_arg8_16 arg2 arg3 arg5 v2 (harg2.unread x0) (harg3.unread x1) (harg5.unread x3) k), y ∈ p.1.set :=
  View.cover_of_tiled (s := S16x128x512) _ ![1, 128, 512] (by rfl) y

end Lists

end Cert.NatTrip
-- ==== Proof.NatOut.lean ====
module

public import proofs.«01_k».proof.Proof.NatSecond

@[expose] public section

set_option maxRecDepth 16384
set_option maxHeartbeats 4000000

noncomputable section

/-! The output's stores of one trip. -/

namespace Cert.NatTrip

open Cert.KernelIdeal Cert.KernelIdeal.Gen Cert.NatDefs
open Idealize.ShloMosaic Idealize.ShloMosaic.TcCoe Idealize.ShloMosaic.Tactic

variable {F : FTy → Type} [FloatOps F]

attribute [local irreducible] k0_off3 k0_off4 k0_off5 k0_off6 k0_off7 View.readAt View.readCov probs block

section Lists

variable (𝒱 : Variants) (c : Dev nD) (bd : Option 𝒱.V) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x2x128x896 .f32) (harg5 : arg5.IsWhole)
  (arg6 : Memref sig .tc .vmem S1x8192x128 .bf16) (harg6 : arg6.IsWhole)
  (arg7 : Memref sig .tc .vmem S16x128x512 .bf16) (harg7 : arg7.IsWhole)
  (arg8 : Memref sig .tc .vmem S16x128x512 .bf16) (harg8 : arg8.IsWhole)
  (v2 : IVec S64x128 1) (v3 : FVec F S512x128 .bf16) (v545 v546 : BitVec 32)
  (x0 x1 x2 : Vec F S1x8192x128 .bf16) (x3 : Vec F S1x2x128x896 .f32) (k : Fin k0_t1_loop.trips)
  (f6 : BufTy.Contents (Elt F) arg6.view.ty) (f7 : BufTy.Contents (Elt F) arg7.view.ty)
  (f8 : BufTy.Contents (Elt F) arg8.view.ty)

/-- The stores into the output are rows of the block, when the first weight buffer holds the weights of
    group `2 k`. -/
theorem out_pieces (h7 : arg7.view.read (Elt F) f7 = probs v2 x0 x1 x3 (2 * k.val)) :
    View.PiecesOf (block v2 v3 x0 x1 x2 x3)
    (tripL_k0_t1 𝒱 c bd i arg2 harg2 arg3 harg3 arg4 harg4 arg5 harg5 arg6 harg6 arg7 harg7 arg8 harg8 v2 v3 v545 v546
      (harg2.unread x0) (harg3.unread x1) (harg4.unread x2) (harg5.unread x3) k f6 f7 f8).1 := by
  have h8 := second_pieces arg2 harg2 arg3 harg3 arg5 harg5 v2 x0 x1 x3 k
  have h8c := second_cover arg2 harg2 arg3 harg3 arg5 harg5 v2 x0 x1 x3 k
  unfold tripL_k0_t1 trip_k0_t1
  dsimp only
  repeat' first
    | exact trivial
    | refine ⟨fun x => mix_trip_odd k _ (by decide) (slot_readCov _ _ _ h8 h8c (by decide)) x, ?_⟩
    | refine ⟨fun x => mix_trip_even k _ (by decide) (slot_load _ _ h7 (by decide)) x, ?_⟩

end Lists

end Cert.NatTrip
-- ==== Proof.NatCover.lean ====
module

public import proofs.«01_k».proof.Proof.NatRows

@[expose] public section

set_option maxRecDepth 16384
set_option maxHeartbeats 4000000

noncomputable section

/-! The rows one trip's stores into the output reach. -/

namespace Cert.NatTrip

open Cert.KernelIdeal Cert.KernelIdeal.Gen Cert.NatDefs
open Idealize.ShloMosaic Idealize.ShloMosaic.TcCoe Idealize.ShloMosaic.Tactic

variable {F : FTy → Type} [FloatOps F]

attribute [local irreducible] k0_off3 k0_off4 k0_off5 k0_off6 k0_off7 View.readAt View.readCov probs block

section Lists

variable (𝒱 : Variants) (c : Dev nD) (bd : Option 𝒱.V) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x2x128x896 .f32) (harg5 : arg5.IsWhole)
  (arg6 : Memref sig .tc .vmem S1x8192x128 .bf16) (harg6 : arg6.IsWhole)
  (arg7 : Memref sig .tc .vmem S16x128x512 .bf16) (harg7 : arg7.IsWhole)
  (arg8 : Memref sig .tc .vmem S16x128x512 .bf16) (harg8 : arg8.IsWhole)
  (v2 : IVec S64x128 1) (v3 : FVec F S512x128 .bf16) (v545 v546 : BitVec 32)
  (x0 x1 x2 : Vec F S1x8192x128 .bf16) (x3 : Vec F S1x2x128x896 .f32) (k : Fin k0_t1_loop.trips)
  (f6 : BufTy.Contents (Elt F) arg6.view.ty) (f7 : BufTy.Contents (Elt F) arg7.view.ty)
  (f8 : BufTy.Contents (Elt F) arg8.view.ty)

/-- They reach the rows of the groups `2 k` and `2 k + 1`. -/
theorem out_cover (y : S1x8192x128.Idx) (hy : 32 * k.val ≤ (y 1).val / 64 ∧ (y 1).val / 64 < 32 * k.val + 32) :
    ∃ p ∈ (tripL_k0_t1 𝒱 c bd i arg2 harg2 arg3 harg3 arg4 harg4 arg5 harg5 arg6 harg6 arg7 harg7 arg8 harg8 v2 v3 v545 v546
      (harg2.unread x0) (harg3.unread x1) (harg4.unread x2) (harg5.unread x3) k f6 f7 f8).1, y ∈ p.1.set := by
  unfold tripL_k0_t1 trip_k0_t1
  dsimp only
  refine cover_cons y (32 * k.val) 31 _ _ (fun h => mem_trip_odd k 15 (by decide) y (by omega)) ?_ hy.2
  iterate 15 refine cover_cons y (32 * k.val) _ _ _ (fun h => mem_trip_odd k _ (by decide) y (by omega)) ?_
  iterate 16 refine cover_cons y (32 * k.val) _ _ _ (fun h => mem_trip_even k _ (by decide) y (by omega)) ?_
  intro h
  exact absurd hy.1 (Nat.not_le.mpr h)

end Lists

end Cert.NatTrip
-- ==== Proof.NatTrip.lean ====
module

public import proofs.«01_k».proof.Proof.NatFirst
public import proofs.«01_k».proof.Proof.NatOut
public import proofs.«01_k».proof.Proof.NatCover

@[expose] public section

set_option maxRecDepth 16384
set_option maxHeartbeats 4000000

noncomputable section

/-! The kernel's loop: before every trip, what is stored and what the first weight buffer holds. -/

namespace Cert.NatTrip

open Cert.KernelIdeal Cert.KernelIdeal.Gen Cert.NatDefs
open Idealize.ShloMosaic Idealize.ShloMosaic.TcCoe Idealize.ShloMosaic.Tactic

variable {F : FTy → Type} [FloatOps F]

section Lists

variable (𝒱 : Variants) (c : Dev nD) (bd : Option 𝒱.V) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x2x128x896 .f32) (harg5 : arg5.IsWhole)
  (arg6 : Memref sig .tc .vmem S1x8192x128 .bf16) (harg6 : arg6.IsWhole)
  (arg7 : Memref sig .tc .vmem S16x128x512 .bf16) (harg7 : arg7.IsWhole)
  (arg8 : Memref sig .tc .vmem S16x128x512 .bf16) (harg8 : arg8.IsWhole)
  (v2 : IVec S64x128 1) (v3 : FVec F S512x128 .bf16) (v545 v546 : BitVec 32)
  (x0 x1 x2 : Vec F S1x8192x128 .bf16) (x3 : Vec F S1x2x128x896 .f32) (k : Fin k0_t1_loop.trips)
  (f6 : BufTy.Contents (Elt F) arg6.view.ty) (f7 : BufTy.Contents (Elt F) arg7.view.ty)
  (f8 : BufTy.Contents (Elt F) arg8.view.ty)

/-- Before trip `n` of the loop: what has been stored into the output are rows of the block, all those of
    the first `2 n` groups, and the first weight buffer holds the weights of group `2 n`. -/
theorem loop_state (h7 : arg7.view.read (Elt F) f7 = probs v2 x0 x1 x3 0) : ∀ n : ℕ, n ≤ k0_t1_loop.trips →
    View.PiecesOf (block v2 v3 x0 x1 x2 x3) (pb_k0_t1 𝒱 c bd i arg2 harg2 arg3 harg3 arg4 harg4 arg5 harg5 arg6 harg6 arg7 harg7 arg8 harg8 v2 v3 v545 v546
      (harg2.unread x0) (harg3.unread x1) (harg4.unread x2) (harg5.unread x3) f6 f7 f8 n).1
      ∧ (∀ y : S1x8192x128.Idx, (y 1).val / 64 < 32 * n → ∃ p ∈ (pb_k0_t1 𝒱 c bd i arg2 harg2 arg3 harg3 arg4 harg4 arg5 harg5 arg6 harg6 arg7 harg7 arg8 harg8 v2 v3 v545 v546
      (harg2.unread x0) (harg3.unread x1) (harg4.unread x2) (harg5.unread x3) f6 f7 f8 n).1, y ∈ p.1.set)
      ∧ arg7.view.read (Elt F) (arg7.view.writes (Elt F) f7 (pb_k0_t1 𝒱 c bd i arg2 harg2 arg3 harg3 arg4 harg4 arg5 harg5 arg6 harg6 arg7 harg7 arg8 harg8 v2 v3 v545 v546
      (harg2.unread x0) (harg3.unread x1) (harg4.unread x2) (harg5.unread x3) f6 f7 f8 n).2.1) = probs v2 x0 x1 x3 (2 * n)
  | 0, _ => ⟨trivial, fun y h => absurd h (by omega), h7⟩
  | n + 1, hn => by
    obtain ⟨hp, hc, hr⟩ := loop_state h7 n (by omega)
    rw [pb_k0_t1_succ 𝒱 c bd i arg2 harg2 arg3 harg3 arg4 harg4 arg5 harg5 arg6 harg6 arg7 harg7 arg8 harg8 v2 v3 v545 v546
      (harg2.unread x0) (harg3.unread x1) (harg4.unread x2) (harg5.unread x3) f6 f7 f8 ⟨n, hn⟩]
    refine ⟨piecesOf_append (out_pieces _ _ _ _ _ _ _ _ _ _ _ _ _ _ _ _ _ _ _ _ _ _ _ _ _ _ ⟨n, hn⟩ _ _ _ hr) hp, fun y hy => ?_, ?_⟩
    · by_cases h : (y 1).val / 64 < 32 * n
      · obtain ⟨p, hm, hy⟩ := hc y h
        exact ⟨p, List.mem_append_right _ hm, hy⟩
      · obtain ⟨p, hm, hy⟩ := out_cover 𝒱 c bd i arg2 harg2 arg3 harg3 arg4 harg4 arg5 harg5 arg6 harg6 arg7 harg7 arg8 harg8
          v2 v3 v545 v546 x0 x1 x2 x3 ⟨n, hn⟩ _ _ _ y ⟨by show 32 * n ≤ _; omega, by show _ < 32 * n + 32; omega⟩
        exact ⟨p, List.mem_append_left _ hm, hy⟩
    · rw [View.writes_append]
      funext y
      exact View.read_writes_apply_of_pieces _ _ _ _ (first_pieces _ _ _ _ _ _ _ _ _ _ _ _ _ _ _ _ _ _ _ _ _ _ _ _ _ _ ⟨n, hn⟩ _ _ _).mem
        y (first_cover _ _ _ _ _ _ _ _ _ _ _ _ _ _ _ _ _ _ _ _ _ _ _ _ _ _ ⟨n, hn⟩ _ _ _ y)

end Lists

end Cert.NatTrip
-- ==== Proof.NatRun.lean ====
module

public import proofs.«01_k».proof.Proof.NatTrip

@[expose] public section

-- membership in a rectangle of production extents (`View.cover_of_tiled`): the elaborator's structural look
-- recurses once per coordinate of the long axes
set_option maxRecDepth 16384
set_option maxHeartbeats 4000000

noncomputable section

namespace Cert.NatRun

open Cert.KernelIdeal Cert.KernelIdeal.Gen Cert.NatDefs Cert.NatTrip

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4848000 in
theorem run (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x2x128x896 .f32) (harg5 : arg5.IsWhole) (arg6 : Memref sig .tc .vmem S1x8192x128 .bf16) (harg6 : arg6.IsWhole) (arg7 : Memref sig .tc .vmem S16x128x512 .bf16) (harg7 : arg7.IsWhole) (arg8 : Memref sig .tc .vmem S16x128x512 .bf16) (harg8 : arg8.IsWhole)
    (x0 : Vec F S1x8192x128 .bf16) (x1 : Vec F S1x8192x128 .bf16) (x2 : Vec F S1x8192x128 .bf16) (x3 : Vec F S1x2x128x896 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (NatDefs.block k0_pay124 k0_pay125 x0 x1 x2 x3) ∗ (∃ d, owns (c : Thread nD τ) arg7 fullShare d) ∗ (∃ d, owns (c : Thread nD τ) arg8 fullShare d)) -∗ K ⟨⟩))
          ⊢ wp frame (wpE (defs₀ (F := F)) Variants.none c none) E (cc0_natten i arg2 harg2 arg3 harg3 arg4 harg4 arg5 harg5 arg6 harg6 arg7 harg7 arg8 harg8) K := by
  simp only [cc0_natten_eq_skeleton]; unfold cc0_natten_skel
  simp only [k0_part110_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    have hp0 : View.PiecesOf (probs k0_pay124 x0 x1 x3 0) (run.sl.HS0_16 c arg2 harg2 arg3 harg3 arg5 harg5 x0 x1 x3) := by
      unfold run.sl.HS0_16
      iterate 16 refine ⟨fun x => prob_store 0 _ (by decide) (by decide) (by decide +kernel) (by decide +kernel) (by decide +kernel) x, ?_⟩
      exact trivial
    have hs0 : arg7.view.read (Elt F) (arg7.view.writes (Elt F) arg7.view.junk (run.sl.HS0_16 c arg2 harg2 arg3 harg3 arg5 harg5 x0 x1 x3))
        = probs k0_pay124 x0 x1 x3 0 :=
      funext fun y => View.read_writes_apply_of_pieces _ _ _ _ hp0.mem y (View.cover_of_tiled (s := S16x128x512) _ ![1, 128, 512] (by rfl) y)
    have ht : Scf.trips k0_t1_loop.lb k0_t1_loop.ub k0_t1_loop.st = 3 := by decide
    obtain ⟨hp, hc, hr⟩ := loop_state Variants.none c none i arg2 harg2 arg3 harg3 arg4 harg4 arg5 harg5 arg6 harg6 arg7 harg7 arg8 harg8
      k0_pay124 k0_pay125 (11#32) (960#32) x0 x1 x2 x3 f4 _ fs1 hs0 (Scf.trips k0_t1_loop.lb k0_t1_loop.ub k0_t1_loop.st) (le_of_eq rfl)
    have hr6 := hr.trans (congrArg (probs k0_pay124 x0 x1 x3) (by rw [ht] : 2 * Scf.trips k0_t1_loop.lb k0_t1_loop.ub k0_t1_loop.st = 6))
    rw [← View.writes_append] at hr6
    have hp1 : View.PiecesOf (probs k0_pay124 x0 x1 x3 7)
        ((run.sl.HS1_16 c i arg2 harg2 arg3 harg3 arg4 harg4 arg5 harg5 arg6 harg6 arg7 harg7 arg8 harg8 x0 x1 x2 x3 f4 fs1).take 16) := by
      unfold run.sl.HS1_16
      iterate 16 refine ⟨fun x => prob_store 7 _ (by decide) (by decide) (by decide +kernel) (by decide +kernel) (by decide +kernel) x, ?_⟩
      exact trivial
    have hs1 : arg8.view.read (Elt F) (arg8.view.writes (Elt F) arg8.view.junk
          (run.sl.HS1_16 c i arg2 harg2 arg3 harg3 arg4 harg4 arg5 harg5 arg6 harg6 arg7 harg7 arg8 harg8 x0 x1 x2 x3 f4 fs1))
        = probs k0_pay124 x0 x1 x3 7 :=
      read_take 16 _ hp1 fun y => View.cover_of_tiled (s := S16x128x512) _ ![1, 128, 512] (by rfl) y
    funext y
    refine View.read_writes_apply_of_pieces (Val := Elt F) (e := .bf16) _ _ (block k0_pay124 k0_pay125 x0 x1 x2 x3) _ (View.PiecesOf.mem (Val := Elt F) (e := .bf16) ?_) y ?_
    · iterate 16 refine ⟨fun x => mix_store (16 * 7 + _) (by decide) (by decide +kernel) (by decide +kernel) (slot_readJunk 7 _ _ hs1 (by decide)) x, ?_⟩
      iterate 16 refine ⟨fun x => mix_store (16 * 6 + _) (by decide) (by decide +kernel) (by decide +kernel) (slot_readJunk 6 _ _ hr6 (by decide)) x, ?_⟩
      exact hp
    · have hy : (y 1).val < 8192 := (y 1).isLt
      refine cover_cons y 96 31 _ _ (fun h => mem_store (96 + _) (by decide) (by decide +kernel) y h) ?_ (by omega)
      iterate 31 refine cover_cons y 96 _ _ _ (fun h => mem_store (96 + _) (by decide) (by decide +kernel) y h) ?_
      intro h
      exact hc y (by rw [ht]; omega)
  isplitl [HS0]
  · iexists _, _; isplitr; swap; · iexact HS0
    ipureintro; rfl
  iexists _, _; isplitr; swap; · iexact HS1
  ipureintro; rfl

end Cert.NatRun
-- ==== Proof.NatFrame.lean ====
module

public import proofs.«01_k».proof.Proof.NatRun
public import Idealize.ShloMosaic.Lib.Claim

@[expose] public section

-- membership in a rectangle of production extents (`View.cover_of_tiled`): the elaborator's structural look
-- recurses once per coordinate of the long axes
set_option maxRecDepth 16384

noncomputable section

/-! The attention kernel's launch: what each grid point leaves in the output, and the frame. -/

namespace Cert.NatFrame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What the output's staging buffer holds after the body at point `t`. -/
def outsAt0 (c : Dev nD) (t : Fin cfg0.N) : Vec F S1x8192x128 .bf16 :=
  NatDefs.block k0_pay124 k0_pay125 (iblk m c 0 t) (iblk m c 1 t) (iblk m c 2 t) (iblk m c 3 t)

/-! ## The pipeline's proof data -/

/-- The proof data of the one pipeline on core `c`: the arrays as the region finds them (`V`); after the body at
    point `t` each input's buffer at its block and the outputs' at `outsAt0`; the invariant:
    the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (the precondition of the body's triple, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  iintro ⟨⟨⟨HS0, HS1⟩, Hg⟩, Ho, ⟨%d0, H0⟩, ⟨%d1, H1⟩, ⟨%d2, H2⟩, ⟨%d3, H3⟩, ⟨%d4, H4⟩⟩
  iapply (NatRun.run c (grid0.coords t) _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame at any arithmetic: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.NatFrame
-- ==== Proof.NatSame.lean ====
module

public import proofs.«01_k».proof.Defs
public import proofs.«01_k».proof.Proof.Gen.Kernel
public import proofs.«01_k».proof.Proof.NatFrame

/-! The two printed programs of the neighbourhood attention are the same operations: one read at the
machine's words, the other at the extended reals.  Their texts are equal, so the frame of the one,
stated for every float instance, is the frame of the other. -/

@[expose] public section
set_option maxRecDepth 65536
set_option smartUnfolding false
noncomputable section
namespace Cert.NatSame
open Idealize.ShloMosaic Idealize.ShloMosaic.TcCoe Idealize.SL.Sem

set_option maxHeartbeats 4000000 in
/-- From every memory, every run of the kernel as compiled comes to an end without a fault. -/
theorem frame_kernel : Cert.quiescent_Kernel (hKernel := Cert.Kernel.Gen.facts) := by
  intro m ρ _
  exact Cert.NatFrame.frame (F := Bits) m ρ

end Cert.NatSame
-- ==== Proof.NatPay.lean ====
module

public import proofs.«01_k».proof.Proof.NatDefs

@[expose] public section

noncomputable section

/-! The entries of one row's weights and output, at ideal arithmetic. -/

namespace Cert.NatPay

open Cert.KernelIdeal Cert.KernelIdeal.Gen Cert.NatDefs
open Idealize.ShloMosaic Idealize.ShloMosaic.Tactic

/-- Position `j` of head `hh` of a pair, among the pair's 128. -/
abbrev at2 (hh : Fin 2) (j : Fin 64) : Fin 128 := ⟨64 * hh.val + j.val, by omega⟩

/-- The lane mask is one exactly on the first head's lanes. -/
theorem mask_apply (c : Fin 64) (d : Fin 128) : k0_pay124 (ix2 c d) = if d.val < 64 then 1#1 else 0#1 := by
  pointwise [k0_pay124]
  revert d
  decide +kernel

/-- The column of ones. -/
theorem ones_apply (c : Fin 512) (d : Fin 128) : (k0_pay125 : FVec Ideal S512x128 .bf16) (ix2 c d) = 1 := by
  pointwise [k0_pay125]

/-- A sum over the pair's lanes that vanishes on the other head's lanes is the sum over one head's lanes. -/
theorem sum_head (hh : Fin 2) (f : Fin 128 → EReal) (h : ∀ x : Fin 128, x.val / 64 ≠ hh.val → f x = 0) :
    ∑ x, f x = ∑ e : Fin 64, f (at2 hh e) := by
  have key : ∑ x, f x = ∑ e : Fin 64, f (at2 0 e) + ∑ e : Fin 64, f (at2 1 e) := by
    refine (Fin.sum_univ_add (a := 64) (b := 64) (fun x => f x)).trans ?_
    congr 1
  rw [key]
  match hh, h with
  | ⟨0, _⟩, h =>
    rw [Finset.sum_eq_zero (f := fun e => f (at2 1 e)) fun e _ => h _ (by show (64 * 1 + e.val) / 64 ≠ 0; omega), add_zero]
    rfl
  | ⟨1, _⟩, h =>
    rw [Finset.sum_eq_zero (f := fun e => f (at2 0 e)) fun e _ => h _ (by show (64 * 0 + e.val) / 64 ≠ 1; omega), zero_add]
    rfl

/-- The score of a head's query in column `c` against lane `l` of the window. -/
theorem score_apply (q : Vec Ideal S1x64x128 .bf16) (k : Vec Ideal S1x512x128 .bf16)
    (b : Vec Ideal S1x1x128x512 .f32) (hh : Fin 2) (c : Fin 64) (l : Fin 512) :
    k0_pay4 k0_pay124 q k b (ix2 (at2 hh c) l)
      = ∑ e : Fin 64, q (ix3 0 c (at2 hh e)) * k (ix3 0 l (at2 hh e)) + b (ix4 0 0 (at2 hh c) l) := by
  pointwise [k0_pay4]
  congr 1
  match hh with
  | ⟨0, h0⟩ =>
    have hc : ((at2 ⟨0, h0⟩ c : Fin 128) : ℕ) < 64 := by show 64 * 0 + c.val < 64; omega
    have ec : (⟨((at2 ⟨0, h0⟩ c : Fin 128) : ℕ), hc⟩ : Fin 64) = c := Fin.ext (by show 64 * 0 + c.val = c.val; omega)
    simp only [dif_pos hc, ec]
    rw [sum_head ⟨0, h0⟩]
    · refine Finset.sum_congr rfl fun e _ => ?_
      rw [mask_apply, if_pos (by show 64 * 0 + e.val < 64; omega)]
      rfl
    · intro x hx
      rw [mask_apply, if_neg (by have : x.val / 64 ≠ 0 := hx; omega)]
      exact zero_mul _
  | ⟨1, h1⟩ =>
    have hc : ¬ ((at2 ⟨1, h1⟩ c : Fin 128) : ℕ) < 64 := by show ¬ 64 * 1 + c.val < 64; omega
    have ec : ∀ h, (⟨((at2 ⟨1, h1⟩ c : Fin 128) : ℕ) - 64, h⟩ : Fin 64) = c := fun h => Fin.ext (by show 64 * 1 + c.val - 64 = c.val; omega)
    simp only [dif_neg hc, ec]
    rw [sum_head ⟨1, h1⟩]
    · refine Finset.sum_congr rfl fun e _ => ?_
      rw [mask_apply, if_neg (by show ¬ 64 * 1 + e.val < 64; omega)]
      rfl
    · intro x hx
      have : x.val / 64 ≠ 1 := hx
      rw [mask_apply, if_pos (by omega)]
      exact zero_mul _

/-- The unnormalised weight at a lane. -/
theorem weight_apply (s : FVec Ideal S128x512 .f32) (i : Fin 128) (l : Fin 512) :
    k0_pay5 s (ix3 0 i l)
      = Ideal.exp (s (ix2 i l) - Finset.fold max ⊥ (fun x : Fin 512 => s (ix2 i x)) Finset.univ) := by
  pointwise [k0_pay5]
  have h : Ideal.ofBits .f32 4286578688#32 = ⊥ := by
    simp [Ideal.ofBits, Ideal.ieee]
  rw [h]

/-- The output of a head at column `c`: its weighted values over the sum of its weights. -/
theorem out_apply (v : Vec Ideal S1x512x128 .bf16) (p : Vec Ideal S1x128x512 .bf16) (hh : Fin 2) (c : Fin 64)
    (e : Fin 64) :
    k0_pay36 k0_pay124 k0_pay125 v p (ix3 0 c (at2 hh e))
      = Ideal.div (∑ l : Fin 512, p (ix3 0 (at2 hh c) l) * v (ix3 0 l (at2 hh e)))
          (∑ l : Fin 512, p (ix3 0 (at2 hh c) l)) := by
  pointwise [k0_pay36]
  simp only [mask_apply, ones_apply, mul_one]
  match hh with
  | ⟨0, h0⟩ =>
    have he : ((at2 ⟨0, h0⟩ e : Fin 128) : ℕ) < 128 := (at2 ⟨0, h0⟩ e).isLt
    rw [if_pos (by show 64 * 0 + e.val < 64; omega)]
    simp only [dif_pos he]
    have ec : ∀ h, (⟨c.val, h⟩ : Fin 128) = at2 ⟨0, h0⟩ c := fun h => Fin.ext (by show c.val = 64 * 0 + c.val; omega)
    simp only [ec]
    rfl
  | ⟨1, h1⟩ =>
    have he : ((at2 ⟨1, h1⟩ e : Fin 128) : ℕ) < 128 := (at2 ⟨1, h1⟩ e).isLt
    rw [if_neg (by show ¬ 64 * 1 + e.val < 64; omega)]
    simp only [dif_pos he]
    rfl

end Cert.NatPay
-- ==== Proof.NatBlk.lean ====
module

public import proofs.«01_k».proof.Proof.NatFrame
public import Idealize.ShloMosaic.Lib.Pipeline.Value
public import Idealize.ShloMosaic.Lib.Pipeline.ValueKit.Geometry
public import Idealize.ShloMosaic.Lib.Pipeline.ValueKit.Point
public import Idealize.ShloMosaic.Lib.Claim
public import Idealize.ShloMosaic.Lib.Pointwise

@[expose] public section

set_option maxRecDepth 16384

noncomputable section

namespace Cert.NatBlk

open Cert.KernelIdeal Cert.KernelIdeal.Gen Idealize.ShloMosaic Idealize.ShloMosaic.TcCoe Idealize.SL.Sem
open Cert.NatFrame

variable (m : (ℓ : Loc nD τ sig) → Buf (Elt Ideal) ℓ)

theorem idx0 : ∀ t : Fin cfg0.N, win0_0.index t (0 : Fin 3) = t.val / 4 ∧ win0_0.index t (1 : Fin 3) = 0 ∧ win0_0.index t (2 : Fin 3) = t.val % 4 := (by decide +kernel : ∀ t : Fin grid0.N, _)
theorem idx1 : ∀ t : Fin cfg0.N, win0_1.index t (0 : Fin 3) = t.val / 4 ∧ win0_1.index t (1 : Fin 3) = 0 ∧ win0_1.index t (2 : Fin 3) = t.val % 4 := (by decide +kernel : ∀ t : Fin grid0.N, _)
theorem idx2 : ∀ t : Fin cfg0.N, win0_2.index t (0 : Fin 3) = t.val / 4 ∧ win0_2.index t (1 : Fin 3) = 0 ∧ win0_2.index t (2 : Fin 3) = t.val % 4 := (by decide +kernel : ∀ t : Fin grid0.N, _)
theorem idx3 : ∀ t : Fin cfg0.N, win0_3.index t (0 : Fin 4) = t.val % 4 ∧ win0_3.index t (1 : Fin 4) = 0 ∧ win0_3.index t (2 : Fin 4) = 0 ∧ win0_3.index t (3 : Fin 4) = 0 := (by decide +kernel : ∀ t : Fin grid0.N, _)
theorem idx4 : ∀ t : Fin cfg0.N, win0_4.index t (0 : Fin 3) = t.val / 4 ∧ win0_4.index t (1 : Fin 3) = 0 ∧ win0_4.index t (2 : Fin 3) = t.val % 4 := (by decide +kernel : ∀ t : Fin grid0.N, _)

abbrev bat (t : Fin cfg0.N) : Fin 2 := ⟨t.val / 4, by have h : t.val < 8 := t.isLt; omega⟩
abbrev pair (t : Fin cfg0.N) : Fin 4 := ⟨t.val % 4, by omega⟩
abbrev lane (t : Fin cfg0.N) (d : Fin 128) : Fin 512 := ⟨128 * (t.val % 4) + d.val, by omega⟩

theorem blk_q (c : Dev nD) (t : Fin cfg0.N) (r : Fin 8192) (d : Fin 128) : (iblk m c 0 t : FVec Ideal S1x8192x128 .bf16) (ix3 0 r d)
    = (m ((c : Thread nD τ).loc main_arg0) : FVec Ideal S2x8192x512 .bf16) (ix3 (bat t) r (lane t d)) := by
  blk_ext! [iblk, V, idx0 t]

theorem blk_k (c : Dev nD) (t : Fin cfg0.N) (r : Fin 8192) (d : Fin 128) : (iblk m c 1 t : FVec Ideal S1x8192x128 .bf16) (ix3 0 r d)
    = (m ((c : Thread nD τ).loc main_arg1) : FVec Ideal S2x8192x512 .bf16) (ix3 (bat t) r (lane t d)) := by
  blk_ext! [iblk, V, idx1 t]

theorem blk_v (c : Dev nD) (t : Fin cfg0.N) (r : Fin 8192) (d : Fin 128) : (iblk m c 2 t : FVec Ideal S1x8192x128 .bf16) (ix3 0 r d)
    = (m ((c : Thread nD τ).loc main_arg2) : FVec Ideal S2x8192x512 .bf16) (ix3 (bat t) r (lane t d)) := by
  blk_ext! [iblk, V, idx2 t]

theorem blk_b (c : Dev nD) (t : Fin cfg0.N) (s : Fin 2) (i : Fin 128) (l : Fin 896) : (iblk m c 3 t : FVec Ideal S1x2x128x896 .f32) (ix4 0 s i l)
    = (V m c main_v30 : FVec Ideal S4x2x128x896 .f32) (ix4 (pair t) s i l) := by
  blk_ext! [iblk, idx3 t]

end Cert.NatBlk
-- ==== Proof.NatTab.lean ====
module

public import proofs.«01_k».proof.Proof.NatBlk

@[expose] public section

set_option maxRecDepth 16384

noncomputable section

namespace Cert.NatTab

open Cert.KernelIdeal Cert.KernelIdeal.Gen Idealize.ShloMosaic Idealize.ShloMosaic.TcCoe Idealize.SL.Sem
open Cert.NatFrame

/-- The first key column the window of column `c` keeps. -/
def colStart (c : ℕ) : ℕ := min 48 (c - 8)

/-- The bias of head `h` at relative row `r`, from query column `c` to key column `k`: the table's entry where the
    window keeps the key, minus infinity where it does not. -/
def bias (rpb : FVec Ideal S1x8x15x31 .f32) (h : Fin 8) (r : Fin 15) (c k : ℕ) : EReal :=
  if colStart c ≤ k ∧ k < colStart c + 16 then rpb (ix4 0 h r ⟨(k + 15 - c) % 31, Nat.mod_lt _ (by norm_num)⟩) else ⊥

/-- The bit that says whether the window of column `c` keeps key column `k`. -/
abbrev keepBit (c k : ℕ) : BitVec 1 :=
  IntOp.andi
    (IntOp.cmpi CmpIPredicate.sge (BitVec.ofNat 32 k)
      (IntOp.minsi 48#32 (IntOp.maxsi 0#32 (IntOp.subi (BitVec.ofNat 32 c) 8#32))))
    (IntOp.cmpi CmpIPredicate.slt (BitVec.ofNat 32 k)
      (IntOp.addi (IntOp.minsi 48#32 (IntOp.maxsi 0#32 (IntOp.subi (BitVec.ofNat 32 c) 8#32))) 16#32))

/-- The bit is one exactly for the sixteen kept columns. -/
theorem keepBit_eq : ∀ c k : Fin 64, keepBit c.val k.val = if colStart c.val ≤ k.val ∧ k.val < colStart c.val + 16 then 1#1 else 0#1 := by
  decide +kernel

/-- For a kept column the relative column is `k + 15 - c`, below 31. -/
theorem relCol : ∀ c k : Fin 64, colStart c.val ≤ k.val ∧ k.val < colStart c.val + 16 →
    IntOp.addi (IntOp.subi (BitVec.ofNat 32 k.val) (BitVec.ofNat 32 c.val)) 15#32 = BitVec.ofNat 32 ((k.val + 15 - c.val) % 31) := by
  decide +kernel

/-- A bit read as a real number. -/
theorem onehot (a b : BitVec 32) :
    (FloatOps.sitofp FTy.f32 (BitVec.setWidth 32 (IntOp.cmpi CmpIPredicate.eq a b)) : Ideal .f32) = if a = b then (1 : EReal) else 0 := by
  by_cases h : a = b
  · subst h
    simp [IntOp.cmpi, FloatOps.sitofp]
  · have hb : (a == b) = false := by simpa using h
    simp [IntOp.cmpi, FloatOps.sitofp, h, hb]

/-- The table's cell: the selected row of the table, or minus infinity. -/
theorem cell (f : Fin 31 → EReal) (c k : Fin 64) :
    Scalar.select (keepBit c.val k.val)
        (∑ x : Fin 31, FloatOps.sitofp (F := Ideal) FTy.f32
          (BitVec.setWidth 32 (IntOp.cmpi CmpIPredicate.eq
            (IntOp.addi (IntOp.subi (BitVec.ofNat 32 k.val) (BitVec.ofNat 32 c.val)) 15#32) (BitVec.ofNat 32 x.val))) * f x)
        (⊥ : EReal)
      = if colStart c.val ≤ k.val ∧ k.val < colStart c.val + 16 then f ⟨(k.val + 15 - c.val) % 31, Nat.mod_lt _ (by norm_num)⟩ else ⊥ := by
  rw [keepBit_eq]
  by_cases hv : colStart c.val ≤ k.val ∧ k.val < colStart c.val + 16
  · rw [if_pos hv, if_pos hv, relCol c k hv]
    simp only [Scalar.select, onehot]
    rw [if_pos (show (1#1 : BitVec 1) = 1 from rfl)]
    rw [Finset.sum_eq_single (⟨(k.val + 15 - c.val) % 31, Nat.mod_lt _ (by norm_num)⟩ : Fin 31)]
    · rw [if_pos rfl, one_mul]
    · intro x _ hx
      rw [if_neg, zero_mul]
      intro h
      apply hx
      have hb := congrArg BitVec.toNat h
      simp only [BitVec.toNat_ofNat] at hb
      have := x.isLt
      exact Fin.ext (by show x.val = (k.val + 15 - c.val) % 31; omega)
    · exact fun h => absurd (Finset.mem_univ _) h
  · rw [if_neg hv, if_neg hv]
    rfl

/-- The word of minus infinity. -/
theorem ninf : (FloatOps.ofBits FTy.f32 4286578688#32 : Ideal .f32) = (⊥ : EReal) := by
  show Ideal.ofBits .f32 4286578688#32 = ⊥
  simp [Ideal.ofBits, Ideal.ieee]

variable (m : (ℓ : Loc nD τ sig) → Buf (Elt Ideal) ℓ)

/-- The bias argument. -/
abbrev rpb (c : Dev nD) : FVec Ideal S1x8x15x31 .f32 := m ((c : Thread nD τ).loc main_arg3)

set_option maxHeartbeats 4000000 in
/-- An entry of the two interleaved bias tables the host hands to the kernel. -/
theorem tab_read (c : Dev nD) (p : Fin 4) (s : Fin 2) (i : Fin 128) (l : Fin 896) :
    (V m c main_v30 : FVec Ideal S4x2x128x896 .f32) (ix4 p s i l)
      = bias (rpb m c) ⟨p.val * 2 + i.val / 64, by omega⟩ ⟨(64 * s.val + l.val) / 64, by omega⟩ (i.val % 64) ((64 * s.val + l.val) % 64) := by
  have key : ∀ L : Fin 960, _ := fun L => cell (fun x => rpb m c (ix4 0 ⟨p.val * 2 + i.val / 64, by omega⟩ ⟨L.val / 64, by omega⟩ x))
    ⟨i.val % 64, by omega⟩ ⟨L.val % 64, by omega⟩
  unfold V
  simp only [hostOps0, hostOps0_1, hostOps0_2, hostOps0_3, hostOps0_4, List.flatten_cons, List.flatten_nil, List.append_nil,
    List.cons_append, List.nil_append, StableHlo.TRef.binary, StableHlo.TRef.unary, StableHlo.TRef.ternary,
    StableHlo.TRef.toBuf, StableHlo.TRef.ofBuf, cast_eq]
  after_results_simp
  pointwise
  match s with
  | ⟨0, h0⟩ =>
    have k0 := key ⟨64 * 0 + l.val, by omega⟩
    rw [dif_pos (show (0 : ℕ) < 1 by decide)]
    unfold bias
    refine Eq.trans ?_ k0
    have e : l.val = 64 * 0 + l.val := by omega
    simp only [← e]
    rw [← ninf]
    rfl
  | ⟨1, h1⟩ =>
    have k1 := key ⟨64 * 1 + l.val, by omega⟩
    rw [dif_neg (show ¬ (1 : ℕ) < 1 by decide)]
    unfold bias
    refine Eq.trans ?_ k1
    rw [← ninf]
    rfl

end Cert.NatTab
-- ==== Proof.NatArray.lean ====
module

public import proofs.«01_k».proof.Proof.NatPay
public import proofs.«01_k».proof.Proof.NatBlk
public import proofs.«01_k».proof.Proof.NatTab

@[expose] public section

set_option maxRecDepth 16384

noncomputable section

/-! The array the attention kernel leaves: at every token and lane, the weighted mean over the padded window. -/

namespace Cert.NatArray

open Cert.KernelIdeal Cert.KernelIdeal.Gen Idealize.ShloMosaic Idealize.ShloMosaic.TcCoe Idealize.SL.Sem
open Cert.NatDefs Cert.NatFrame Cert.NatBlk Cert.NatTab
open Cert.NatPay (at2)

/-- The token of window position `l` of token `t`. -/
def win (t l : ℕ) : ℕ := 64 * start (t / 64) + l

theorem win_lt (t : Fin 8192) (l : Fin 512) : win t.val l.val < 8192 := by
  unfold win start; omega

theorem rel_lt (t : Fin 8192) (l : Fin 512) : rel (t.val / 64) + l.val / 64 < 15 := by
  unfold rel start; omega

/-- The score of window position `l` of token `t`: −∞ where the position is no neighbour. -/
def score (q k : FVec Ideal S2x8192x512 .bf16) (r : FVec Ideal S1x8x15x31 .f32) (b : Fin 2) (h : Fin 8) (t : Fin 8192) (l : Fin 512) : EReal :=
  ∑ e : Fin 64, q (ix3 b t ⟨h.val * 64 + e.val, by omega⟩) * k (ix3 b ⟨win t.val l.val, win_lt t l⟩ ⟨h.val * 64 + e.val, by omega⟩)
    + bias r h ⟨rel (t.val / 64) + l.val / 64, rel_lt t l⟩ (t.val % 64) (l.val % 64)

/-- The weighted mean of the window's values, for one token, head and lane. -/
def mean (q k v : FVec Ideal S2x8192x512 .bf16) (r : FVec Ideal S1x8x15x31 .f32) (b : Fin 2) (h : Fin 8) (t : Fin 8192) (e : Fin 64) : EReal :=
  Ideal.div
    (∑ l : Fin 512, Ideal.exp (score q k r b h t l - Finset.fold max ⊥ (score q k r b h t) Finset.univ)
      * v (ix3 b ⟨win t.val l.val, win_lt t l⟩ ⟨h.val * 64 + e.val, by omega⟩))
    (∑ l : Fin 512, Ideal.exp (score q k r b h t l - Finset.fold max ⊥ (score q k r b h t) Finset.univ))

variable (m : (ℓ : Loc nD τ sig) → Buf (Elt Ideal) ℓ) (ρ : Dev nD → PrngReg)

abbrev argq (c : Dev nD) : FVec Ideal S2x8192x512 .bf16 := m ((c : Thread nD τ).loc main_arg0)
abbrev argk (c : Dev nD) : FVec Ideal S2x8192x512 .bf16 := m ((c : Thread nD τ).loc main_arg1)
abbrev argv (c : Dev nD) : FVec Ideal S2x8192x512 .bf16 := m ((c : Thread nD τ).loc main_arg2)

/-- The head of half `hh` of grid point `t`'s lanes. -/
abbrev head (t : Fin cfg0.N) (hh : Fin 2) : Fin 8 := ⟨t.val % 4 * 2 + hh.val, by omega⟩

/-- Lanes of a half are lanes of its head. -/
theorem lane_eq (t : Fin cfg0.N) (hh : Fin 2) (e : Fin 64) : lane t (at2 hh e) = ⟨(head t hh).val * 64 + e.val, by omega⟩ :=
  Fin.ext (by show 128 * (t.val % 4) + (64 * hh.val + e.val) = (t.val % 4 * 2 + hh.val) * 64 + e.val; omega)

/-- The queries of a token. -/
theorem q_read (c : Dev nD) (t : Fin cfg0.N) (T : Fin 8192) (hh : Fin 2) (e : Fin 64) :
    qRow (iblk m c 0 t : FVec Ideal S1x8192x128 .bf16) (T.val / 64) (ix3 0 ⟨T.val % 64, by omega⟩ (at2 hh e))
      = argq m c (ix3 (bat t) T ⟨(head t hh).val * 64 + e.val, by omega⟩) := by
  have e1 : (64 * (T.val / 64) + T.val % 64) % 8192 = T.val := by omega
  have e2 : (⟨(64 * (T.val / 64) + T.val % 64) % 8192, Nat.mod_lt _ (by norm_num)⟩ : Fin 8192) = T := Fin.ext e1
  refine ((congrArg (fun z : Fin 8192 => (iblk m c 0 t : FVec Ideal S1x8192x128 .bf16) (ix3 0 z (at2 hh e))) e2).trans (blk_q m c t T (at2 hh e))).trans ?_
  rw [lane_eq]

/-- The keys of a window position. -/
theorem k_read (c : Dev nD) (t : Fin cfg0.N) (T : Fin 8192) (l : Fin 512) (hh : Fin 2) (e : Fin 64) :
    kWin (iblk m c 1 t : FVec Ideal S1x8192x128 .bf16) (T.val / 64) (ix3 0 l (at2 hh e))
      = argk m c (ix3 (bat t) ⟨win T.val l.val, win_lt T l⟩ ⟨(head t hh).val * 64 + e.val, by omega⟩) := by
  have hw := win_lt T l
  have e2 : (⟨(64 * start (T.val / 64) + l.val) % 8192, Nat.mod_lt _ (by norm_num)⟩ : Fin 8192) = ⟨win T.val l.val, hw⟩ :=
    Fin.ext (Nat.mod_eq_of_lt hw)
  refine ((congrArg (fun z : Fin 8192 => (iblk m c 1 t : FVec Ideal S1x8192x128 .bf16) (ix3 0 z (at2 hh e))) e2).trans (blk_k m c t _ (at2 hh e))).trans ?_
  rw [lane_eq]

/-- The values of a window position. -/
theorem v_read (c : Dev nD) (t : Fin cfg0.N) (T : Fin 8192) (l : Fin 512) (hh : Fin 2) (e : Fin 64) :
    kWin (iblk m c 2 t : FVec Ideal S1x8192x128 .bf16) (T.val / 64) (ix3 0 l (at2 hh e))
      = argv m c (ix3 (bat t) ⟨win T.val l.val, win_lt T l⟩ ⟨(head t hh).val * 64 + e.val, by omega⟩) := by
  have hw := win_lt T l
  have e2 : (⟨(64 * start (T.val / 64) + l.val) % 8192, Nat.mod_lt _ (by norm_num)⟩ : Fin 8192) = ⟨win T.val l.val, hw⟩ :=
    Fin.ext (Nat.mod_eq_of_lt hw)
  refine ((congrArg (fun z : Fin 8192 => (iblk m c 2 t : FVec Ideal S1x8192x128 .bf16) (ix3 0 z (at2 hh e))) e2).trans (blk_v m c t _ (at2 hh e))).trans ?_
  rw [lane_eq]

/-- Equal positions of the table hold equal biases. -/
theorem bias_congr (r : FVec Ideal S1x8x15x31 .f32) {h h' : Fin 8} {i i' : Fin 15} {c c' l l' : ℕ} (e1 : h = h') (e2 : i = i') (e3 : c = c') (e4 : l = l') :
    bias r h i c l = bias r h' i' c' l' := by
  subst e1 e2 e3 e4; rfl

/-- The bias of a window position. -/
theorem b_read (c : Dev nD) (t : Fin cfg0.N) (T : Fin 8192) (l : Fin 512) (hh : Fin 2) :
    bWin (iblk m c 3 t : FVec Ideal S1x2x128x896 .f32) (T.val / 64) (ix4 0 0 (at2 hh ⟨T.val % 64, by omega⟩) l)
      = bias (rpb m c) (head t hh) ⟨rel (T.val / 64) + l.val / 64, rel_lt T l⟩ (T.val % 64) (l.val % 64) := by
  have hr : rel (T.val / 64) ≤ 7 := by unfold rel start; omega
  refine ((blk_b m c t ⟨rel (T.val / 64) % 2, Nat.mod_lt _ (by norm_num)⟩ (at2 hh ⟨T.val % 64, by omega⟩)
    ⟨(rel (T.val / 64) / 2 * 128 + l.val) % 896, Nat.mod_lt _ (by norm_num)⟩).trans (tab_read m c _ _ _ _)).trans ?_
  have f1 : ∀ R l : ℕ, R ≤ 7 → l < 512 → (64 * (R % 2) + (R / 2 * 128 + l) % 896) / 64 = R + l / 64 := by intros; omega
  have f2 : ∀ R l : ℕ, R ≤ 7 → l < 512 → (64 * (R % 2) + (R / 2 * 128 + l) % 896) % 64 = l % 64 := by intros; omega
  refine bias_congr (rpb m c) (Fin.ext ?_) (Fin.ext ?_) ?_ ?_
  · show t.val % 4 * 2 + (64 * hh.val + T.val % 64) / 64 = t.val % 4 * 2 + hh.val; omega
  · exact f1 _ _ hr l.isLt
  · show (64 * hh.val + T.val % 64) % 64 = T.val % 64; omega
  · exact f2 _ _ hr l.isLt

/-- The scores of a token's window, as the kernel computes them. -/
theorem score_read (c : Dev nD) (t : Fin cfg0.N) (T : Fin 8192) (hh : Fin 2) (l : Fin 512) :
    k0_pay4 (F := Ideal) k0_pay124 (qRow (iblk m c 0 t) (T.val / 64)) (kWin (iblk m c 1 t) (T.val / 64)) (bWin (iblk m c 3 t) (T.val / 64))
        (ix2 (at2 hh ⟨T.val % 64, by omega⟩) l)
      = score (argq m c) (argk m c) (rpb m c) (bat t) (head t hh) T l := by
  rw [NatPay.score_apply, b_read]
  refine congrArg (· + _) (Finset.sum_congr rfl fun e _ => ?_)
  rw [q_read, k_read]

/-- The weights of a token's window, as the kernel computes them. -/
theorem weight_read (c : Dev nD) (t : Fin cfg0.N) (T : Fin 8192) (hh : Fin 2) (l : Fin 512) :
    probRow (F := Ideal) k0_pay124 (iblk m c 0 t) (iblk m c 1 t) (iblk m c 3 t) (T.val / 64) (ix3 0 (at2 hh ⟨T.val % 64, by omega⟩) l)
      = Ideal.exp (score (argq m c) (argk m c) (rpb m c) (bat t) (head t hh) T l
          - Finset.fold max ⊥ (score (argq m c) (argk m c) (rpb m c) (bat t) (head t hh) T) Finset.univ) := by
  unfold probRow prob
  rw [NatPay.weight_apply, score_read, funext (score_read m c t T hh)]

/-- What the kernel leaves of a token, in grid point `t`'s block. -/
theorem block_entry (c : Dev nD) (t : Fin cfg0.N) (T : Fin 8192) (hh : Fin 2) (e : Fin 64) :
    block (F := Ideal) k0_pay124 k0_pay125 (iblk m c 0 t) (iblk m c 1 t) (iblk m c 2 t) (iblk m c 3 t) (ix3 0 T (at2 hh e))
      = mean (argq m c) (argk m c) (argv m c) (rpb m c) (bat t) (head t hh) T e := by
  show mix (F := Ideal) k0_pay124 k0_pay125 (kWin (iblk m c 2 t) (T.val / 64)) (probRow k0_pay124 (iblk m c 0 t) (iblk m c 1 t) (iblk m c 3 t) (T.val / 64))
    (ix3 0 ⟨T.val % 64, _⟩ (at2 hh e)) = _
  unfold mix
  rw [NatPay.out_apply]
  simp only [weight_read, v_read]
  rfl

/-- The mean at every token and lane of the arguments of device `c`, as the kernel's result array. -/
def result (c : Dev nD) : FVec Ideal S2x8192x512 .bf16 := fun i =>
  mean (argq m c) (argk m c) (argv m c) (rpb m c) (i 0) ⟨(i 2).val / 64, by have h : (i 2).val < 512 := (i 2).isLt; omega⟩ (i 1)
    ⟨(i 2).val % 64, by omega⟩

/-- Every block written back is that block of the result. -/
theorem flushed_eq (c : Dev nD) (t : Fin cfg0.N) :
    (dats m 0 c).flushed 4 t = ((cfg0.win 4).blk t).view.read (Elt Ideal) (result m c) := by
  have hf : (dats m 0 c).flushed 4 t = (cfg0.win 4).cut (grid0.coords t) (outsAt0 m c t) := by
    show (cfg0.win 4).cut (grid0.coords t) ((dats m 0 c).after 4 t) = _
    rw [after0_4]
  rw [hf]
  funext y
  obtain ⟨e0, e1, e2⟩ := idx4 t
  have h0 : (y 0).val < 1 := (y 0).isLt
  have h1 : (y 1).val < 8192 := (y 1).isLt
  have h2 : (y 2).val < 128 := (y 2).isLt
  obtain ⟨T, hT⟩ : ∃ T : Fin 8192, T.val = (y 1).val := ⟨⟨(y 1).val, h1⟩, rfl⟩
  obtain ⟨hh, hhh⟩ : ∃ hh : Fin 2, hh.val = (y 2).val / 64 := ⟨⟨(y 2).val / 64, by omega⟩, rfl⟩
  obtain ⟨e, he⟩ : ∃ e : Fin 64, e.val = (y 2).val % 64 := ⟨⟨(y 2).val % 64, by omega⟩, rfl⟩
  have hy : (y : S1x8192x128.Idx) = ix3 0 T (at2 hh e) := by
    funext a; apply Fin.ext
    match a with
    | ⟨0, _⟩ => show (y 0).val = 0; omega
    | ⟨1, _⟩ => show (y 1).val = T.val; omega
    | ⟨2, _⟩ => show (y 2).val = 64 * hh.val + e.val; omega
  have hv : ((cfg0.win 4).blk t).view.emb y = ix3 (bat t) T ⟨(head t hh).val * 64 + e.val, by omega⟩ := by
    funext a; apply Fin.ext
    match a with
    | ⟨0, _⟩ => show win0_4.index t (0 : Fin 3) * 1 + 1 * (y 0).val = t.val / 4; omega
    | ⟨1, _⟩ => show win0_4.index t (1 : Fin 3) * 8192 + 1 * (y 1).val = T.val; omega
    | ⟨2, _⟩ => show win0_4.index t (2 : Fin 3) * 128 + 1 * (y 2).val = (t.val % 4 * 2 + hh.val) * 64 + e.val; omega
  show block (F := Ideal) k0_pay124 k0_pay125 (iblk m c 0 t) (iblk m c 1 t) (iblk m c 2 t) (iblk m c 3 t) y = result m c (((cfg0.win 4).blk t).view.emb y)
  rw [hv]
  refine (congrArg (block (F := Ideal) k0_pay124 k0_pay125 (iblk m c 0 t) (iblk m c 1 t) (iblk m c 2 t) (iblk m c 3 t)) hy).trans ?_
  rw [block_entry]
  unfold result
  have a1 : (⟨((head t hh).val * 64 + e.val) / 64, by omega⟩ : Fin 8) = head t hh := Fin.ext (by show _ / 64 = (head t hh).val; omega)
  have a2 : (⟨((head t hh).val * 64 + e.val) % 64, by omega⟩ : Fin 64) = e := Fin.ext (by show _ % 64 = e.val; omega)
  exact (congrArg₂ (fun h e => mean (argq m c) (argk m c) (argv m c) (rpb m c) (bat t) h T e) a1 a2).symm

/-- Every index of the result is in some block. -/
theorem covered (i : S2x8192x512.Idx) : ∃ t : Fin cfg0.N, (cfg0.win 4).flush t = true ∧ i ∈ ((cfg0.win 4).blk t).view.set := by
  have h0 : (i 0).val < 2 := (i 0).isLt
  have h1 : (i 1).val < 8192 := (i 1).isLt
  have h2 : (i 2).val < 512 := (i 2).isLt
  obtain ⟨t, ht⟩ : ∃ t : Fin cfg0.N, t.val = (i 0).val * 4 + (i 2).val / 128 := ⟨⟨(i 0).val * 4 + (i 2).val / 128, by show _ < 8; omega⟩, rfl⟩
  obtain ⟨e0, e1, e2⟩ := idx4 t
  have he : ((cfg0.win 4).blk t).view.emb (ix3 (0 : Fin 1) (⟨(i 1).val, h1⟩ : Fin 8192) (⟨(i 2).val % 128, by omega⟩ : Fin 128)) = i := by
    funext a; apply Fin.ext
    match a with
    | ⟨0, _⟩ => show win0_4.index t (0 : Fin 3) * 1 + 1 * 0 = (i 0).val; omega
    | ⟨1, _⟩ => show win0_4.index t (1 : Fin 3) * 8192 + 1 * (i 1).val = (i 1).val; omega
    | ⟨2, _⟩ => show win0_4.index t (2 : Fin 3) * 128 + 1 * ((i 2).val % 128) = (i 2).val; omega
  exact ⟨t, flush0_4 t, he ▸ ((cfg0.win 4).blk t).view.emb_mem_set _⟩

/-- The kernel's result array after the run. -/
theorem final (c : Dev nD) : (dats m 0 c).arrAt 4 cfg0.N = result m c :=
  (dats m 0 c).arrAt_eq_of_cover 4 (result m c) (fun t _ => flushed_eq m c t) covered

/-- The run: the result array holds the means, the arguments what they held. -/
theorem run_value : θ_run defs (onTc (τ := τ) (main (F := Ideal))) ⟨m, fun _ => 0, ρ⟩ (fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 4).trans (final m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c)⟩) (run_main m ρ)

end Cert.NatArray
-- ==== Proof.NatGather.lean ====
module

public import proofs.«01_k».proof.Proof.Gen.ReferenceIdeal.Read
public import proofs.«01_k».proof.Proof.NatTab

@[expose] public section

set_option maxRecDepth 16384

noncomputable section

/-! Which elements the reference's gathers read. -/

namespace Cert.NatGather

open Cert.ReferenceIdeal Cert.ReferenceIdeal.Gen Cert.ReferenceIdeal.Read Idealize.ShloMosaic
open Cert.NatDefs (start)
open Cert.NatTab (colStart)

/-- The gather of keys and of values: the row the index names, clipped to the array. -/
theorem gather_kv (x : FVec Ideal S2x8192x8x64 .f32) (idx : IVec S1048576x1 32) (b : Fin 2) (n : Fin 1048576) (h : Fin 8) (e : Fin 64) :
    Host.gather gather_S2x8192x8x64_S1048576x1_S2x1048576x8x64_023_1_n_n_1_1_21864 x idx (ix4 b n h e)
      = x (ix4 b ⟨min (idx (ix2 n 0)).toInt.toNat 8191, by omega⟩ h e) := by
  let d := gather_S2x8192x8x64_S1048576x1_S2x1048576x8x64_023_1_n_n_1_1_21864
  have hs : ∀ a : Fin 4, a ≠ 1 → GatherDims.start d (ix4 b n h e) idx a = 0 := fun a ha => by
    unfold GatherDims.start
    exact dif_neg fun hm => ha (List.mem_singleton.mp hm)
  have hk : ∀ a : Fin 4, a ≠ 1 → a ∈ d.sKept :=
    fun a ha => (GatherDims.mem_sKept _ _).mpr ⟨fun hm => ha (List.mem_singleton.mp hm), List.not_mem_nil⟩
  have h1 : (1 : Fin 4) ∈ d.startIndexMap := List.mem_singleton.mpr rfl
  have o0 : GatherDims.offCoord d (ix4 b n h e) (0 : Fin 4) = b.val := by
    unfold GatherDims.offCoord
    exact (dif_pos (hk 0 (by decide))).trans rfl
  have o2 : GatherDims.offCoord d (ix4 b n h e) (2 : Fin 4) = h.val := by
    unfold GatherDims.offCoord
    exact (dif_pos (hk 2 (by decide))).trans rfl
  have o3 : GatherDims.offCoord d (ix4 b n h e) (3 : Fin 4) = e.val := by
    unfold GatherDims.offCoord
    exact (dif_pos (hk 3 (by decide))).trans rfl
  have hsi : GatherDims.siIdx d (ix4 b n h e) ⟨List.idxOf (1 : Fin 4) d.startIndexMap, List.idxOf_lt_length_iff.2 h1⟩ = ix2 n 0 := by
    funext b; refine Fin.ext ?_
    match b with
    | ⟨0, _⟩ => rfl
    | ⟨1, _⟩ => rfl
  have s1 : GatherDims.start d (ix4 b n h e) idx (1 : Fin 4) = min (idx (ix2 n 0)).toInt.toNat 8191 := by
    unfold GatherDims.start
    exact (dif_pos h1).trans (congrArg (fun z => min (idx z).toInt.toNat 8191) hsi)
  have o1 : GatherDims.offCoord d (ix4 b n h e) (1 : Fin 4) = 0 :=
    GatherDims.offCoord_eq_zero _ _ _ (fun h => ((GatherDims.mem_sKept _ _).mp h).1 (List.mem_singleton.mpr rfl))
  have hb : ∀ a : Fin 4, GatherDims.batchCoord d (ix4 b n h e) a = 0 := fun a => GatherDims.batchCoord_eq_zero _ _ _ List.not_mem_nil
  have key : ∀ (a : Fin 4) (u v : ℕ), GatherDims.start d (ix4 b n h e) idx a = u → GatherDims.offCoord d (ix4 b n h e) a = v →
      GatherDims.start d (ix4 b n h e) idx a + GatherDims.batchCoord d (ix4 b n h e) a + GatherDims.offCoord d (ix4 b n h e) a = u + v :=
    fun a u v hu hv => by rw [hu, hv, hb]; omega
  unfold Host.gather
  congr 1
  funext a
  refine Fin.ext ?_
  match a with
  | ⟨0, _⟩ => exact (key 0 0 _ (hs 0 (by decide)) o0).trans (Nat.zero_add _)
  | ⟨1, _⟩ => exact key 1 _ 0 s1 o1
  | ⟨2, _⟩ => exact (key 2 0 _ (hs 2 (by decide)) o2).trans (Nat.zero_add _)
  | ⟨3, _⟩ => exact (key 3 0 _ (hs 3 (by decide)) o3).trans (Nat.zero_add _)

/-- The gather of biases: the relative position the index names, clipped to the table. -/
theorem gather_b (x : FVec Ideal S8x465 .f32) (idx : IVec S1048576x1 32) (h : Fin 8) (n : Fin 1048576) :
    Host.gather gather_S8x465_S1048576x1_S8x1048576_0_1_n_n_1_1_81 x idx (ix2 h n)
      = x (ix2 h ⟨min (idx (ix2 n 0)).toInt.toNat 464, by omega⟩) := by
  let d := gather_S8x465_S1048576x1_S8x1048576_0_1_n_n_1_1_81
  have h1 : (1 : Fin 2) ∈ d.startIndexMap := List.mem_singleton.mpr rfl
  have s0 : GatherDims.start d (ix2 h n) idx (0 : Fin 2) = 0 := by
    unfold GatherDims.start
    exact dif_neg fun hm => absurd (List.mem_singleton.mp hm) (by decide)
  have k0 : (0 : Fin 2) ∈ d.sKept :=
    (GatherDims.mem_sKept _ _).mpr ⟨fun hm => absurd (List.mem_singleton.mp hm) (by decide), List.not_mem_nil⟩
  have o0 : GatherDims.offCoord d (ix2 h n) (0 : Fin 2) = h.val := by
    unfold GatherDims.offCoord
    exact (dif_pos k0).trans rfl
  have hsi : GatherDims.siIdx d (ix2 h n) ⟨List.idxOf (1 : Fin 2) d.startIndexMap, List.idxOf_lt_length_iff.2 h1⟩ = ix2 n 0 := by
    funext b; refine Fin.ext ?_
    match b with
    | ⟨0, _⟩ => rfl
    | ⟨1, _⟩ => rfl
  have s1 : GatherDims.start d (ix2 h n) idx (1 : Fin 2) = min (idx (ix2 n 0)).toInt.toNat 464 := by
    unfold GatherDims.start
    exact (dif_pos h1).trans (congrArg (fun z => min (idx z).toInt.toNat 464) hsi)
  have o1 : GatherDims.offCoord d (ix2 h n) (1 : Fin 2) = 0 :=
    GatherDims.offCoord_eq_zero _ _ _ (fun h => ((GatherDims.mem_sKept _ _).mp h).1 (List.mem_singleton.mpr rfl))
  have hb : ∀ a : Fin 2, GatherDims.batchCoord d (ix2 h n) a = 0 := fun a => GatherDims.batchCoord_eq_zero _ _ _ List.not_mem_nil
  have key : ∀ (a : Fin 2) (u v : ℕ), GatherDims.start d (ix2 h n) idx a = u → GatherDims.offCoord d (ix2 h n) a = v →
      GatherDims.start d (ix2 h n) idx a + GatherDims.batchCoord d (ix2 h n) a + GatherDims.offCoord d (ix2 h n) a = u + v :=
    fun a u v hu hv => by rw [hu, hv, hb]; omega
  unfold Host.gather
  congr 1
  funext a
  refine Fin.ext ?_
  match a with
  | ⟨0, _⟩ => exact (key 0 0 _ s0 o0).trans (Nat.zero_add _)
  | ⟨1, _⟩ => exact key 1 _ 0 s1 o1

/-- The image row of neighbour row `i` of row `r`. -/
theorem row_val (r : Fin 128) (c : Fin 64) (i : Fin 8) (w : Fin 16) :
    val_main_v13 (F := Ideal) (ix4 r c i w) = BitVec.ofNat 32 (start r.val + i.val) := by
  pointwise [val_main_v13, val_main_v12, val_main_v11, val_main_v10, val_main_v8, val_main_v6, val_main_c, val_main_call0_v4, val_main_call0_v3,
    val_main_call0_v2, val_main_call0_v1, val_main_call0_v0, val_main_c_0, val_main_c_1]
  revert i r
  decide +kernel

/-- The image column of neighbour column `w` of column `c`. -/
theorem col_val (r : Fin 128) (c : Fin 64) (i : Fin 8) (w : Fin 16) :
    val_main_v17 (F := Ideal) (ix4 r c i w) = BitVec.ofNat 32 (colStart c.val + w.val) := by
  pointwise [val_main_v17, val_main_v16, val_main_v15, val_main_v14, val_main_v9, val_main_v7, val_main_c_2, val_main_call1_v4, val_main_call1_v3,
    val_main_call1_v2, val_main_call1_v1, val_main_call1_v0, val_main_c_3, val_main_c_4]
  revert c w
  decide +kernel

/-- Sums and products of small words. -/
theorem word_lin (a b c : ℕ) : IntOp.addi (IntOp.muli (BitVec.ofNat 32 a) (BitVec.ofNat 32 b)) (BitVec.ofNat 32 c) = BitVec.ofNat 32 (a * b + c) := by
  show BitVec.ofNat 32 a * BitVec.ofNat 32 b + BitVec.ofNat 32 c = _
  rw [BitVec.ofNat_add, BitVec.ofNat_mul]

/-- A small word read as a natural number. -/
theorem word_nat (n : ℕ) (h : n < 2147483648) : (BitVec.ofNat 32 n).toInt.toNat = n := by
  have e : (BitVec.ofNat 32 n).toNat = n := by rw [BitVec.toNat_ofNat]; omega
  rw [BitVec.toInt_eq_toNat_of_lt (by omega), e]
  omega

/-- The relative row of neighbour row `i` of row `r`. -/
theorem rel_row : ∀ (r : Fin 128) (i : Fin 8),
    IntOp.addi (IntOp.subi (BitVec.ofNat 32 (start r.val + i.val)) (BitVec.ofNat 32 r.val)) 7#32 = BitVec.ofNat 32 (start r.val + i.val + 7 - r.val) := by
  decide +kernel

/-- The relative column of neighbour column `w` of column `c`. -/
theorem rel_col : ∀ (c : Fin 64) (w : Fin 16),
    IntOp.addi (IntOp.subi (BitVec.ofNat 32 (colStart c.val + w.val)) (BitVec.ofNat 32 c.val)) 15#32 = BitVec.ofNat 32 (colStart c.val + w.val + 15 - c.val) := by
  decide +kernel

/-- The token of neighbour `x` of token `t`. -/
def nbr (t x : ℕ) : ℕ := (start (t / 64) + x / 16) * 64 + (colStart (t % 64) + x % 16)

theorem nbr_lt (t : Fin 8192) (x : Fin 128) : nbr t.val x.val < 8192 := by
  unfold nbr start colStart; omega

theorem rel_row_lt (t : Fin 8192) (x : Fin 128) : start (t.val / 64) + x.val / 16 + 7 - t.val / 64 < 15 := by
  unfold start; omega

theorem rel_col_lt (t : Fin 8192) (x : Fin 128) : colStart (t.val % 64) + x.val % 16 + 15 - t.val % 64 < 31 := by
  unfold colStart; omega

/-- The index of neighbour `x` of token `t` among all neighbours. -/
abbrev pos (t : Fin 8192) (x : Fin 128) : Fin 1048576 := ⟨t.val * 128 + x.val, by omega⟩

/-- The token index the reference gathers. -/
theorem tok_idx (t : Fin 8192) (x : Fin 128) : val_main_v21 (F := Ideal) (ix1 (pos t x)) = BitVec.ofNat 32 (nbr t.val x.val) := by
  pointwise [val_main_v21, val_main_v20, val_main_v19, val_main_v18, val_main_c_5]
  rw [row_val, col_val]
  refine (word_lin _ 64 _).trans (congrArg (BitVec.ofNat 32) ?_)
  show (start ((t.val * 128 + x.val) / 8192) + (t.val * 128 + x.val) / 16 % 8) * 64
    + (colStart ((t.val * 128 + x.val) / 128 % 64) + (t.val * 128 + x.val) % 16) = nbr t.val x.val
  have e1 : (t.val * 128 + x.val) / 8192 = t.val / 64 := by omega
  have e2 : (t.val * 128 + x.val) / 16 % 8 = x.val / 16 := by omega
  have e3 : (t.val * 128 + x.val) / 128 % 64 = t.val % 64 := by omega
  have e4 : (t.val * 128 + x.val) % 16 = x.val % 16 := by omega
  rw [e1, e2, e3, e4]
  rfl

/-- The bias index the reference gathers. -/
theorem bias_idx (t : Fin 8192) (x : Fin 128) : val_main_v31 (F := Ideal) (ix1 (pos t x))
    = BitVec.ofNat 32 ((start (t.val / 64) + x.val / 16 + 7 - t.val / 64) * 31 + (colStart (t.val % 64) + x.val % 16 + 15 - t.val % 64)) := by
  pointwise [val_main_v31, val_main_v30, val_main_v29, val_main_v28, val_main_v26, val_main_v27, val_main_v25, val_main_v24, val_main_v23,
    val_main_v22, val_main_v6, val_main_v7, val_main_c_6, val_main_c_7, val_main_c_8]
  rw [row_val, col_val]
  have e1 : (t.val * 128 + x.val) / 8192 = t.val / 64 := by omega
  have e2 : (t.val * 128 + x.val) / 16 % 8 = x.val / 16 := by omega
  have e3 : (t.val * 128 + x.val) / 128 % 64 = t.val % 64 := by omega
  have e4 : (t.val * 128 + x.val) % 16 = x.val % 16 := by omega
  have k1 := rel_row ⟨t.val / 64, by omega⟩ ⟨x.val / 16, by omega⟩
  have k2 := rel_col ⟨t.val % 64, by omega⟩ ⟨x.val % 16, by omega⟩
  dsimp only [pos] at *
  simp only [e1, e2, e3, e4]
  rw [k1, k2]
  exact word_lin _ 31 _

/-- The gathered key. -/
theorem key_apply (x1 : FVec Ideal S2x8192x512 .bf16) (b : Fin 2) (t : Fin 8192) (x : Fin 128) (h : Fin 8) (e : Fin 64) :
    val_main_v32 (F := Ideal) x1 (ix4 b (pos t x) h e) = x1 (ix3 b ⟨nbr t.val x.val, nbr_lt t x⟩ ⟨h.val * 64 + e.val, by omega⟩) := by
  unfold val_main_v32
  have hi : val_main_call2_v0 (F := Ideal) (ix2 (pos t x) 0) = BitVec.ofNat 32 (nbr t.val x.val) := by
    pointwise [val_main_call2_v0]
    exact tok_idx t x
  have hl := nbr_lt t x
  rw [gather_kv]
  simp only [hi, word_nat (nbr t.val x.val) (by omega)]
  have hm : min (nbr t.val x.val) 8191 = nbr t.val x.val := by omega
  simp only [hm]
  pointwise [val_main_v3, val_main_v2]

/-- The gathered value. -/
theorem value_apply (x2 : FVec Ideal S2x8192x512 .bf16) (b : Fin 2) (t : Fin 8192) (x : Fin 128) (h : Fin 8) (e : Fin 64) :
    val_main_v34 (F := Ideal) x2 (ix4 b (pos t x) h e) = x2 (ix3 b ⟨nbr t.val x.val, nbr_lt t x⟩ ⟨h.val * 64 + e.val, by omega⟩) := by
  unfold val_main_v34
  have hi : val_main_call3_v0 (F := Ideal) (ix2 (pos t x) 0) = BitVec.ofNat 32 (nbr t.val x.val) := by
    pointwise [val_main_call3_v0]
    exact tok_idx t x
  have hl := nbr_lt t x
  rw [gather_kv]
  simp only [hi, word_nat (nbr t.val x.val) (by omega)]
  have hm : min (nbr t.val x.val) 8191 = nbr t.val x.val := by omega
  simp only [hm]
  pointwise [val_main_v5, val_main_v4]

/-- The flattened table at a relative position. -/
theorem table_apply (x3 : FVec Ideal S1x8x15x31 .f32) (h : Fin 8) (u : Fin 15) (v : Fin 31) (n : ℕ) (hn : n = u.val * 31 + v.val) :
    val_main_v37 (F := Ideal) x3 (ix2 h ⟨min (BitVec.ofNat 32 n).toInt.toNat 464, by omega⟩) = x3 (ix4 0 h u v) := by
  subst hn
  simp only [word_nat (u.val * 31 + v.val) (by omega)]
  have hm : min (u.val * 31 + v.val) 464 = u.val * 31 + v.val := by omega
  simp only [hm]
  pointwise [val_main_v37, val_main_v36]

/-- The gathered bias. -/
theorem bias_apply (x3 : FVec Ideal S1x8x15x31 .f32) (h : Fin 8) (t : Fin 8192) (x : Fin 128) :
    val_main_v38 (F := Ideal) x3 (ix2 h (pos t x))
      = x3 (ix4 0 h ⟨start (t.val / 64) + x.val / 16 + 7 - t.val / 64, rel_row_lt t x⟩
          ⟨colStart (t.val % 64) + x.val % 16 + 15 - t.val % 64, rel_col_lt t x⟩) := by
  unfold val_main_v38
  have hi : val_main_call4_v0 (F := Ideal) (ix2 (pos t x) 0)
      = BitVec.ofNat 32 ((start (t.val / 64) + x.val / 16 + 7 - t.val / 64) * 31 + (colStart (t.val % 64) + x.val % 16 + 15 - t.val % 64)) := by
    pointwise [val_main_call4_v0]
    exact bias_idx t x
  rw [gather_b]
  simp only [hi]
  exact table_apply x3 h ⟨_, rel_row_lt t x⟩ ⟨_, rel_col_lt t x⟩ _ rfl

end Cert.NatGather
-- ==== Proof.NatRef.lean ====
module

public import proofs.«01_k».proof.Proof.NatGather

@[expose] public section

set_option maxRecDepth 16384

noncomputable section

/-! What the reference computes, at an index. -/

namespace Cert.NatRef

open Cert.ReferenceIdeal Cert.ReferenceIdeal.Gen Cert.ReferenceIdeal.Read Idealize.ShloMosaic
open Cert.NatDefs (start)
open Cert.NatTab (colStart)
open Cert.NatGather

/-- The score of neighbour `x` of token `t`. -/
def score (q k : FVec Ideal S2x8192x512 .bf16) (bias : FVec Ideal S1x8x15x31 .f32) (b : Fin 2) (h : Fin 8) (t : Fin 8192) (x : Fin 128) : EReal :=
  ∑ e : Fin 64, q (ix3 b t ⟨h.val * 64 + e.val, by omega⟩) * k (ix3 b ⟨nbr t.val x.val, nbr_lt t x⟩ ⟨h.val * 64 + e.val, by omega⟩)
    + bias (ix4 0 h ⟨start (t.val / 64) + x.val / 16 + 7 - t.val / 64, rel_row_lt t x⟩
        ⟨colStart (t.val % 64) + x.val % 16 + 15 - t.val % 64, rel_col_lt t x⟩)

/-- The scores the reference holds. -/
theorem score_apply (q k : FVec Ideal S2x8192x512 .bf16) (bias : FVec Ideal S1x8x15x31 .f32) (b : Fin 2) (h : Fin 8) (t : Fin 8192) (x : Fin 128) :
    val_main_v43 (F := Ideal) q k bias (ix4 b h t x) = score q k bias b h t x := by
  pointwise [val_main_v43, val_main_v42, val_main_v41, val_main_v40, val_main_v39, val_main_v33, val_main_v1, val_main_v0]
  rw [show (⟨t.val * 128 + x.val, _⟩ : Fin 1048576) = pos t x from rfl, bias_apply]
  simp only [key_apply]
  rfl

/-- The values the reference gathers. -/
theorem value_read (v : FVec Ideal S2x8192x512 .bf16) (b : Fin 2) (h : Fin 8) (t : Fin 8192) (x : Fin 128) (e : Fin 64) :
    val_main_v35 (F := Ideal) v (ix5 b t x h e) = v (ix3 b ⟨nbr t.val x.val, nbr_lt t x⟩ ⟨h.val * 64 + e.val, by omega⟩) := by
  pointwise [val_main_v35]
  exact value_apply v b t x h e

/-- The largest of a token's scores, as the reduction takes it. -/
theorem reduce_apply (q k : FVec Ideal S2x8192x512 .bf16) (bias : FVec Ideal S1x8x15x31 .f32) (b : Fin 2) (h : Fin 8) (t : Fin 8192) :
    val_main_v44 (F := Ideal) q k bias (ix3 b h t)
      = Finset.fold max (Ideal.ofBits .f32 4286578688#32) (fun x => val_main_v43 (F := Ideal) q k bias (ix4 b h t x)) Finset.univ := by
  unfold val_main_v44
  generalize val_main_v43 (F := Ideal) q k bias = y
  pointwise [val_main_cst]

/-- The largest of a token's scores, spread over its neighbours. -/
theorem spread_apply (q k : FVec Ideal S2x8192x512 .bf16) (bias : FVec Ideal S1x8x15x31 .f32) (b : Fin 2) (h : Fin 8) (t : Fin 8192) (x : Fin 128) :
    val_main_v48 (F := Ideal) q k bias (ix4 b h t x) = max (Ideal.ofBits .f32 4286578688#32) (val_main_v44 (F := Ideal) q k bias (ix3 b h t)) := by
  rw [val_main_v48_apply, val_main_v47_apply, val_main_v46_apply, val_main_v45_apply, val_main_cst_9_apply]
  generalize val_main_v44 (F := Ideal) q k bias = y
  refine congrArg (max (Ideal.ofBits .f32 4286578688#32)) (congrArg y (funext fun a => Fin.ext ?_))
  match a with
  | ⟨0, _⟩ => rfl
  | ⟨1, _⟩ => rfl
  | ⟨2, _⟩ => rfl

/-- The least extended real, as its word. -/
theorem least : Ideal.ofBits .f32 4286578688#32 = ⊥ := by simp [Ideal.ofBits, Ideal.ieee]

/-- The largest score of a token. -/
theorem top_apply (q k : FVec Ideal S2x8192x512 .bf16) (bias : FVec Ideal S1x8x15x31 .f32) (b : Fin 2) (h : Fin 8) (t : Fin 8192) (x : Fin 128) :
    val_main_v48 (F := Ideal) q k bias (ix4 b h t x) = Finset.fold max ⊥ (score q k bias b h t) Finset.univ := by
  have e : (fun x => val_main_v43 (F := Ideal) q k bias (ix4 b h t x)) = score q k bias b h t := funext (score_apply q k bias b h t)
  rw [spread_apply, reduce_apply, e, least]
  exact max_eq_right bot_le

/-- The exponential of a score less the largest. -/
theorem exp_apply (q k : FVec Ideal S2x8192x512 .bf16) (bias : FVec Ideal S1x8x15x31 .f32) (b : Fin 2) (h : Fin 8) (t : Fin 8192) (x : Fin 128) :
    val_main_v50 (F := Ideal) q k bias (ix4 b h t x)
      = Ideal.exp (score q k bias b h t x - Finset.fold max ⊥ (score q k bias b h t) Finset.univ) := by
  rw [← score_apply, ← top_apply q k bias b h t x]
  unfold val_main_v50 val_main_v49
  generalize val_main_v43 (F := Ideal) q k bias = y
  generalize val_main_v48 (F := Ideal) q k bias = z
  pointwise []

/-- The sum of the exponentials, spread over the neighbours. -/
theorem total_apply (q k : FVec Ideal S2x8192x512 .bf16) (bias : FVec Ideal S1x8x15x31 .f32) (b : Fin 2) (h : Fin 8) (t : Fin 8192) (x : Fin 128) :
    val_main_v53 (F := Ideal) q k bias (ix4 b h t x) = ∑ y : Fin 128, val_main_v50 (F := Ideal) q k bias (ix4 b h t y) := by
  rw [val_main_v53_apply, val_main_v52_apply, val_main_v51_apply, val_main_cst_10_apply]
  generalize val_main_v50 (F := Ideal) q k bias = y
  have e0 : FloatOps.ofBits (F := Ideal) .f32 0x00000000#32 = (0 : EReal) := by
    show Ideal.ofBits .f32 0x00000000#32 = 0
    simp [Ideal.ofBits, Ideal.ieee]
  rw [e0]
  refine (zero_add _).trans (Finset.sum_congr rfl fun x _ => congrArg y (funext fun a => Fin.ext ?_))
  match a with
  | ⟨0, _⟩ => rfl
  | ⟨1, _⟩ => rfl
  | ⟨2, _⟩ => rfl
  | ⟨3, _⟩ => rfl

/-- The probability of a neighbour. -/
theorem prob_apply (q k : FVec Ideal S2x8192x512 .bf16) (bias : FVec Ideal S1x8x15x31 .f32) (b : Fin 2) (h : Fin 8) (t : Fin 8192) (x : Fin 128) :
    val_main_v54 (F := Ideal) q k bias (ix4 b h t x)
      = Ideal.div (Ideal.exp (score q k bias b h t x - Finset.fold max ⊥ (score q k bias b h t) Finset.univ))
          (∑ y, Ideal.exp (score q k bias b h t y - Finset.fold max ⊥ (score q k bias b h t) Finset.univ)) := by
  have e : val_main_v54 (F := Ideal) q k bias (ix4 b h t x)
      = Ideal.div (val_main_v50 (F := Ideal) q k bias (ix4 b h t x)) (val_main_v53 (F := Ideal) q k bias (ix4 b h t x)) := by
    unfold val_main_v54
    generalize val_main_v50 (F := Ideal) q k bias = y
    generalize val_main_v53 (F := Ideal) q k bias = z
    pointwise []
  rw [e, total_apply, exp_apply]
  exact congrArg _ (Finset.sum_congr rfl fun y _ => exp_apply q k bias b h t y)

/-- The values of a token's neighbours, weighted. -/
theorem mean_apply (q k v : FVec Ideal S2x8192x512 .bf16) (bias : FVec Ideal S1x8x15x31 .f32) (b : Fin 2) (t : Fin 8192) (h : Fin 8) (e : Fin 64) :
    val_main_v55 (F := Ideal) q k v bias (ix4 b t h e)
      = ∑ x : Fin 128, val_main_v54 (F := Ideal) q k bias (ix4 b h t x) * val_main_v35 (F := Ideal) v (ix5 b t x h e) := by
  unfold val_main_v55
  generalize val_main_v54 (F := Ideal) q k bias = y
  generalize val_main_v35 (F := Ideal) v = z
  pointwise []

/-- The reference's result: the softmax over the neighbours of a token, applied to their values. -/
theorem out_apply (q k v : FVec Ideal S2x8192x512 .bf16) (bias : FVec Ideal S1x8x15x31 .f32) (b : Fin 2) (t : Fin 8192) (l : Fin 512) :
    val_main_v57 (F := Ideal) q k v bias (ix3 b t l) = val_main_v55 (F := Ideal) q k v bias (ix4 b t ⟨l.val / 64, by omega⟩ ⟨l.val % 64, by omega⟩) := by
  unfold val_main_v57 val_main_v56
  generalize val_main_v55 (F := Ideal) q k v bias = y
  pointwise []

end Cert.NatRef
-- ==== Proof.NatSoft.lean ====
module

public import Idealize.ShloMosaic.Lib.Claim
public import Idealize.ShloMosaic.Lib.Pointwise

@[expose] public section

noncomputable section

/-! A softmax over a window padded with −∞ is the softmax over what the padding leaves. -/

namespace Cert.NatSoft

open Idealize.ShloMosaic

/-- The largest of finitely many real scores is one of them, and bounds them all. -/
theorem max_attained {n : ℕ} (t : Fin (n + 1) → ℝ) :
    ∃ j0, Finset.fold max ⊥ (fun j => ((t j : ℝ) : EReal)) Finset.univ = ((t j0 : ℝ) : EReal) ∧ ∀ j, t j ≤ t j0 := by
  obtain ⟨j0, -, h⟩ := Finset.exists_max_image Finset.univ t Finset.univ_nonempty
  refine ⟨j0, le_antisymm ?_ ?_, fun j => h j (Finset.mem_univ _)⟩
  · exact (Finset.fold_max_le _).mpr ⟨bot_le, fun j _ => EReal.coe_le_coe_iff.mpr (h j (Finset.mem_univ _))⟩
  · exact (Finset.le_fold_max _).mpr (Or.inr ⟨j0, Finset.mem_univ _, le_rfl⟩)

/-- Padding with −∞ leaves the largest score. -/
theorem max_padded {m n : ℕ} (s : Fin m → EReal) (t : Fin n → EReal) (emb : Fin n → Fin m) (hs : ∀ j, s (emb j) = t j)
    (hb : ∀ l, l ∉ Set.range emb → s l = ⊥) :
    Finset.fold max ⊥ s Finset.univ = Finset.fold max ⊥ t Finset.univ := by
  refine le_antisymm ?_ ?_
  · refine (Finset.fold_max_le _).mpr ⟨bot_le, fun l _ => ?_⟩
    by_cases hl : l ∈ Set.range emb
    · obtain ⟨j, rfl⟩ := hl
      rw [hs]
      exact (Finset.le_fold_max _).mpr (Or.inr ⟨j, Finset.mem_univ _, le_rfl⟩)
    · rw [hb l hl]
      exact bot_le
  · refine (Finset.fold_max_le _).mpr ⟨bot_le, fun j _ => ?_⟩
    exact (Finset.le_fold_max _).mpr (Or.inr ⟨emb j, Finset.mem_univ _, (hs j).ge⟩)

/-- A sum with a common nonnegative real factor. -/
theorem sum_mul_real {ι : Type} (u : Finset ι) (f : ι → EReal) (r : ℝ) (hr : 0 ≤ r) : (∑ j ∈ u, f j) * (r : EReal) = ∑ j ∈ u, f j * (r : EReal) := by
  classical
  induction u using Finset.induction_on with
  | empty => simp
  | insert a u ha ih =>
    rw [Finset.sum_insert ha, Finset.sum_insert ha, ← ih]
    exact EReal.right_distrib_of_nonneg_of_ne_top (EReal.coe_nonneg.mpr hr) (EReal.coe_ne_top r) _ _

/-- A sum of reals among the extended reals. -/
theorem sum_coe {ι : Type} (u : Finset ι) (f : ι → ℝ) : ∑ j ∈ u, ((f j : ℝ) : EReal) = ((∑ j ∈ u, f j : ℝ) : EReal) := by
  classical
  induction u using Finset.induction_on with
  | empty => simp
  | insert a u ha ih => rw [Finset.sum_insert ha, Finset.sum_insert ha, ih, EReal.coe_add]

/-- The weighted mean over the padded window is the softmax's mean over what the padding leaves. -/
theorem soft {m n : ℕ} (s : Fin m → EReal) (t : Fin (n + 1) → EReal) (emb : Fin (n + 1) → Fin m) (v : Fin m → EReal) (w : Fin (n + 1) → EReal)
    (he : Function.Injective emb) (hs : ∀ j, s (emb j) = t j) (hb : ∀ l, l ∉ Set.range emb → s l = ⊥) (hw : ∀ j, v (emb j) = w j)
    (ht : ∀ j, ∃ r : ℝ, t j = (r : EReal)) :
    Ideal.div (∑ l, Ideal.exp (s l - Finset.fold max ⊥ s Finset.univ) * v l) (∑ l, Ideal.exp (s l - Finset.fold max ⊥ s Finset.univ))
      = ∑ j, Ideal.div (Ideal.exp (t j - Finset.fold max ⊥ t Finset.univ)) (∑ i, Ideal.exp (t i - Finset.fold max ⊥ t Finset.univ)) * w j := by
  rw [max_padded s t emb hs hb]
  choose r hr using ht
  have htr : t = fun j => ((r j : ℝ) : EReal) := funext hr
  obtain ⟨j0, hM, -⟩ := max_attained r
  rw [htr, hM]
  have hp : ∀ j, Ideal.exp (((r j : ℝ) : EReal) - ((r j0 : ℝ) : EReal)) = ((Real.exp (r j - r j0) : ℝ) : EReal) := fun j => by
    rw [← EReal.coe_sub]; rfl
  have hpl : ∀ j, Ideal.exp (s (emb j) - ((r j0 : ℝ) : EReal)) = ((Real.exp (r j - r j0) : ℝ) : EReal) := fun j => by
    rw [hs, hr]; exact hp j
  have hz : ∀ l, l ∉ Set.range emb → Ideal.exp (s l - ((r j0 : ℝ) : EReal)) = 0 := fun l hl => by
    rw [hb l hl, EReal.bot_sub]; rfl
  have hnum : ∑ l, Ideal.exp (s l - ((r j0 : ℝ) : EReal)) * v l = ∑ j, ((Real.exp (r j - r j0) : ℝ) : EReal) * w j :=
    (Fintype.sum_of_injective emb he _ _ (fun l hl => by rw [hz l hl, zero_mul]) (fun j => by rw [hpl, hw])).symm
  have hden : ∑ l, Ideal.exp (s l - ((r j0 : ℝ) : EReal)) = ((∑ j, Real.exp (r j - r j0) : ℝ) : EReal) :=
    (Fintype.sum_of_injective emb he (fun j => ((Real.exp (r j - r j0) : ℝ) : EReal)) _ (fun l hl => hz l hl) (fun j => (hpl j).symm)).symm.trans
      (sum_coe _ _)
  have hpos : 0 < ∑ j, Real.exp (r j - r j0) := Finset.sum_pos (fun j _ => Real.exp_pos _) Finset.univ_nonempty
  have hd : ∀ x : EReal, Ideal.div x ((∑ j, Real.exp (r j - r j0) : ℝ) : EReal) = x * (((∑ j, Real.exp (r j - r j0))⁻¹ : ℝ) : EReal) := fun x => by
    unfold Ideal.div
    rw [if_neg (by exact_mod_cast hpos.ne'), EReal.coe_inv]
  rw [hnum, hden]
  simp only [hp, sum_coe, hd]
  rw [sum_mul_real _ _ _ (inv_nonneg.mpr hpos.le)]
  refine Finset.sum_congr rfl fun j _ => ?_
  rw [mul_assoc, mul_comm (w j), ← mul_assoc]

end Cert.NatSoft
-- ==== Proof.NatEq.lean ====
module

public import proofs.«01_k».proof.Proof.NatArray
public import proofs.«01_k».proof.Proof.NatRef
public import proofs.«01_k».proof.Proof.NatSoft
public import proofs.«01_k».proof.Pre_finite_scores

@[expose] public section

set_option maxRecDepth 16384

noncomputable section

/-! The kernel's padded mean and the reference's softmax are equal where queries, keys and biases are finite. -/

namespace Cert.NatEq

open Idealize.ShloMosaic
open Cert.ReferenceIdeal (S2x8192x512 S1x8x15x31)
open Cert.NatDefs (start rel)
open Cert.NatTab (colStart bias)
open Cert.NatGather (nbr nbr_lt)
open Cert.NatArray (win win_lt)

/-- The window position of neighbour `x` of token `t`. -/
def emb (t : Fin 8192) (x : Fin 128) : Fin 512 := ⟨x.val / 16 * 64 + (colStart (t.val % 64) + x.val % 16), by
  have h : colStart (t.val % 64) ≤ 48 := by unfold colStart; omega
  omega⟩

theorem emb_injective (t : Fin 8192) : Function.Injective (emb t) := fun x y h => Fin.ext (by
  have e : x.val / 16 * 64 + (colStart (t.val % 64) + x.val % 16) = y.val / 16 * 64 + (colStart (t.val % 64) + y.val % 16) := congrArg Fin.val h
  have h : colStart (t.val % 64) ≤ 48 := by unfold colStart; omega
  omega)

/-- The neighbour's token is its window position's token. -/
theorem win_emb (t : Fin 8192) (x : Fin 128) : win t.val (emb t x).val = nbr t.val x.val := by
  show 64 * start (t.val / 64) + (x.val / 16 * 64 + (colStart (t.val % 64) + x.val % 16))
    = (start (t.val / 64) + x.val / 16) * 64 + (colStart (t.val % 64) + x.val % 16)
  omega

/-- At a neighbour's position the bias is the table's entry. -/
theorem bias_emb (r : FVec Ideal S1x8x15x31 .f32) (h : Fin 8) (t : Fin 8192) (x : Fin 128) :
    bias r h ⟨rel (t.val / 64) + (emb t x).val / 64, NatArray.rel_lt t (emb t x)⟩ (t.val % 64) ((emb t x).val % 64)
      = r (ix4 0 h ⟨start (t.val / 64) + x.val / 16 + 7 - t.val / 64, NatGather.rel_row_lt t x⟩
          ⟨colStart (t.val % 64) + x.val % 16 + 15 - t.val % 64, NatGather.rel_col_lt t x⟩) := by
  have hc : colStart (t.val % 64) ≤ 48 := by unfold colStart; omega
  have hm : (emb t x).val % 64 = colStart (t.val % 64) + x.val % 16 := by
    show (x.val / 16 * 64 + (colStart (t.val % 64) + x.val % 16)) % 64 = _; omega
  have hd : (emb t x).val / 64 = x.val / 16 := by
    show (x.val / 16 * 64 + (colStart (t.val % 64) + x.val % 16)) / 64 = _; omega
  unfold bias
  rw [if_pos (by rw [hm]; omega)]
  have hl := NatGather.rel_col_lt t x
  refine congrArg r (congrArg₂ (ix4 0 h) (Fin.ext ?_) (Fin.ext ?_))
  · show rel (t.val / 64) + (emb t x).val / 64 = start (t.val / 64) + x.val / 16 + 7 - t.val / 64
    rw [hd]; unfold rel start; omega
  · show ((emb t x).val % 64 + 15 - t.val % 64) % 31 = colStart (t.val % 64) + x.val % 16 + 15 - t.val % 64
    rw [hm]; exact Nat.mod_eq_of_lt hl

/-- Off the neighbours the bias is −∞. -/
theorem bias_off (r : FVec Ideal S1x8x15x31 .f32) (h : Fin 8) (i : Fin 15) (t : Fin 8192) (l : Fin 512) (hl : l ∉ Set.range (emb t)) :
    bias r h i (t.val % 64) (l.val % 64) = ⊥ := by
  unfold bias
  refine if_neg fun hc => hl ⟨⟨l.val / 64 * 16 + (l.val % 64 - colStart (t.val % 64)), by omega⟩, Fin.ext ?_⟩
  show (l.val / 64 * 16 + (l.val % 64 - colStart (t.val % 64))) / 16 * 64
    + (colStart (t.val % 64) + (l.val / 64 * 16 + (l.val % 64 - colStart (t.val % 64))) % 16) = l.val
  omega

/-- Reads at equal tokens are equal. -/
theorem read_congr (k : FVec Ideal S2x8192x512 .bf16) (b : Fin 2) {i j : ℕ} (e : i = j) (hi : i < 8192) (hj : j < 8192) (d : Fin 512) :
    k (ix3 b ⟨i, hi⟩ d) = k (ix3 b ⟨j, hj⟩ d) := by
  subst e; rfl

/-- A finite array's entries are reals. -/
theorem real_of {x : EReal} (h : x ≠ ⊥ ∧ x ≠ ⊤) : ∃ r : ℝ, x = (r : EReal) := ⟨x.toReal, (EReal.coe_toReal h.2 h.1).symm⟩

/-- A score of finite queries, keys and biases is a real. -/
theorem score_real (q k : FVec Ideal S2x8192x512 .bf16) (r : FVec Ideal S1x8x15x31 .f32) (hq : ∀ i, q i ≠ ⊥ ∧ q i ≠ ⊤) (hk : ∀ i, k i ≠ ⊥ ∧ k i ≠ ⊤)
    (hr : ∀ i, r i ≠ ⊥ ∧ r i ≠ ⊤) (b : Fin 2) (h : Fin 8) (t : Fin 8192) (x : Fin 128) : ∃ z : ℝ, NatRef.score q k r b h t x = (z : EReal) := by
  choose q' hq' using fun i => real_of (hq i)
  choose k' hk' using fun i => real_of (hk i)
  choose r' hr' using fun i => real_of (hr i)
  unfold NatRef.score
  simp only [hq', hk', hr', ← EReal.coe_mul, NatSoft.sum_coe, ← EReal.coe_add]
  exact ⟨_, rfl⟩

/-- The padded mean is the softmax over the neighbours. -/
theorem mean_eq (q k v : FVec Ideal S2x8192x512 .bf16) (r : FVec Ideal S1x8x15x31 .f32) (hq : ∀ i, q i ≠ ⊥ ∧ q i ≠ ⊤) (hk : ∀ i, k i ≠ ⊥ ∧ k i ≠ ⊤)
    (hr : ∀ i, r i ≠ ⊥ ∧ r i ≠ ⊤) (b : Fin 2) (h : Fin 8) (t : Fin 8192) (e : Fin 64) :
    NatArray.mean q k v r b h t e = Cert.ReferenceIdeal.Read.val_main_v55 (F := Ideal) q k v r (ix4 b t h e) := by
  rw [NatRef.mean_apply]
  simp only [NatRef.prob_apply, NatRef.value_read]
  refine NatSoft.soft (NatArray.score q k r b h t) (NatRef.score q k r b h t) (emb t) _ _ (emb_injective t) (fun x => ?_) (fun l hl => ?_) (fun x => ?_)
    (score_real q k r hq hk hr b h t)
  · unfold NatArray.score NatRef.score
    rw [bias_emb]
    exact congrArg (· + _) (Finset.sum_congr rfl fun d _ => congrArg (_ * ·) (read_congr k b (win_emb t x) _ _ _))
  · unfold NatArray.score
    rw [bias_off r h _ t l hl]
    exact EReal.add_bot _
  · exact read_congr v b (win_emb t x) _ _ _

end Cert.NatEq
-- ==== Proof.NatClaim.lean ====
/-
  The attention's claims: its idealised kernel and its reference run to the end and leave their arguments as they were,
  and end with the same array where queries, keys and biases are finite.
-/
module

public import proofs.«01_k».proof.Defs
public import proofs.«01_k».proof.Proof.NatEq
public import Idealize.ShloMosaic.Adequacy

@[expose] public section

noncomputable section

namespace Cert.NatClaim

open Idealize.ShloMosaic Idealize.ShloMosaic.TcCoe Idealize.SL.Sem

/-- The side conditions of the precondition's operations. -/
theorem pre_facts : Cert.Pre_finite_scores.Facts where
  bitsLt_bf16_f32 := by decide
  bcast_S_S2x8192x512 := by decide
  bcast_S_S1x8x15x31 := by decide

/-- The idealised kernel runs to the end, its arguments unchanged. -/
theorem frame_ideal : Cert.quiescent_KernelIdeal (hKernelIdeal := Cert.KernelIdeal.Gen.facts) :=
  fun m ρ _ => Cert.NatFrame.frame m ρ

/-- The same where the precondition holds. -/
theorem frame_ideal_pre : Cert.quiescent_KernelIdeal_pre_finite_scores (hKernelIdeal := Cert.KernelIdeal.Gen.facts) (hPre_finite_scores := pre_facts) :=
  fun m ρ _ => Cert.NatFrame.frame m ρ

/-- The reference runs to the end, its arguments unchanged. -/
theorem frame_ref : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same where the precondition holds. -/
theorem frame_ref_pre : Cert.quiescent_ReferenceIdeal_pre_finite_scores (hReferenceIdeal := Cert.ReferenceIdeal.Gen.facts) (hPre_finite_scores := pre_facts) :=
  fun m ρ _ => frame_ref m ρ trivial

/-- A value strictly between the infinities is neither. -/
theorem between (x : EReal) (h : IntOp.andi (FloatOps.cmpf (F := Ideal) (φ := .f32) .ogt x (FloatOps.ofBits .f32 0xFF800000#32))
    (FloatOps.cmpf (F := Ideal) (φ := .f32) .olt x (FloatOps.ofBits .f32 0x7F800000#32)) = 1#1) : x ≠ ⊥ ∧ x ≠ ⊤ := by
  have e1 : (FloatOps.ofBits .f32 0xFF800000#32 : Ideal .f32) = (⊥ : EReal) := by
    show Ideal.ofBits .f32 0xFF800000#32 = ⊥
    simp [Ideal.ofBits, Ideal.ieee]
  have e2 : (FloatOps.ofBits .f32 0x7F800000#32 : Ideal .f32) = (⊤ : EReal) := by
    show Ideal.ofBits .f32 0x7F800000#32 = ⊤
    simp [Ideal.ofBits, Ideal.ieee]
  rw [e1, e2] at h
  obtain ⟨h1, h2⟩ := (by decide : ∀ a b : Bool, IntOp.andi (BitVec.ofBool a) (BitVec.ofBool b) = 1#1 → a = true ∧ b = true) (decide ((⊥ : EReal) < x))
    (decide (x < (⊤ : EReal))) h
  exact ⟨(of_decide_eq_true h1).ne', (of_decide_eq_true h2).ne⟩

attribute [local instance] pre_facts

/-- What the precondition says of the arguments. -/
theorem pre_finite (q k v : FVec Ideal Cert.Pre_finite_scores.S2x8192x512 .bf16) (r : FVec Ideal Cert.Pre_finite_scores.S1x8x15x31 .f32)
    (h : (Cert.Pre_finite_scores.fn (F := Ideal) q k v r).1 = (fun _ => 1#1)
      ∧ (Cert.Pre_finite_scores.fn (F := Ideal) q k v r).2.1 = (fun _ => 1#1)
      ∧ (Cert.Pre_finite_scores.fn (F := Ideal) q k v r).2.2 = (fun _ => 1#1)) :
    (∀ i, q i ≠ ⊥ ∧ q i ≠ ⊤) ∧ (∀ i, k i ≠ ⊥ ∧ k i ≠ ⊤) ∧ (∀ i, r i ≠ ⊥ ∧ r i ≠ ⊤) :=
  ⟨fun i => between (q i) (congrFun h.1 i), fun i => between (k i) (congrFun h.2.1 i), fun i => between (r i) (congrFun h.2.2 i)⟩

/-- Where queries, keys and biases are finite both programs end with the same array: the softmax attention over every
    token's neighbourhood. -/
theorem value : Cert.algebraic_KernelIdeal_ReferenceIdeal_pre_finite_scores (hKernelIdeal := Cert.KernelIdeal.Gen.facts)
    (hReferenceIdeal := Cert.ReferenceIdeal.Gen.facts) (hPre_finite_scores := pre_facts) := by
  intro m ρ m' ρ' hpre hagree
  refine ⟨fun c => Cert.NatArray.result m c, Cert.NatArray.run_value m ρ,
    (θ_run Cert.ReferenceIdeal.defs _ _).mono (fun r h c => ⟨(h c).1.trans ?_, (h c).2⟩)
      (Cert.ReferenceIdeal.Value.run (F := Ideal) m' ρ')⟩
  obtain ⟨h0, h1, h2, h3⟩ := hagree c
  rw [Cert.ReferenceIdeal.Read.val_main_v57_eq, h0, h1, h2, h3]
  obtain ⟨hq, hk, hr⟩ := pre_finite _ _ _ _ (hpre c)
  funext i
  have hi : (i : Cert.KernelIdeal.S2x8192x512.Idx) = ix3 (i 0) (i 1) (i 2) := by blk_ext []
  rw [hi]
  refine (Cert.NatRef.out_apply _ _ _ _ (i 0) (i 1) (i 2)).trans ?_
  exact (Cert.NatEq.mean_eq _ _ _ _ hq hk hr (i 0) _ (i 1) _).symm

end Cert.NatClaim
-- ==== Proof.TailRow.lean ====
/-
  The tail of the layer, one token at a time, over the extended reals: output projection and residual, squared-ReLU
  feed-forward, gated per-layer embedding. These are the functions both programs are shown to compute.
-/
module

public import Idealize.ShloMosaic.Lib.Pointwise

@[expose] public section

noncomputable section

namespace Cert.TailRow

open Idealize.ShloMosaic

/-- The residual stream after the output projection: `x + y · w`. -/
def hid (x y : Fin 1024 → EReal) (w : Fin 1024 → Fin 1024 → EReal) (j : Fin 1024) : EReal :=
  x j + ∑ e : Fin 1024, y e * w e j

/-- Root-mean-square normalisation with gain `g` (the two constants are the printed 1024 and 1e-6). -/
def rms (h g : Fin 1024 → EReal) (j : Fin 1024) : EReal :=
  h j * Ideal.rsqrt (Ideal.div (∑ k : Fin 1024, h k * h k) (Ideal.ofBits .f32 0x44800000#32) + Ideal.ofBits .f32 0x358637BD#32) * g j

/-- The squared ReLU of the first feed-forward product. -/
def act {n : ℕ} (u : Fin 1024 → EReal) (w : Fin 1024 → Fin n → EReal) (f : Fin n) : EReal :=
  max (∑ k : Fin 1024, u k * w k f) 0 * max (∑ k : Fin 1024, u k * w k f) 0

/-- The residual plus the feed-forward. -/
def ffn (h u : Fin 1024 → EReal) (w1 : Fin 1024 → Fin 4096 → EReal) (w2 : Fin 4096 → Fin 1024 → EReal) (j : Fin 1024) : EReal :=
  h j + ∑ f : Fin 4096, act u w1 f * w2 f j

/-- The residual plus the per-layer embedding under its logistic gate. -/
def gated (h u : Fin 1024 → EReal) (wg : Fin 1024 → Fin 1024 → EReal) (p : Fin 256 → EReal) (wu : Fin 256 → Fin 1024 → EReal)
    (j : Fin 1024) : EReal :=
  h j + Ideal.div 1 (1 + Ideal.exp (-∑ k : Fin 1024, u k * wg k j)) * ∑ k : Fin 256, p k * wu k j

/-- The whole tail of one token. -/
def row (x y : Fin 1024 → EReal) (p : Fin 256 → EReal) (wo : Fin 1024 → Fin 1024 → EReal) (g2 : Fin 1024 → EReal)
    (w1 : Fin 1024 → Fin 4096 → EReal) (w2 : Fin 4096 → Fin 1024 → EReal) (g3 : Fin 1024 → EReal)
    (wg : Fin 1024 → Fin 1024 → EReal) (wu : Fin 256 → Fin 1024 → EReal) : Fin 1024 → EReal :=
  let h1 := hid x y wo
  let h2 := ffn h1 (rms h1 g2) w1 w2
  gated h2 (rms h2 g3) wg p wu

/-- The two mixers' outputs of one token, side by side. -/
def both (a b : Fin 512 → EReal) : Fin 1024 → EReal := Fin.addCases (m := 512) (n := 512) a b

/-- A sum over the 1024 mixed features is the sum over the two mixers' halves. -/
theorem sum_halves (f : Fin 1024 → EReal) :
    ∑ e : Fin 1024, f e = ∑ e : Fin 512, f ⟨e.val, by omega⟩ + ∑ e : Fin 512, f ⟨512 + e.val, by omega⟩ :=
  Fin.sum_univ_add (M := EReal) (a := 512) (b := 512) f

/-- The four quarters of the feed-forward width, one after another. -/
theorem sum_quarters (f : Fin 4096 → EReal) :
    ∑ e : Fin 4096, f e = ∑ e : Fin 1024, f ⟨e.val, by omega⟩ + ∑ e : Fin 1024, f ⟨1024 + e.val, by omega⟩
      + ∑ e : Fin 1024, f ⟨2048 + e.val, by omega⟩ + ∑ e : Fin 1024, f ⟨3072 + e.val, by omega⟩ := by
  have h1 := Fin.sum_univ_add (M := EReal) (a := 3072) (b := 1024) f
  have h2 := Fin.sum_univ_add (M := EReal) (a := 2048) (b := 1024) (fun e => f (Fin.castAdd 1024 e))
  have h3 := Fin.sum_univ_add (M := EReal) (a := 1024) (b := 1024) (fun e => f (Fin.castAdd 1024 (Fin.castAdd 1024 e)))
  exact h1.trans (congrArg (· + _) (h2.trans (congrArg (· + _) h3)))

end Cert.TailRow
-- ==== Proof.TailPay.lean ====
/-
  What one block of the tail kernel's body computes, read at one entry: each value the body stores, as sums and
  products of extended reals over the entries of the block's operands.
-/
module

public import proofs.«01_k».proof.Proof.Gen.Kernel2Ideal.Skeleton
public import proofs.«01_k».proof.Proof.TailRow
public import Idealize.ShloMosaic.Lib.Pointwise

@[expose] public section

noncomputable section

namespace Cert.TailPay

open Cert.Kernel2Ideal Cert.Kernel2Ideal.Gen Idealize.ShloMosaic Cert.TailRow

/-- The residual plus the two halves of the output projection, at row `r` and column `j`. -/
theorem pay2_apply (x : FVec Ideal S1024x1024 .f32) (ya : FVec Ideal S1024x512 .bf16) (wa : FVec Ideal S512x1024 .bf16)
    (yb : FVec Ideal S1024x512 .bf16) (wb : FVec Ideal S512x1024 .bf16) (r j : Fin 1024) :
    k0_pay2 (F := Ideal) x ya wa yb wb (ix2 r j)
      = x (ix2 r j) + ∑ k : Fin 512, ya (ix2 r k) * wa (ix2 k j) + ∑ k : Fin 512, yb (ix2 r k) * wb (ix2 k j) := by
  pointwise [k0_pay2]

/-- The normalised residual that the feed-forward reads. -/
theorem pay3_apply (x : FVec Ideal S1024x1024 .f32) (ya : FVec Ideal S1024x512 .bf16) (wa : FVec Ideal S512x1024 .bf16)
    (yb : FVec Ideal S1024x512 .bf16) (wb : FVec Ideal S512x1024 .bf16) (g : FVec Ideal S1x1024 .f32) (r j : Fin 1024) :
    k0_pay3 (F := Ideal) x ya wa yb wb g (ix2 r j)
      = rms (fun k => k0_pay2 (F := Ideal) x ya wa yb wb (ix2 r k)) (fun k => g (ix2 0 k)) j := by
  unfold k0_pay3
  generalize k0_pay2 (F := Ideal) x ya wa yb wb = h
  pointwise [rms]

/-- The ReLU of the first quarter of the feed-forward product. -/
theorem pay4_apply (x : FVec Ideal S1024x1024 .f32) (ya : FVec Ideal S1024x512 .bf16) (wa : FVec Ideal S512x1024 .bf16)
    (yb : FVec Ideal S1024x512 .bf16) (wb : FVec Ideal S512x1024 .bf16) (g : FVec Ideal S1x1024 .f32)
    (w1 : FVec Ideal S1024x1024 .bf16) (r j : Fin 1024) :
    k0_pay4 (F := Ideal) x ya wa yb wb g w1 (ix2 r j)
      = max (∑ k : Fin 1024, k0_pay3 (F := Ideal) x ya wa yb wb g (ix2 r k) * w1 (ix2 k j)) 0 := by
  unfold k0_pay4
  generalize k0_pay3 (F := Ideal) x ya wa yb wb g = u
  pointwise []

/-- The first quarter added to the residual. -/
theorem pay5_apply (z : FVec Ideal S1024x1024 .f32) (a : FVec Ideal S1024x1024 .f32) (w2 : FVec Ideal S1024x1024 .bf16)
    (r j : Fin 1024) :
    k0_pay5 (F := Ideal) z a w2 (ix2 r j)
      = a (ix2 r j) + ∑ f : Fin 1024, z (ix2 r f) * z (ix2 r f) * w2 (ix2 f j) := by
  pointwise [k0_pay5]

/-- The second quarter of the feed-forward added on. -/
theorem pay6_apply (u : FVec Ideal S1024x1024 .bf16) (w1 : FVec Ideal S1024x1024 .bf16) (a : FVec Ideal S1024x1024 .f32)
    (w2 : FVec Ideal S1024x1024 .bf16) (r j : Fin 1024) :
    k0_pay6 (F := Ideal) u w1 a w2 (ix2 r j)
      = a (ix2 r j) + ∑ f : Fin 1024, act (fun k => u (ix2 r k)) (fun k f => w1 (ix2 k f)) f * w2 (ix2 f j) := by
  pointwise [k0_pay6, act]

/-- The third quarter, read in its three stored parts. -/
theorem pay9_apply (u : FVec Ideal S1024x1024 .bf16) (w1 : FVec Ideal S1024x1024 .bf16) (a : FVec Ideal S1024x1024 .f32)
    (w2 : FVec Ideal S1024x1024 .bf16) (r j : Fin 1024) :
    k0_pay9 (F := Ideal) (k0_pay7 a) (k0_pay8 u w1) w2 (ix2 r j)
      = a (ix2 r j) + ∑ f : Fin 1024, act (fun k => u (ix2 r k)) (fun k f => w1 (ix2 k f)) f * w2 (ix2 f j) := by
  pointwise [k0_pay9, k0_pay7, k0_pay8, act]

/-- The fourth quarter of the feed-forward added on. -/
theorem pay10_apply (u : FVec Ideal S1024x1024 .bf16) (w1 : FVec Ideal S1024x1024 .bf16) (a : FVec Ideal S1024x1024 .f32)
    (w2 : FVec Ideal S1024x1024 .bf16) (r j : Fin 1024) :
    k0_pay10 (F := Ideal) u w1 a w2 (ix2 r j)
      = a (ix2 r j) + ∑ f : Fin 1024, act (fun k => u (ix2 r k)) (fun k f => w1 (ix2 k f)) f * w2 (ix2 f j) := by
  pointwise [k0_pay10, act]

/-- The normalised residual that the gate reads. -/
theorem pay12_apply (h : FVec Ideal S1024x1024 .f32) (g : FVec Ideal S1x1024 .f32) (r j : Fin 1024) :
    k0_pay12 (F := Ideal) h g (ix2 r j) = rms (fun k => h (ix2 r k)) (fun k => g (ix2 0 k)) j := by
  pointwise [k0_pay12, k0_pay11, rms]

/-- The block's result: the gated embedding added to the residual. -/
theorem pay1_apply (h : FVec Ideal S1024x1024 .f32) (u : FVec Ideal S1024x1024 .bf16) (w : FVec Ideal S1024x1024 .bf16)
    (p : FVec Ideal S1024x256 .f32) (wu : FVec Ideal S256x1024 .bf16) (r j : Fin 1024) :
    k0_pay1 (F := Ideal) (k0_pay11 h) u w p wu (ix2 r j)
      = gated (fun k => h (ix2 r k)) (fun k => u (ix2 r k)) (fun k j => w (ix2 k j)) (fun k => p (ix2 r k))
          (fun k j => wu (ix2 k j)) j := by
  pointwise [k0_pay1, k0_pay11, gated]
  rw [zero_sub]

end Cert.TailPay
-- ==== Proof.TailBlock.lean ====
/-
  What the tail kernel's body leaves in the output block, whole: the composition of the stored values, and that block
  read at one entry as the tail of that row's token.
-/
module

public import proofs.«01_k».proof.Proof.Gen.Kernel2Ideal.Frame
public import proofs.«01_k».proof.Proof.TailPay
public import Idealize.ShloMosaic.Lib.Pipeline.Value
public import Idealize.ShloMosaic.Lib.Pipeline.ValueKit
public import Idealize.ShloMosaic.Lib.Tactic

@[expose] public section

set_option maxRecDepth 16384

noncomputable section

namespace Cert.TailBlock

open Cert.Kernel2Ideal Cert.Kernel2Ideal.Gen Idealize.ShloMosaic Idealize.ShloMosaic.TcCoe Idealize.SL.Sem Cert.TailRow Cert.TailPay

variable {F : FTy → Type} [FloatOps F]

theorem zeros : (![0, 0] : Fin 2 → Nat) = fun _ => 0 := funext fun a => by fin_cases a <;> rfl

/-- A read of the whole output buffer after a store that covered it is the value stored. -/
theorem readCov_last {sig : RefSig} {κ : Kind} {sp : Space} (v : View sig κ sp S1024x1024 .f32)
    (h h' : ∀ a, (![0, 0] : Fin 2 → ℕ) a + S1024x1024.size a ≤ S1024x1024.size a) (w : Vec F S1024x1024 .f32)
    (L : List (View.Piece (Elt F) S1024x1024 .f32)) :
    v.readCov (⟨Rect.unit (s := S1024x1024) ![0, 0] (no_index S1024x1024.size) h, w⟩ :: L)
      (Rect.unit (s := S1024x1024) ![0, 0] (no_index S1024x1024.size) h').toLoadRect = w := by
  rw [View.readCov_eq_canon', View.canon_cons_unit_zero (S := S1024x1024) zeros]
  exact View.ld_unit_zero (S := S1024x1024) zeros h' w

/-- Columns `o` to `o + 1023` of the first feed-forward weight. -/
abbrev cols (w : Vec F S1024x4096 .bf16) (o : ℕ) (h : ∀ a, (![0, o] : Fin 2 → ℕ) a + S1024x1024.size a ≤ S1024x4096.size a) :
    Vec F S1024x1024 .bf16 := View.ld w (Rect.unit (s := S1024x4096) ![0, o] S1024x1024.size h)

/-- Rows `o` to `o + 1023` of the second feed-forward weight. -/
abbrev rows (w : Vec F S4096x1024 .bf16) (o : ℕ) (h : ∀ a, (![o, 0] : Fin 2 → ℕ) a + S1024x1024.size a ≤ S4096x1024.size a) :
    Vec F S1024x1024 .bf16 := View.ld w (Rect.unit (s := S4096x1024) ![o, 0] S1024x1024.size h)

/-- The residual after the four quarters of the feed-forward. -/
def hidden (x0 : Vec F S1024x1024 .f32) (x1 x2 : Vec F S1024x512 .bf16) (x4 x5 : Vec F S512x1024 .bf16)
    (x6 : Vec F S1x1024 .f32) (x7 : Vec F S1024x4096 .bf16) (x8 : Vec F S4096x1024 .bf16) : Vec F S1024x1024 .f32 :=
  k0_pay10 (k0_pay3 x0 x1 x4 x2 x5 x6) (cols x7 3072 inb_S1024x4096_S1024x1024_0_3072)
    (k0_pay9
      (k0_pay7 (k0_pay6 (k0_pay3 x0 x1 x4 x2 x5 x6) (cols x7 1024 inb_S1024x4096_S1024x1024_0_1024)
        (k0_pay5 (k0_pay4 x0 x1 x4 x2 x5 x6 (cols x7 0 inb_S1024x4096_S1024x1024_0_0)) (k0_pay2 x0 x1 x4 x2 x5)
          (rows x8 0 inb_S4096x1024_S1024x1024_0_0))
        (rows x8 1024 inb_S4096x1024_S1024x1024_1024_0)))
      (k0_pay8 (k0_pay3 x0 x1 x4 x2 x5 x6) (cols x7 2048 inb_S1024x4096_S1024x1024_0_2048))
      (rows x8 2048 inb_S4096x1024_S1024x1024_2048_0))
    (rows x8 3072 inb_S4096x1024_S1024x1024_3072_0)

/-- The body's one output block as a function of its input blocks. -/
def block (x0 : Vec F S1024x1024 .f32) (x1 x2 : Vec F S1024x512 .bf16) (x3 : Vec F S1024x256 .f32) (x4 x5 : Vec F S512x1024 .bf16)
    (x6 : Vec F S1x1024 .f32) (x7 : Vec F S1024x4096 .bf16) (x8 : Vec F S4096x1024 .bf16) (x9 : Vec F S1x1024 .f32)
    (x10 : Vec F S1024x1024 .bf16) (x11 : Vec F S256x1024 .bf16) : Vec F S1024x1024 .f32 :=
  k0_pay1 (k0_pay11 (hidden x0 x1 x2 x4 x5 x6 x7 x8)) (k0_pay12 (hidden x0 x1 x2 x4 x5 x6 x7 x8) x9) x10 x3 x11

set_option maxHeartbeats 1000000 in
/-- What the run leaves in the output's staging buffer is `block` of the input blocks: every store covers the whole
    buffer, so each read-back is the value stored last. -/
theorem out_eq (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x256 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S256x1024 .bf16) (harg12 : arg12.IsWhole) (arg13 : Memref sig .tc .vmem S1024x1024 .f32) (harg13 : arg13.IsWhole)
    (x0 : Vec F S1024x1024 .f32) (x1 : Vec F S1024x512 .bf16) (x2 : Vec F S1024x512 .bf16) (x3 : Vec F S1024x256 .f32) (x4 : Vec F S512x1024 .bf16) (x5 : Vec F S512x1024 .bf16) (x6 : Vec F S1x1024 .f32) (x7 : Vec F S1024x4096 .bf16) (x8 : Vec F S4096x1024 .bf16) (x9 : Vec F S1x1024 .f32) (x10 : Vec F S1024x1024 .bf16) (x11 : Vec F S256x1024 .bf16) :
    out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11
      = block x0 x1 x2 x3 x4 x5 x6 x7 x8 x9 x10 x11 := by
  unfold out0_A_12
  rw [View.read_writes_junk_eq_canon]
  unfold kernelRun0_A
  dsimp only
  sl_unfold_words
  rw [View.canon_cons_unit_zero (S := S1024x1024) zeros]
  simp only [readCov_last]
  simp only [View.readAt_eq_ld, harg1.read_unread, harg2.read_unread, harg3.read_unread, harg4.read_unread, harg5.read_unread,
    harg6.read_unread, harg7.read_unread, harg8.read_unread, harg9.read_unread, harg10.read_unread, harg11.read_unread,
    harg12.read_unread, View.ld_unit_zero (S := S1024x1024) zeros, View.ld_unit_zero (S := S1024x512) zeros,
    View.ld_unit_zero (S := S512x1024) zeros, View.ld_unit_zero (S := S1x1024) zeros, View.ld_unit_zero (S := S256x1024) zeros,
    View.ld_unit_zero (S := S1024x256) zeros]
  unfold block hidden
  rfl

end Cert.TailBlock
-- ==== Proof.TailEntry.lean ====
/-
  The tail kernel's block read at one entry: row `r` of the block is the tail of the token in row `r`.
-/
module

public import proofs.«01_k».proof.Proof.TailBlock

@[expose] public section

noncomputable section

namespace Cert.TailEntry

open Cert.Kernel2Ideal Cert.Kernel2Ideal.Gen Idealize.ShloMosaic Cert.TailRow Cert.TailPay Cert.TailBlock

theorem both_lo (a b : Fin 512 → EReal) (e : Fin 512) (h : e.val < 1024) : both a b ⟨e.val, h⟩ = a e :=
  Fin.addCases_left (m := 512) (n := 512) (motive := fun _ => EReal) (left := a) (right := b) e

theorem both_hi (a b : Fin 512 → EReal) (e : Fin 512) (h : 512 + e.val < 1024) : both a b ⟨512 + e.val, h⟩ = b e :=
  Fin.addCases_right (m := 512) (n := 512) (motive := fun _ => EReal) (left := a) (right := b) e

/-- A vector cut into its two halves and put together again. -/
theorem both_cut (f : Fin 1024 → EReal) :
    both (fun e => f ⟨e.val, by omega⟩) (fun e => f ⟨512 + e.val, by omega⟩) = f := by
  funext e
  rcases Nat.lt_or_ge e.val 512 with h | h
  · exact both_lo _ _ ⟨e.val, h⟩ e.isLt
  · have hb : 512 + (e.val - 512) < 1024 := by omega
    have he : e = ⟨512 + (e.val - 512), hb⟩ := Fin.ext (by simp only []; omega)
    rw [he]
    exact both_hi _ _ ⟨e.val - 512, by omega⟩ _

/-- An entry of a slice of columns of the first feed-forward weight. -/
theorem cols_apply (w : Vec Ideal S1024x4096 .bf16) (o : ℕ) (ho : o + 1024 ≤ 4096) (h) (k f : Fin 1024) :
    cols (F := Ideal) w o h (ix2 k f) = w (ix2 k ⟨o + f.val, by omega⟩) :=
  View.ld_unit_apply_of w _ _ _ _ _ (fun a => by fin_cases a <;> simp [ix2])

/-- An entry of a slice of rows of the second feed-forward weight. -/
theorem rows_apply (w : Vec Ideal S4096x1024 .bf16) (o : ℕ) (ho : o + 1024 ≤ 4096) (h) (f j : Fin 1024) :
    rows (F := Ideal) w o h (ix2 f j) = w (ix2 ⟨o + f.val, by omega⟩ j) :=
  View.ld_unit_apply_of w _ _ _ _ _ (fun a => by fin_cases a <;> simp [ix2])

variable (x0 : FVec Ideal S1024x1024 .f32) (x1 x2 : FVec Ideal S1024x512 .bf16) (x3 : FVec Ideal S1024x256 .f32)
  (x4 x5 : FVec Ideal S512x1024 .bf16) (x6 : FVec Ideal S1x1024 .f32) (x7 : FVec Ideal S1024x4096 .bf16)
  (x8 : FVec Ideal S4096x1024 .bf16) (x9 : FVec Ideal S1x1024 .f32) (x10 : FVec Ideal S1024x1024 .bf16)
  (x11 : FVec Ideal S256x1024 .bf16)

/-- The projected residual of row `r`. -/
abbrev rowHid (r : Fin 1024) : Fin 1024 → EReal :=
  hid (fun k => x0 (ix2 r k)) (both (fun e => x1 (ix2 r e)) (fun e => x2 (ix2 r e)))
    (fun e j => both (fun e => x4 (ix2 e j)) (fun e => x5 (ix2 e j)) e)

theorem pay2_row (r : Fin 1024) :
    (fun j => k0_pay2 (F := Ideal) x0 x1 x4 x2 x5 (ix2 r j)) = rowHid x0 x1 x2 x4 x5 r := by
  funext j
  rw [pay2_apply, rowHid, hid, sum_halves, ← add_assoc]
  simp only [both_lo, both_hi]

theorem pay3_row (r : Fin 1024) :
    (fun j => k0_pay3 (F := Ideal) x0 x1 x4 x2 x5 x6 (ix2 r j))
      = rms (rowHid x0 x1 x2 x4 x5 r) (fun k => x6 (ix2 0 k)) := by
  funext j
  rw [pay3_apply, pay2_row]

/-- One quarter of the feed-forward, as the terms of the whole sum that fall in it. -/
theorem quarter (o : ℕ) (ho : o + 1024 ≤ 4096) (h h') (u : Fin 1024 → EReal) (j : Fin 1024) :
    ∑ f : Fin 1024, act u (fun k f => cols (F := Ideal) x7 o h (ix2 k f)) f * rows (F := Ideal) x8 o h' (ix2 f j)
      = ∑ f : Fin 1024, act u (fun k (f : Fin 4096) => x7 (ix2 k f)) ⟨o + f.val, by omega⟩ * x8 (ix2 ⟨o + f.val, by omega⟩ j) := by
  refine Finset.sum_congr rfl fun f _ => ?_
  rw [rows_apply x8 o ho]
  unfold act
  simp only [cols_apply x7 o ho]

theorem quarter_first (h h') (u : Fin 1024 → EReal) (j : Fin 1024) :
    ∑ f : Fin 1024, act u (fun k f => cols (F := Ideal) x7 0 h (ix2 k f)) f * rows (F := Ideal) x8 0 h' (ix2 f j)
      = ∑ f : Fin 1024, act u (fun k (f : Fin 4096) => x7 (ix2 k f)) ⟨f.val, by omega⟩ * x8 (ix2 ⟨f.val, by omega⟩ j) := by
  rw [quarter x7 x8 0 (by omega)]
  refine Finset.sum_congr rfl fun f _ => ?_
  have e : ∀ p : 0 + f.val < 4096, (⟨0 + f.val, p⟩ : Fin 4096) = ⟨f.val, by omega⟩ := fun p => Fin.ext (Nat.zero_add _)
  simp only [e]

/-- The residual after the feed-forward, row by row. -/
theorem hidden_row (r : Fin 1024) :
    (fun j => TailBlock.hidden (F := Ideal) x0 x1 x2 x4 x5 x6 x7 x8 (ix2 r j))
      = ffn (rowHid x0 x1 x2 x4 x5 r) (rms (rowHid x0 x1 x2 x4 x5 r) (fun k => x6 (ix2 0 k)))
          (fun k f => x7 (ix2 k f)) (fun f j => x8 (ix2 f j)) := by
  funext j
  have hu := fun k => congrFun (pay3_row x0 x1 x2 x4 x5 x6 r) k
  have hh := congrFun (pay2_row x0 x1 x2 x4 x5 r) j
  unfold TailBlock.hidden
  rw [pay10_apply, pay9_apply, pay6_apply, pay5_apply, hh]
  simp only [pay4_apply]
  simp only [hu]
  rw [ffn, sum_quarters]
  rw [← quarter_first x7 x8 inb_S1024x4096_S1024x1024_0_0 inb_S4096x1024_S1024x1024_0_0,
    ← quarter x7 x8 1024 (by omega) inb_S1024x4096_S1024x1024_0_1024 inb_S4096x1024_S1024x1024_1024_0,
    ← quarter x7 x8 2048 (by omega) inb_S1024x4096_S1024x1024_0_2048 inb_S4096x1024_S1024x1024_2048_0,
    ← quarter x7 x8 3072 (by omega) inb_S1024x4096_S1024x1024_0_3072 inb_S4096x1024_S1024x1024_3072_0]
  simp only [← add_assoc]
  rfl

/-- The block at row `r` and column `j` is the tail of the token in row `r`. -/
theorem block_apply (r j : Fin 1024) :
    block (F := Ideal) x0 x1 x2 x3 x4 x5 x6 x7 x8 x9 x10 x11 (ix2 r j)
      = row (fun k => x0 (ix2 r k)) (both (fun e => x1 (ix2 r e)) (fun e => x2 (ix2 r e))) (fun k => x3 (ix2 r k))
          (fun e j => both (fun e => x4 (ix2 e j)) (fun e => x5 (ix2 e j)) e) (fun k => x6 (ix2 0 k))
          (fun k f => x7 (ix2 k f)) (fun f j => x8 (ix2 f j)) (fun k => x9 (ix2 0 k))
          (fun k j => x10 (ix2 k j)) (fun k j => x11 (ix2 k j)) j := by
  unfold block
  rw [pay1_apply, hidden_row]
  have h := hidden_row x0 x1 x2 x4 x5 x6 x7 x8 r
  have hu : (fun k => k0_pay12 (F := Ideal) (TailBlock.hidden (F := Ideal) x0 x1 x2 x4 x5 x6 x7 x8) x9 (ix2 r k))
      = rms (fun k => TailBlock.hidden (F := Ideal) x0 x1 x2 x4 x5 x6 x7 x8 (ix2 r k)) (fun k => x9 (ix2 0 k)) :=
    funext fun k => pay12_apply _ _ _ _
  rw [hu, h]
  rfl

end Cert.TailEntry
-- ==== Proof.TailArray.lean ====
/-
  The array the tail kernel leaves: every row of it is the tail of that row's token, read from the program's arguments.
-/
module

public import proofs.«01_k».proof.Proof.TailEntry
public import proofs.«01_k».proof.Proof.Gen.Kernel2Ideal.Value
public import Idealize.ShloMosaic.Lib.Claim

@[expose] public section

set_option maxRecDepth 16384

noncomputable section

namespace Cert.TailArray

open Cert.Kernel2Ideal Cert.Kernel2Ideal.Gen Cert.Kernel2Ideal.Value Idealize.ShloMosaic Idealize.ShloMosaic.TcCoe Idealize.SL.Sem
open Cert.TailRow Cert.TailBlock Cert.TailEntry

/-- The batch entry of token `t` of the flattened rows. -/
abbrev bat (t : Fin 16384) : Fin 2 := ⟨t.val / 8192, by omega⟩
/-- The position of token `t` in its sequence. -/
abbrev pos (t : Fin 16384) : Fin 8192 := ⟨t.val % 8192, by omega⟩

/-- The tail of every token, from the arguments: the residual stream, the two mixers' outputs, the per-layer embedding
    and the weights. -/
def tail (x : FVec Ideal S2x8192x1024 .f32) (ya yb : FVec Ideal S2x8192x512 .bf16) (p : FVec Ideal S1x2x8192x256 .f32)
    (wo : FVec Ideal S1x1024x1024 .f32) (g2 : FVec Ideal S1x1024 .f32) (w1 : FVec Ideal S1x1024x4096 .f32)
    (w2 : FVec Ideal S1x4096x1024 .f32) (g3 : FVec Ideal S1x1024 .f32) (wg : FVec Ideal S1x1024x1024 .f32)
    (wu : FVec Ideal S1x256x1024 .f32) (t : Fin 16384) (j : Fin 1024) : EReal :=
  row (fun k => x (ix3 (bat t) (pos t) k))
    (both (fun e => ya (ix3 (bat t) (pos t) e)) (fun e => yb (ix3 (bat t) (pos t) e)))
    (fun k => p (ix4 0 (bat t) (pos t) k)) (fun e j => wo (ix3 0 e j)) (fun k => g2 (ix2 0 k))
    (fun k f => w1 (ix3 0 k f)) (fun f j => w2 (ix3 0 f j)) (fun k => g3 (ix2 0 k))
    (fun k j => wg (ix3 0 k j)) (fun k j => wu (ix3 0 k j)) j

variable (m : (ℓ : Loc nD τ sig) → Buf (Elt Ideal) ℓ) (ρ : Dev nD → PrngReg)

/-- Row `r` of block `t` is this row of the flattened tokens. -/
abbrev tok (t : Fin cfg0.N) (r : Fin 1024) : Fin 16384 := ⟨t.val * 1024 + r.val, by have h : t.val < 16 := t.isLt; omega⟩

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 1 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 2) = t.val ∧ win0_12.index t (1 : Fin 2) = 0 := (by decide +kernel : ∀ t : Fin grid0.N, _)

/-- The residual stream's block. -/
theorem blk_x (c : Dev nD) (t : Fin cfg0.N) (r k : Fin 1024) : (iblk m c 0 t : FVec Ideal S1024x1024 .f32) (ix2 r k)
    = (m ((c : Thread nD τ).loc main_arg0) : FVec Ideal S2x8192x1024 .f32) (ix3 (bat (tok t r)) (pos (tok t r)) k) := by
  blk_ext! [iblk, V, idx0 t]
/-- The first mixer's block. -/
theorem blk_ya (c : Dev nD) (t : Fin cfg0.N) (r : Fin 1024) (k : Fin 512) : (iblk m c 1 t : FVec Ideal S1024x512 .bf16) (ix2 r k)
    = (m ((c : Thread nD τ).loc main_arg1) : FVec Ideal S2x8192x512 .bf16) (ix3 (bat (tok t r)) (pos (tok t r)) k) := by
  blk_ext! [iblk, V, idx1 t]
/-- The second mixer's block. -/
theorem blk_yb (c : Dev nD) (t : Fin cfg0.N) (r : Fin 1024) (k : Fin 512) : (iblk m c 2 t : FVec Ideal S1024x512 .bf16) (ix2 r k)
    = (m ((c : Thread nD τ).loc main_arg2) : FVec Ideal S2x8192x512 .bf16) (ix3 (bat (tok t r)) (pos (tok t r)) k) := by
  blk_ext! [iblk, V, idx2 t]
/-- The per-layer embedding's block. -/
theorem blk_p (c : Dev nD) (t : Fin cfg0.N) (r : Fin 1024) (k : Fin 256) : (iblk m c 3 t : FVec Ideal S1024x256 .f32) (ix2 r k)
    = (m ((c : Thread nD τ).loc main_arg3) : FVec Ideal S1x2x8192x256 .f32) (ix4 0 (bat (tok t r)) (pos (tok t r)) k) := by
  blk_ext! [iblk, V, idx3 t]
/-- The upper half of the output projection. -/
theorem blk_wa (c : Dev nD) (t : Fin cfg0.N) (e : Fin 512) (j : Fin 1024) : (iblk m c 4 t : FVec Ideal S512x1024 .bf16) (ix2 e j)
    = (m ((c : Thread nD τ).loc main_arg4) : FVec Ideal S1x1024x1024 .f32) (ix3 0 ⟨e.val, by omega⟩ j) := by
  blk_ext! [iblk, V, idx4 t]
/-- The lower half of the output projection. -/
theorem blk_wb (c : Dev nD) (t : Fin cfg0.N) (e : Fin 512) (j : Fin 1024) : (iblk m c 5 t : FVec Ideal S512x1024 .bf16) (ix2 e j)
    = (m ((c : Thread nD τ).loc main_arg4) : FVec Ideal S1x1024x1024 .f32) (ix3 0 ⟨512 + e.val, by omega⟩ j) := by
  blk_ext! [iblk, V, idx5 t]
/-- The feed-forward's gain. -/
theorem blk_g2 (c : Dev nD) (t : Fin cfg0.N) (k : Fin 1024) : (iblk m c 6 t : FVec Ideal S1x1024 .f32) (ix2 0 k)
    = (m ((c : Thread nD τ).loc main_arg5) : FVec Ideal S1x1024 .f32) (ix2 0 k) := by
  blk_ext! [iblk, V, idx6 t]
/-- The first feed-forward weight. -/
theorem blk_w1 (c : Dev nD) (t : Fin cfg0.N) (k : Fin 1024) (f : Fin 4096) : (iblk m c 7 t : FVec Ideal S1024x4096 .bf16) (ix2 k f)
    = (m ((c : Thread nD τ).loc main_arg6) : FVec Ideal S1x1024x4096 .f32) (ix3 0 k f) := by
  blk_ext! [iblk, V, idx7 t]
/-- The second feed-forward weight. -/
theorem blk_w2 (c : Dev nD) (t : Fin cfg0.N) (f : Fin 4096) (j : Fin 1024) : (iblk m c 8 t : FVec Ideal S4096x1024 .bf16) (ix2 f j)
    = (m ((c : Thread nD τ).loc main_arg7) : FVec Ideal S1x4096x1024 .f32) (ix3 0 f j) := by
  blk_ext! [iblk, V, idx8 t]
/-- The gate's gain. -/
theorem blk_g3 (c : Dev nD) (t : Fin cfg0.N) (k : Fin 1024) : (iblk m c 9 t : FVec Ideal S1x1024 .f32) (ix2 0 k)
    = (m ((c : Thread nD τ).loc main_arg8) : FVec Ideal S1x1024 .f32) (ix2 0 k) := by
  blk_ext! [iblk, V, idx9 t]
/-- The gate's weight. -/
theorem blk_wg (c : Dev nD) (t : Fin cfg0.N) (k j : Fin 1024) : (iblk m c 10 t : FVec Ideal S1024x1024 .bf16) (ix2 k j)
    = (m ((c : Thread nD τ).loc main_arg9) : FVec Ideal S1x1024x1024 .f32) (ix3 0 k j) := by
  blk_ext! [iblk, V, idx10 t]
/-- The embedding's weight. -/
theorem blk_wu (c : Dev nD) (t : Fin cfg0.N) (k : Fin 256) (j : Fin 1024) : (iblk m c 11 t : FVec Ideal S256x1024 .bf16) (ix2 k j)
    = (m ((c : Thread nD τ).loc main_arg10) : FVec Ideal S1x256x1024 .f32) (ix3 0 k j) := by
  blk_ext! [iblk, V, idx11 t]

/-- The tail of every token of the arguments of device `c`, as the kernel's result array. -/
abbrev result (c : Dev nD) : FVec Ideal S16384x1024 .f32 := fun i =>
  tail (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (i 0) (i 1)

/-- What the body leaves at row `r` of block `t` is the tail of that row's token. -/
theorem block_entry (c : Dev nD) (t : Fin cfg0.N) (r j : Fin 1024) :
    block (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix2 r j)
      = result m c (ix2 (tok t r) j) := by
  rw [block_apply]
  simp only [blk_x, blk_ya, blk_yb, blk_p, blk_wa, blk_wb, blk_g2, blk_w1, blk_w2, blk_g3, blk_wg, blk_wu]
  unfold result tail
  congr 1
  funext e j
  exact congrFun (both_cut (fun e => (m ((c : Thread nD τ).loc main_arg4) : FVec Ideal S1x1024x1024 .f32) (ix3 0 e j))) e

/-- Every block written back is that block of the result. -/
theorem flushed_eq (c : Dev nD) (t : Fin cfg0.N) :
    (dats m 0 c).flushed 12 t = ((cfg0.win 12).blk t).view.read (Elt Ideal) (result m c) := by
  rw [flushed12_A, out_eq]
  funext y
  obtain ⟨e0, e1⟩ := idx12 t
  have hy : (y : S1024x1024.Idx) = ix2 (y 0) (y 1) := by blk_ext []
  have he : ((cfg0.win 12).blk t).view.emb y = ix2 (tok t (y 0)) (y 1) := by
    funext a; apply Fin.ext
    match a with
    | ⟨0, _⟩ => show win0_12.index t (0 : Fin 2) * 1024 + 1 * (y 0).val = t.val * 1024 + (y 0).val; omega
    | ⟨1, _⟩ => show win0_12.index t (1 : Fin 2) * 1024 + 1 * (y 1).val = (y 1).val; omega
  show block (F := Ideal) _ _ _ _ _ _ _ _ _ _ _ _ y = result m c (((cfg0.win 12).blk t).view.emb y)
  rw [he, hy]
  exact block_entry m c t (y 0) (y 1)

/-- Every index of the result is in some block. -/
theorem covered (i : S16384x1024.Idx) :
    ∃ t : Fin cfg0.N, (cfg0.win 12).flush t = true ∧ i ∈ ((cfg0.win 12).blk t).view.set := by
  have h0 : (i 0).val < 16384 := (i 0).isLt
  have h1 : (i 1).val < 1024 := (i 1).isLt
  obtain ⟨t, ht⟩ : ∃ t : Fin cfg0.N, t.val = (i 0).val / 1024 := ⟨⟨(i 0).val / 1024, by show _ < 16; omega⟩, rfl⟩
  obtain ⟨e0, e1⟩ := idx12 t
  have he : ((cfg0.win 12).blk t).view.emb (ix2 (⟨(i 0).val % 1024, by omega⟩ : Fin 1024) (⟨(i 1).val, h1⟩ : Fin 1024)) = i := by
    funext a; apply Fin.ext
    match a with
    | ⟨0, _⟩ => show win0_12.index t (0 : Fin 2) * 1024 + 1 * ((i 0).val % 1024) = (i 0).val; omega
    | ⟨1, _⟩ => show win0_12.index t (1 : Fin 2) * 1024 + 1 * (i 1).val = (i 1).val; omega
  exact ⟨t, flush0_12 t, he ▸ ((cfg0.win 12).blk t).view.emb_mem_set _⟩

/-- The kernel's result array after the run. -/
theorem final (c : Dev nD) : (dats m 0 c).arrAt 12 cfg0.N = result m c :=
  (dats m 0 c).arrAt_eq_of_cover 12 (result m c) (fun t _ => flushed_eq m c t) covered

end Cert.TailArray
-- ==== Proof.TailRef.lean ====
/-
  What the tail's reference computes, read at one token: the same tail of that token's row.
-/
module

public import proofs.«01_k».proof.Proof.Gen.Reference2Ideal.Read
public import proofs.«01_k».proof.Proof.TailArray

@[expose] public section

set_option maxRecDepth 16384

noncomputable section

namespace Cert.TailRef

open Cert.Reference2Ideal Cert.Reference2Ideal.Gen Cert.Reference2Ideal.Read Idealize.ShloMosaic Cert.TailRow Cert.TailEntry Cert.TailArray

variable (x0 : FVec Ideal S2x8192x1024 .f32) (x1 x2 : FVec Ideal S2x8192x512 .bf16) (x3 : FVec Ideal S1x2x8192x256 .f32)
  (x4 : FVec Ideal S1x1024x1024 .f32) (x5 : FVec Ideal S1x1024 .f32) (x6 : FVec Ideal S1x1024x4096 .f32)
  (x7 : FVec Ideal S1x4096x1024 .f32) (x8 : FVec Ideal S1x1024 .f32) (x9 : FVec Ideal S1x1024x1024 .f32)
  (x10 : FVec Ideal S1x256x1024 .f32)

/-- The mixers' outputs side by side. -/
theorem cat_apply (b : Fin 2) (s : Fin 8192) (e : Fin 1024) :
    val_main_v2 (F := Ideal) x1 x2 (ix3 b s e) = both (fun e => x1 (ix3 b s e)) (fun e => x2 (ix3 b s e)) e := by
  have hc : val_main_v2 (F := Ideal) x1 x2 (ix3 b s e)
      = if h : e.val < 512 then x1 (ix3 b s ⟨e.val, h⟩) else x2 (ix3 b s ⟨e.val - 512, by omega⟩) := by
    pointwise [val_main_v2, val_main_v0, val_main_v1]
  rw [hc]
  split
  · next h => exact (both_lo (fun e => x1 (ix3 b s e)) (fun e => x2 (ix3 b s e)) ⟨e.val, h⟩ e.isLt).symm
  · next h =>
    have hb : 512 + (e.val - 512) < 1024 := by omega
    have he : e = ⟨512 + (e.val - 512), hb⟩ := Fin.ext (by simp only []; omega)
    conv_rhs => rw [he]
    exact (both_hi (fun e => x1 (ix3 b s e)) (fun e => x2 (ix3 b s e)) ⟨e.val - 512, by omega⟩ hb).symm

/-- The projected residual. -/
theorem hid_apply (b : Fin 2) (s : Fin 8192) (j : Fin 1024) :
    val_main_v5 (F := Ideal) x0 x1 x2 x4 (ix3 b s j)
      = hid (fun k => x0 (ix3 b s k)) (fun e => val_main_v2 (F := Ideal) x1 x2 (ix3 b s e)) (fun e j => x4 (ix3 0 e j)) j := by
  unfold val_main_v5 val_main_v4 val_main_v3
  generalize val_main_v2 (F := Ideal) x1 x2 = y
  pointwise [hid]

/-- The first normalisation. -/
theorem rms1_apply (b : Fin 2) (s : Fin 8192) (j : Fin 1024) :
    val_main_v19 (F := Ideal) x0 x1 x2 x4 x5 (ix3 b s j)
      = rms (fun k => val_main_v5 (F := Ideal) x0 x1 x2 x4 (ix3 b s k)) (fun k => x5 (ix2 0 k)) j := by
  unfold val_main_v19 val_main_v18 val_main_v17 val_main_v16 val_main_v15 val_main_v14 val_main_v13 val_main_v12 val_main_v11
    val_main_v10 val_main_v9 val_main_v8 val_main_v7 val_main_v6 val_main_cst val_main_cst_0 val_main_cst_1
  generalize val_main_v5 (F := Ideal) x0 x1 x2 x4 = h
  pointwise [rms]

/-- The feed-forward added to the residual. -/
theorem ffn_apply (b : Fin 2) (s : Fin 8192) (j : Fin 1024) :
    val_main_v26 (F := Ideal) x0 x1 x2 x4 x5 x6 x7 (ix3 b s j)
      = ffn (fun k => val_main_v5 (F := Ideal) x0 x1 x2 x4 (ix3 b s k)) (fun k => val_main_v19 (F := Ideal) x0 x1 x2 x4 x5 (ix3 b s k))
          (fun k f => x6 (ix3 0 k f)) (fun f j => x7 (ix3 0 f j)) j := by
  unfold val_main_v26 val_main_v25 val_main_v24 val_main_v23 val_main_v22 val_main_v21 val_main_v20 val_main_call0_v0 val_main_call0_cst
  generalize val_main_v5 (F := Ideal) x0 x1 x2 x4 = h
  generalize val_main_v19 (F := Ideal) x0 x1 x2 x4 x5 = u
  pointwise [ffn, act]

/-- The second normalisation. -/
theorem rms2_apply (b : Fin 2) (s : Fin 8192) (j : Fin 1024) :
    val_main_v40 (F := Ideal) x0 x1 x2 x4 x5 x6 x7 x8 (ix3 b s j)
      = rms (fun k => val_main_v26 (F := Ideal) x0 x1 x2 x4 x5 x6 x7 (ix3 b s k)) (fun k => x8 (ix2 0 k)) j := by
  unfold val_main_v40 val_main_v39 val_main_v38 val_main_v37 val_main_v36 val_main_v35 val_main_v34 val_main_v33 val_main_v32
    val_main_v31 val_main_v30 val_main_v29 val_main_v28 val_main_v27 val_main_cst_2 val_main_cst_3 val_main_cst_4
  generalize val_main_v26 (F := Ideal) x0 x1 x2 x4 x5 x6 x7 = h
  pointwise [rms]

/-- The gated embedding added to the residual. -/
theorem gated_apply (b : Fin 2) (s : Fin 8192) (j : Fin 1024) :
    val_main_v53 (F := Ideal) x0 x1 x2 x3 x4 x5 x6 x7 x8 x9 x10 (ix3 b s j)
      = gated (fun k => val_main_v26 (F := Ideal) x0 x1 x2 x4 x5 x6 x7 (ix3 b s k))
          (fun k => val_main_v40 (F := Ideal) x0 x1 x2 x4 x5 x6 x7 x8 (ix3 b s k)) (fun k j => x9 (ix3 0 k j))
          (fun k => x3 (ix4 0 b s k)) (fun k j => x10 (ix3 0 k j)) j := by
  unfold val_main_v53 val_main_v52 val_main_v51 val_main_v50 val_main_v49 val_main_v48 val_main_v47 val_main_v46 val_main_v45
    val_main_v44 val_main_v43 val_main_v42 val_main_v41 val_main_cst_5 val_main_cst_6
  generalize val_main_v26 (F := Ideal) x0 x1 x2 x4 x5 x6 x7 = h
  generalize val_main_v40 (F := Ideal) x0 x1 x2 x4 x5 x6 x7 x8 = u
  pointwise [gated]

/-- The reference's result is the tail of every token. -/
theorem ref_apply (t : Fin 16384) (j : Fin 1024) :
    val_main_v54 (F := Ideal) x0 x1 x2 x3 x4 x5 x6 x7 x8 x9 x10 (ix2 t j) = tail x0 x1 x2 x3 x4 x5 x6 x7 x8 x9 x10 t j := by
  have h1 : (fun k => val_main_v5 (F := Ideal) x0 x1 x2 x4 (ix3 (bat t) (pos t) k)) = _ := funext fun k => hid_apply x0 x1 x2 x4 _ _ k
  have h2 : (fun k => val_main_v19 (F := Ideal) x0 x1 x2 x4 x5 (ix3 (bat t) (pos t) k)) = _ := funext fun k => rms1_apply x0 x1 x2 x4 x5 _ _ k
  have h3 : (fun k => val_main_v26 (F := Ideal) x0 x1 x2 x4 x5 x6 x7 (ix3 (bat t) (pos t) k)) = _ :=
    funext fun k => ffn_apply x0 x1 x2 x4 x5 x6 x7 _ _ k
  have h4 : (fun k => val_main_v40 (F := Ideal) x0 x1 x2 x4 x5 x6 x7 x8 (ix3 (bat t) (pos t) k)) = _ :=
    funext fun k => rms2_apply x0 x1 x2 x4 x5 x6 x7 x8 _ _ k
  have hi : idx_main_v54 (ix2 t j) = ix3 (bat t) (pos t) j := by blk_ext [idx_main_v54]
  rw [val_main_v54_apply, hi, gated_apply, h4, h3, h2, h1]
  simp only [cat_apply]
  rfl

end Cert.TailRef
-- ==== Proof.TailClaim.lean ====
/-
  The tail's claims: its programs run to the end and leave their arguments as they were, the idealised kernel is the
  kernel, and the idealised kernel and the reference end with the same array.
-/
module

public import proofs.«01_k».proof.Defs
public import proofs.«01_k».proof.Proof.TailRef
public import proofs.«01_k».proof.Proof.Gen.Kernel2.Frame
public import proofs.«01_k».proof.Proof.Gen.Kernel2Ideal.Frame
public import Idealize.ShloMosaic.Adequacy

@[expose] public section

noncomputable section

namespace Cert.TailClaim

open Idealize.ShloMosaic Idealize.ShloMosaic.TcCoe Idealize.SL.Sem

/-- The kernel runs to the end, its arguments unchanged. -/
theorem frame_kernel : Cert.quiescent_Kernel2 (hKernel2 := Cert.Kernel2.Gen.facts) :=
  fun m ρ _ => Cert.Kernel2.Gen.frame m ρ

/-- The idealised kernel runs to the end, its arguments unchanged. -/
theorem frame_ideal : Cert.quiescent_Kernel2Ideal (hKernel2Ideal := Cert.Kernel2Ideal.Gen.facts) :=
  fun m ρ _ => Cert.Kernel2Ideal.Gen.frame m ρ

/-- The reference runs to the end, its arguments unchanged. -/
theorem frame_ref : Cert.quiescent_Reference2Ideal (hReference2Ideal := Cert.Reference2Ideal.Gen.facts) :=
  fun m ρ _ => (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- Both programs end with the tail of every token. -/
theorem value : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Cert.TailArray.result m c,
    (θ_run Cert.Kernel2Ideal.defs _ _).mono (fun r h c => ⟨(h c).1.trans (Cert.TailArray.final m c), (h c).2⟩)
      (Cert.Kernel2Ideal.Value.run_blocks (F := Ideal) m ρ),
    (θ_run Cert.Reference2Ideal.defs _ _).mono (fun r h c => ⟨(h c).1.trans ?_, (h c).2⟩)
      (Cert.Reference2Ideal.Value.run (F := Ideal) m' ρ')⟩
  obtain ⟨h0, h1, h2, h3, h4, h5, h6, h7, h8, h9, h10⟩ := hagree c
  rw [Cert.Reference2Ideal.Read.val_main_v54_eq, h0, h1, h2, h3, h4, h5, h6, h7, h8, h9, h10]
  funext i
  have hi : (i : Cert.Kernel2Ideal.S16384x1024.Idx) = ix2 (i 0) (i 1) := by blk_ext []
  rw [hi]
  exact Cert.TailRef.ref_apply _ _ _ _ _ _ _ _ _ _ _ (i 0) (i 1)

end Cert.TailClaim
-- ==== Proof.InBlock.lean ====
/-
  What the input projection's body leaves in each of its seven output blocks, whole: one store each, of a value computed
  from the input blocks.
-/
module

public import proofs.«01_k».proof.Proof.Gen.Kernel3Ideal.Frame
public import Idealize.ShloMosaic.Lib.Pipeline.Value
public import Idealize.ShloMosaic.Lib.Pipeline.ValueKit
public import Idealize.ShloMosaic.Lib.Tactic

@[expose] public section

set_option maxRecDepth 16384

noncomputable section

namespace Cert.InBlock

open Cert.Kernel3Ideal Cert.Kernel3Ideal.Gen Idealize.ShloMosaic Idealize.ShloMosaic.TcCoe Idealize.SL.Sem

variable {F : FTy → Type} [FloatOps F]

/-- The offset of a whole block is zero on every axis. -/
theorem zeros : (![0, 0] : Fin 2 → Nat) = fun _ => 0 := funext fun a => by fin_cases a <;> rfl

/-- The first 1024 columns of the first group's weight. -/
def wide (w : Vec F S1024x2048 .bf16) : Vec F S1024x1024 .bf16 :=
  View.ld w (Rect.unit (s := S1024x2048) ![0, 0] S1024x1024.size inb_S1024x2048_S1024x1024_0_0)

/-- Columns `o` to `o + 511` of the first group's weight. -/
abbrev colsA (w : Vec F S1024x2048 .bf16) (o : ℕ) (h : ∀ a, (![0, o] : Fin 2 → ℕ) a + S1024x512.size a ≤ S1024x2048.size a) :
    Vec F S1024x512 .bf16 := View.ld w (Rect.unit (s := S1024x2048) ![0, o] S1024x512.size h)

/-- Columns `o` to `o + 511` of the second group's weight. -/
abbrev colsB (w : Vec F S1024x1536 .bf16) (o : ℕ) (h : ∀ a, (![0, o] : Fin 2 → ℕ) a + S1024x512.size a ≤ S1024x1536.size a) :
    Vec F S1024x512 .bf16 := View.ld w (Rect.unit (s := S1024x1536) ![0, o] S1024x512.size h)

/-- The block of the first group's queries and keys. -/
def qk (x0 : Vec F S1024x1024 .f32) (x1 : Vec F S1x1024 .f32) (x2 : Vec F S1024x2048 .bf16) : Vec F S1024x1024 .bf16 :=
  k0_pay4 x0 x1 (wide x2)

/-- The block of the first group's values. -/
def val (x0 : Vec F S1024x1024 .f32) (x1 : Vec F S1x1024 .f32) (x2 : Vec F S1024x2048 .bf16) : Vec F S1024x512 .bf16 :=
  k0_pay5 x0 x1 (colsA x2 1024 inb_S1024x2048_S1024x512_0_1024)

/-- The block of the first group's output gate. -/
def gate (x0 : Vec F S1024x1024 .f32) (x1 : Vec F S1x1024 .f32) (x2 : Vec F S1024x2048 .bf16) : Vec F S1024x512 .bf16 :=
  k0_pay6 x0 x1 (colsA x2 1536 inb_S1024x2048_S1024x512_0_1536)

/-- The block of the second group's normalised queries. -/
def nq (x0 : Vec F S1024x1024 .f32) (x1 : Vec F S1x1024 .f32) (x3 : Vec F S1024x1536 .bf16) (x6 : Vec F S512x512 .bf16)
    (x7 : Vec F S1x512 .f32) : Vec F S1024x512 .bf16 :=
  k0_pay7 (k0_pay3 x0 x1) (colsB x3 0 inb_S1024x1536_S1024x512_0_0) x6 x7

/-- The block of the second group's normalised keys. -/
def nk (x0 : Vec F S1024x1024 .f32) (x1 : Vec F S1x1024 .f32) (x3 : Vec F S1024x1536 .bf16) (x6 : Vec F S512x512 .bf16)
    (x8 : Vec F S1x512 .f32) : Vec F S1024x512 .bf16 :=
  k0_pay8 (k0_pay3 x0 x1) (colsB x3 512 inb_S1024x1536_S1024x512_0_512) x6 x8

/-- The block of the second group's values. -/
def nv (x0 : Vec F S1024x1024 .f32) (x1 : Vec F S1x1024 .f32) (x3 : Vec F S1024x1536 .bf16) : Vec F S1024x512 .bf16 :=
  k0_pay1 (k0_pay3 x0 x1) (colsB x3 1024 inb_S1024x1536_S1024x512_0_1024)

/-- The block of the first group's recurrent gates, a gate a row. -/
def gates (x0 : Vec F S1024x1024 .f32) (x1 : Vec F S1x1024 .f32) (x4 : Vec F S1024x128 .bf16) (x5 : Vec F S16x1 .f32) :
    Vec F S16x1024 .f32 :=
  k0_pay2 (k0_pay3 x0 x1) x4 x5

set_option maxHeartbeats 2000000 in
/-- What the run leaves in the outputs' staging buffers: each is stored once, whole. -/
theorem outs_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S16x1 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1024x512 .bf16) (harg15 : arg15.IsWhole) (arg16 : Memref sig .tc .vmem S16x1024 .f32) (harg16 : arg16.IsWhole)
    (x0 : Vec F S1024x1024 .f32) (x1 : Vec F S1x1024 .f32) (x2 : Vec F S1024x2048 .bf16) (x3 : Vec F S1024x1536 .bf16) (x4 : Vec F S1024x128 .bf16) (x5 : Vec F S16x1 .f32) (x6 : Vec F S512x512 .bf16) (x7 : Vec F S1x512 .f32) (x8 : Vec F S1x512 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
        = qk x0 x1 x2
      ∧ out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
        = val x0 x1 x2
      ∧ out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
        = gate x0 x1 x2
      ∧ out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
        = nq x0 x1 x3 x6 x7
      ∧ out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
        = nk x0 x1 x3 x6 x8
      ∧ out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
        = nv x0 x1 x3
      ∧ out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
        = gates x0 x1 x4 x5 := by
  unfold out0_A_9 out0_A_10 out0_A_11 out0_A_12 out0_A_13 out0_A_14 out0_A_15
  simp only [View.read_writes_junk_eq_canon]
  unfold kernelRun0_A
  dsimp only
  sl_unfold_words
  simp only [View.canon_cons_unit_zero (S := S1024x1024) zeros, View.canon_cons_unit_zero (S := S1024x512) zeros,
    View.canon_cons_unit_zero (S := S16x1024) zeros]
  simp only [View.readAt_eq_ld, harg1.read_unread, harg2.read_unread, harg3.read_unread, harg4.read_unread, harg5.read_unread,
    harg6.read_unread, harg7.read_unread, harg8.read_unread, harg9.read_unread, View.ld_unit_zero (S := S1024x1024) zeros,
    View.ld_unit_zero (S := S1x1024) zeros, View.ld_unit_zero (S := S512x512) zeros, View.ld_unit_zero (S := S1x512) zeros,
    View.ld_unit_zero (S := S1024x128) zeros, View.ld_unit_zero (S := S16x1) zeros]
  unfold qk val gate nq nk nv gates
  exact ⟨rfl, rfl, rfl, rfl, rfl, rfl, rfl⟩

end Cert.InBlock
-- ==== Proof.InRow.lean ====
/-
  The input projection of the layer, one token at a time, over the extended reals: the normalised row through the combined
  weight, and the norm of each head of the queries and keys. These are the functions both programs are shown to compute.
-/
module

public import proofs.«01_k».proof.Proof.TailRow

@[expose] public section

noncomputable section

namespace Cert.InRow

open Idealize.ShloMosaic Cert.TailRow

/-- Column `e` of the projection of the row `x` normalised with gain `g`. -/
def proj (x g : Fin 1024 → EReal) (w : Fin 1024 → Fin 3600 → EReal) (e : Fin 3600) : EReal :=
  ∑ k : Fin 1024, rms x g k * w k e

/-- The head that column `j` of 512 belongs to. -/
abbrev head (j : Fin 512) : Fin 8 := ⟨j.val / 64, by omega⟩
/-- The place of column `j` in its head. -/
abbrev lane (j : Fin 512) : Fin 64 := ⟨j.val % 64, by omega⟩
/-- Column `k` of head `h`. -/
abbrev col (h : Fin 8) (k : Fin 64) : Fin 512 := ⟨h.val * 64 + k.val, by omega⟩

/-- What a head's entries are scaled by: the inverse root of their mean square (the two constants are the printed 64 and
    1e-6). -/
def scale (y : Fin 512 → EReal) (h : Fin 8) : EReal :=
  Ideal.rsqrt (Ideal.div (∑ k : Fin 64, y (col h k) * y (col h k)) (Ideal.ofBits .f32 0x42800000#32)
    + Ideal.ofBits .f32 0x358637BD#32)

/-- The norm of each head of a row of 512, with gain `g`. -/
def headNorm (y : Fin 512 → EReal) (g : Fin 8 → Fin 64 → EReal) (j : Fin 512) : EReal :=
  y j * scale y (head j) * g (head j) (lane j)

/-- A sum over the 512 columns is the sum over the heads of the sums over their columns. -/
theorem sum_heads (f : Fin 512 → EReal) : ∑ k : Fin 512, f k = ∑ h : Fin 8, ∑ k : Fin 64, f (col h k) := by
  rw [← Fintype.sum_prod_type' (f := fun h k => f (col h k))]
  refine (Fintype.sum_equiv (finProdFinEquiv (m := 8) (n := 64)) _ _ fun p => ?_).symm
  exact congrArg f (Fin.ext (by show p.1.val * 64 + p.2.val = p.2.val + 64 * p.1.val; omega))

/-- A sum over the 512 columns against the indicator of one head is the sum over that head's columns; the other heads'
    terms are zero whatever they are multiplied with. -/
theorem sum_indicator (f : Fin 512 → EReal) (j : Fin 512) :
    ∑ k : Fin 512, f k * (if head k = head j then 1 else 0) = ∑ k : Fin 64, f (col (head j) k) := by
  rw [sum_heads, Finset.sum_eq_single (head j)]
  · refine Finset.sum_congr rfl fun k _ => ?_
    have h : head (col (head j) k) = head j := Fin.ext (by show (j.val / 64 * 64 + k.val) / 64 = j.val / 64; omega)
    rw [if_pos h, mul_one]
  · intro h _ hne
    refine Finset.sum_eq_zero fun k _ => ?_
    have e : head (col h k) = h := Fin.ext (by show (h.val * 64 + k.val) / 64 = h.val; omega)
    rw [e, if_neg hne, mul_zero]
  · intro h
    exact absurd (Finset.mem_univ _) h

/-- The printed 64. -/
theorem ofBits_64 : Ideal.ofBits .f32 0x42800000#32 = ((64 : ℝ) : EReal) := by
  simp [Ideal.ofBits, Ideal.ieee, -EReal.coe_mul]; norm_num

/-- The printed 1/64. -/
theorem ofBits_sixtyfourth : Ideal.ofBits .f32 0x3C800000#32 = (((64 : ℝ)⁻¹ : ℝ) : EReal) := by
  simp [Ideal.ofBits, Ideal.ieee, -EReal.coe_mul]; norm_num

/-- Multiplying with the printed 1/64 is dividing by the printed 64. -/
theorem mul_sixtyfourth (a : EReal) :
    a * Ideal.ofBits .f32 0x3C800000#32 = Ideal.div a (Ideal.ofBits .f32 0x42800000#32) := by
  have h : ((64 : ℝ) : EReal) ≠ 0 := by exact_mod_cast (by norm_num : (64 : ℝ) ≠ 0)
  rw [ofBits_64, ofBits_sixtyfourth, Ideal.div, if_neg h, EReal.coe_inv]

end Cert.InRow
-- ==== Proof.InPay.lean ====
/-
  What one block of the input projection's body computes, read at one entry: each value the body stores, as sums and
  products of extended reals over the entries of the block's operands.
-/
module

public import proofs.«01_k».proof.Proof.Gen.Kernel3Ideal.Skeleton
public import proofs.«01_k».proof.Proof.InRow
public import Idealize.ShloMosaic.Lib.Pointwise

@[expose] public section

noncomputable section

namespace Cert.InPay

open Cert.Kernel3Ideal Cert.Kernel3Ideal.Gen Idealize.ShloMosaic Cert.TailRow Cert.InRow

/-- The normalised row that every projection reads. -/
theorem pay3_apply (x : FVec Ideal S1024x1024 .f32) (g : FVec Ideal S1x1024 .f32) (r k : Fin 1024) :
    k0_pay3 (F := Ideal) x g (ix2 r k) = rms (fun k => x (ix2 r k)) (fun k => g (ix2 0 k)) k := by
  pointwise [k0_pay3, rms]

/-- The first group's queries and keys. -/
theorem pay4_apply (x : FVec Ideal S1024x1024 .f32) (g : FVec Ideal S1x1024 .f32) (w : FVec Ideal S1024x1024 .bf16)
    (r j : Fin 1024) :
    k0_pay4 (F := Ideal) x g w (ix2 r j) = ∑ k : Fin 1024, k0_pay3 (F := Ideal) x g (ix2 r k) * w (ix2 k j) := by
  unfold k0_pay4
  generalize k0_pay3 (F := Ideal) x g = u
  pointwise []

/-- The plain product of the normalised rows and a weight of 512 columns. -/
theorem pay1_apply (u : FVec Ideal S1024x1024 .bf16) (w : FVec Ideal S1024x512 .bf16) (r : Fin 1024) (j : Fin 512) :
    k0_pay1 (F := Ideal) u w (ix2 r j) = ∑ k : Fin 1024, u (ix2 r k) * w (ix2 k j) := by
  pointwise [k0_pay1]

/-- The first group's values are that product. -/
theorem pay5_eq (x : FVec Ideal S1024x1024 .f32) (g : FVec Ideal S1x1024 .f32) (w : FVec Ideal S1024x512 .bf16) :
    k0_pay5 (F := Ideal) x g w = k0_pay1 (F := Ideal) (k0_pay3 (F := Ideal) x g) w := rfl

/-- The first group's output gate is that product. -/
theorem pay6_eq (x : FVec Ideal S1024x1024 .f32) (g : FVec Ideal S1x1024 .f32) (w : FVec Ideal S1024x512 .bf16) :
    k0_pay6 (F := Ideal) x g w = k0_pay1 (F := Ideal) (k0_pay3 (F := Ideal) x g) w := rfl

/-- The second group's queries: the product, scaled by the inverse root of its squares' product with `bd` and by `g`. -/
theorem pay7_apply (u : FVec Ideal S1024x1024 .bf16) (w : FVec Ideal S1024x512 .bf16) (bd : FVec Ideal S512x512 .bf16)
    (g : FVec Ideal S1x512 .f32) (r : Fin 1024) (j : Fin 512) :
    k0_pay7 (F := Ideal) u w bd g (ix2 r j)
      = (∑ k : Fin 1024, u (ix2 r k) * w (ix2 k j))
        * Ideal.rsqrt ((∑ i : Fin 512, (∑ k : Fin 1024, u (ix2 r k) * w (ix2 k i)) * (∑ k : Fin 1024, u (ix2 r k) * w (ix2 k i))
            * bd (ix2 i j)) * Ideal.ofBits .f32 0x3C800000#32 + Ideal.ofBits .f32 0x358637BD#32)
        * g (ix2 0 j) := by
  pointwise [k0_pay7]

/-- The second group's keys are computed as its queries are. -/
theorem pay8_eq (u : FVec Ideal S1024x1024 .bf16) (w : FVec Ideal S1024x512 .bf16) (bd : FVec Ideal S512x512 .bf16)
    (g : FVec Ideal S1x512 .f32) : k0_pay8 (F := Ideal) u w bd g = k0_pay7 (F := Ideal) u w bd g := rfl

/-- The recurrent gates: the first 16 columns of the gates' weight against the rows, a gate a row, plus the bias. -/
theorem pay2_apply (u : FVec Ideal S1024x1024 .bf16) (w : FVec Ideal S1024x128 .bf16) (b : FVec Ideal S16x1 .f32)
    (e : Fin 16) (r : Fin 1024) :
    k0_pay2 (F := Ideal) u w b (ix2 e r)
      = (∑ k : Fin 1024, w (ix2 k ⟨e.val, by omega⟩) * u (ix2 r k)) + b (ix2 e 0) := by
  pointwise [k0_pay2]

end Cert.InPay
-- ==== Proof.InEntry.lean ====
/-
  The input projection's blocks read at one entry: row `r` of a block is what the token in row `r` gives.
-/
module

public import proofs.«01_k».proof.Proof.InBlock
public import proofs.«01_k».proof.Proof.InPay

@[expose] public section

noncomputable section

namespace Cert.InEntry

open Cert.Kernel3Ideal Cert.Kernel3Ideal.Gen Idealize.ShloMosaic Cert.TailRow Cert.InRow Cert.InPay Cert.InBlock

/-- An entry of the first 1024 columns of the first group's weight. -/
theorem wide_apply (w : Vec Ideal S1024x2048 .bf16) (k j : Fin 1024) :
    wide (F := Ideal) w (ix2 k j) = w (ix2 k ⟨j.val, by omega⟩) :=
  View.ld_unit_apply_of w _ _ _ _ _ (fun a => by fin_cases a <;> simp [ix2])

/-- An entry of a slice of columns of the first group's weight. -/
theorem colsA_apply (w : Vec Ideal S1024x2048 .bf16) (o : ℕ) (ho : o + 512 ≤ 2048) (h) (k : Fin 1024) (j : Fin 512) :
    colsA (F := Ideal) w o h (ix2 k j) = w (ix2 k ⟨o + j.val, by omega⟩) :=
  View.ld_unit_apply_of w _ _ _ _ _ (fun a => by fin_cases a <;> simp [ix2])

/-- An entry of a slice of columns of the second group's weight. -/
theorem colsB_apply (w : Vec Ideal S1024x1536 .bf16) (o : ℕ) (ho : o + 512 ≤ 1536) (h) (k : Fin 1024) (j : Fin 512) :
    colsB (F := Ideal) w o h (ix2 k j) = w (ix2 k ⟨o + j.val, by omega⟩) :=
  View.ld_unit_apply_of w _ _ _ _ _ (fun a => by fin_cases a <;> simp [ix2])

variable (x0 : FVec Ideal S1024x1024 .f32) (x1 : FVec Ideal S1x1024 .f32) (x2 : FVec Ideal S1024x2048 .bf16)
  (x3 : FVec Ideal S1024x1536 .bf16) (x4 : FVec Ideal S1024x128 .bf16) (x5 : FVec Ideal S16x1 .f32)
  (x6 : FVec Ideal S512x512 .bf16) (x7 : FVec Ideal S1x512 .f32)

/-- The normalised row `r`. -/
abbrev unit (r : Fin 1024) : Fin 1024 → EReal := rms (fun k => x0 (ix2 r k)) (fun k => x1 (ix2 0 k))

theorem qk_apply (r j : Fin 1024) :
    qk (F := Ideal) x0 x1 x2 (ix2 r j) = ∑ k : Fin 1024, unit x0 x1 r k * x2 (ix2 k ⟨j.val, by omega⟩) := by
  rw [qk, pay4_apply]
  simp only [pay3_apply, wide_apply]

theorem val_apply (r : Fin 1024) (j : Fin 512) :
    val (F := Ideal) x0 x1 x2 (ix2 r j) = ∑ k : Fin 1024, unit x0 x1 r k * x2 (ix2 k ⟨1024 + j.val, by omega⟩) := by
  rw [val, pay5_eq, pay1_apply]
  simp only [pay3_apply, colsA_apply x2 1024 (by norm_num)]

theorem gate_apply (r : Fin 1024) (j : Fin 512) :
    gate (F := Ideal) x0 x1 x2 (ix2 r j) = ∑ k : Fin 1024, unit x0 x1 r k * x2 (ix2 k ⟨1536 + j.val, by omega⟩) := by
  rw [gate, pay6_eq, pay1_apply]
  simp only [pay3_apply, colsA_apply x2 1536 (by norm_num)]

theorem nv_apply (r : Fin 1024) (j : Fin 512) :
    nv (F := Ideal) x0 x1 x3 (ix2 r j) = ∑ k : Fin 1024, unit x0 x1 r k * x3 (ix2 k ⟨1024 + j.val, by omega⟩) := by
  rw [nv, pay1_apply]
  simp only [pay3_apply, colsB_apply x3 1024 (by norm_num)]

theorem gates_apply (e : Fin 16) (r : Fin 1024) :
    gates (F := Ideal) x0 x1 x4 x5 (ix2 e r)
      = (∑ k : Fin 1024, unit x0 x1 r k * x4 (ix2 k ⟨e.val, by omega⟩)) + x5 (ix2 e 0) := by
  rw [gates, pay2_apply]
  simp only [pay3_apply, mul_comm]

/-- With `bd` the indicator of two columns being of one head, a head's scale is what the body multiplies a column with. -/
theorem scale_eq (y : Fin 512 → EReal) (hb : ∀ i j, x6 (ix2 i j) = if head i = head j then 1 else 0) (j : Fin 512) :
    Ideal.rsqrt ((∑ i : Fin 512, y i * y i * x6 (ix2 i j)) * Ideal.ofBits .f32 0x3C800000#32 + Ideal.ofBits .f32 0x358637BD#32)
      = scale y (head j) := by
  simp only [hb]
  rw [sum_indicator (fun i => y i * y i), mul_sixtyfourth, scale]

theorem nq_apply (hb : ∀ i j, x6 (ix2 i j) = if head i = head j then 1 else 0) (r : Fin 1024) (j : Fin 512) :
    nq (F := Ideal) x0 x1 x3 x6 x7 (ix2 r j)
      = (∑ k : Fin 1024, unit x0 x1 r k * x3 (ix2 k ⟨0 + j.val, by omega⟩))
        * scale (fun j => ∑ k : Fin 1024, unit x0 x1 r k * x3 (ix2 k ⟨0 + j.val, by omega⟩)) (head j) * x7 (ix2 0 j) := by
  rw [nq, pay7_apply]
  simp only [pay3_apply, colsB_apply x3 0 (by norm_num)]
  rw [← scale_eq x6 _ hb j]

theorem nk_apply (hb : ∀ i j, x6 (ix2 i j) = if head i = head j then 1 else 0) (r : Fin 1024) (j : Fin 512) :
    nk (F := Ideal) x0 x1 x3 x6 x7 (ix2 r j)
      = (∑ k : Fin 1024, unit x0 x1 r k * x3 (ix2 k ⟨512 + j.val, by omega⟩))
        * scale (fun j => ∑ k : Fin 1024, unit x0 x1 r k * x3 (ix2 k ⟨512 + j.val, by omega⟩)) (head j) * x7 (ix2 0 j) := by
  rw [nk, pay8_eq, pay7_apply]
  simp only [pay3_apply, colsB_apply x3 512 (by norm_num)]
  rw [← scale_eq x6 _ hb j]

end Cert.InEntry
-- ==== Proof.InToken.lean ====
/-
  What every token of the arguments gives: its projection onto the 3600 combined columns, and the seven results cut from
  it.
-/
module

public import proofs.«01_k».proof.Proof.Gen.Kernel3Ideal.Skeleton
public import proofs.«01_k».proof.Proof.InRow

@[expose] public section

noncomputable section

namespace Cert.InToken

open Cert.Kernel3Ideal Idealize.ShloMosaic Cert.InRow

/-- The batch entry of token `t` of the flattened rows. -/
abbrev bat (t : Fin 16384) : Fin 2 := ⟨t.val / 8192, by omega⟩
/-- The position of token `t` in its sequence. -/
abbrev pos (t : Fin 16384) : Fin 8192 := ⟨t.val % 8192, by omega⟩

/-- Column `e` of token `t`'s projection, from the residual stream, the gain and the combined weight. -/
def token (x : FVec Ideal S2x8192x1024 .f32) (g : FVec Ideal S1x1024 .f32) (w : FVec Ideal S1x1024x3600 .f32)
    (t : Fin 16384) (e : Fin 3600) : EReal :=
  proj (fun k => x (ix3 (bat t) (pos t) k)) (fun k => g (ix2 0 k)) (fun k e => w (ix3 0 k e)) e

variable (x : FVec Ideal S2x8192x1024 .f32) (g : FVec Ideal S1x1024 .f32) (w : FVec Ideal S1x1024x3600 .f32)

/-- The first group's queries and keys. -/
def qkOf (t : Fin 16384) (j : Fin 1024) : EReal := token x g w t ⟨j.val, by omega⟩

/-- The first group's values. -/
def valOf (t : Fin 16384) (j : Fin 512) : EReal := token x g w t ⟨1024 + j.val, by omega⟩

/-- The first group's output gate, before its nonlinearity. -/
def gateOf (t : Fin 16384) (j : Fin 512) : EReal := token x g w t ⟨1536 + j.val, by omega⟩

/-- The second group's queries, their heads normalised with gain `q` and scaled by the printed 1/8. -/
def nqOf (q : FVec Ideal S1x8x64 .f32) (t : Fin 16384) (j : Fin 512) : EReal :=
  headNorm (fun j => token x g w t ⟨2064 + j.val, by omega⟩) (fun h l => q (ix3 0 h l)) j * Ideal.ofBits .f32 0x3E000000#32

/-- The second group's keys, their heads normalised with gain `k`. -/
def nkOf (k : FVec Ideal S1x8x64 .f32) (t : Fin 16384) (j : Fin 512) : EReal :=
  headNorm (fun j => token x g w t ⟨2576 + j.val, by omega⟩) (fun h l => k (ix3 0 h l)) j

/-- The second group's values. -/
def nvOf (t : Fin 16384) (j : Fin 512) : EReal := token x g w t ⟨3088 + j.val, by omega⟩

/-- The first group's recurrent gates with their bias, a gate a row. -/
def gatesOf (b : FVec Ideal S1x16 .f32) (e : Fin 16) (t : Fin 16384) : EReal :=
  token x g w t ⟨2048 + e.val, by omega⟩ + b (ix2 0 e)

end Cert.InToken
-- ==== Proof.InArray.lean ====
/-
  The input projection's blocks, read from the program's arguments.
-/
module

public import proofs.«01_k».proof.Proof.InEntry
public import proofs.«01_k».proof.Proof.InToken
public import proofs.«01_k».proof.Proof.Gen.Kernel3Ideal.Value
public import Idealize.ShloMosaic.Lib.Claim

@[expose] public section

set_option maxRecDepth 16384

noncomputable section

namespace Cert.InArray

open Cert.Kernel3Ideal Cert.Kernel3Ideal.Gen Idealize.ShloMosaic Idealize.ShloMosaic.TcCoe Idealize.SL.Sem
open Cert.TailRow Cert.InRow Cert.InEntry Cert.InToken

variable (m : (ℓ : Loc nD τ sig) → Buf (Elt Ideal) ℓ)

/-- Row `r` of block `t` is this row of the flattened tokens. -/
abbrev tok (t : Fin cfg0.N) (r : Fin 1024) : Fin 16384 := ⟨t.val * 1024 + r.val, by have h : t.val < 16 := t.isLt; omega⟩

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 16 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)

/-- The residual stream's block. -/
theorem blk_x (c : Dev nD) (t : Fin cfg0.N) (r k : Fin 1024) : (iblk m c 0 t : FVec Ideal S1024x1024 .f32) (ix2 r k)
    = (m ((c : Thread nD τ).loc main_arg0) : FVec Ideal S2x8192x1024 .f32) (ix3 (bat (tok t r)) (pos (tok t r)) k) := by
  blk_ext! [iblk, V, idx0 t]
/-- The gain. -/
theorem blk_g (c : Dev nD) (t : Fin cfg0.N) (k : Fin 1024) : (iblk m c 1 t : FVec Ideal S1x1024 .f32) (ix2 0 k)
    = (m ((c : Thread nD τ).loc main_arg1) : FVec Ideal S1x1024 .f32) (ix2 0 k) := by
  blk_ext! [iblk, V, idx1 t]
/-- The first group's columns of the weight. -/
theorem blk_wa (c : Dev nD) (t : Fin cfg0.N) (k : Fin 1024) (e : Fin 2048) : (X0_2 m c t : FVec Ideal S1024x2048 .bf16) (ix2 k e)
    = (m ((c : Thread nD τ).loc main_arg2) : FVec Ideal S1x1024x3600 .f32) (ix3 0 k ⟨e.val, by omega⟩) := by
  unfold X0_2 Pipeline.Window.fill
  rw [dif_pos (moved0_2 t _)]
  blk_ext! [iblk, V, idx2 t]
/-- The second group's columns of the weight. -/
theorem blk_wb (c : Dev nD) (t : Fin cfg0.N) (k : Fin 1024) (e : Fin 1536) : (iblk m c 3 t : FVec Ideal S1024x1536 .bf16) (ix2 k e)
    = (m ((c : Thread nD τ).loc main_arg2) : FVec Ideal S1x1024x3600 .f32) (ix3 0 k ⟨2064 + e.val, by omega⟩) := by
  blk_ext! [iblk, V, idx3 t]
/-- The gates' columns of the weight, and the ones after them. -/
theorem blk_wg (c : Dev nD) (t : Fin cfg0.N) (k : Fin 1024) (e : Fin 128) : (X0_4 m c t : FVec Ideal S1024x128 .bf16) (ix2 k e)
    = (m ((c : Thread nD τ).loc main_arg2) : FVec Ideal S1x1024x3600 .f32) (ix3 0 k ⟨2048 + e.val, by omega⟩) := by
  unfold X0_4 Pipeline.Window.fill
  rw [dif_pos (moved0_4 t _)]
  blk_ext! [iblk, V, idx4 t]
/-- The gates' bias. -/
theorem blk_b (c : Dev nD) (t : Fin cfg0.N) (e : Fin 16) : (iblk m c 5 t : FVec Ideal S16x1 .f32) (ix2 e 0)
    = (m ((c : Thread nD τ).loc main_arg3) : FVec Ideal S1x16 .f32) (ix2 0 e) := by
  blk_ext! [iblk, V, idx5 t]
/-- The queries' gain, scaled by the printed 1/8. -/
def gain (q : FVec Ideal S1x8x64 .f32) (j : Fin 512) : EReal := q (ix3 0 (head j) (lane j)) * Ideal.ofBits .f32 0x3E000000#32
/-- The indicator of two columns being of one head. -/
theorem blk_bd (c : Dev nD) (t : Fin cfg0.N) (i j : Fin 512) : (iblk m c 6 t : FVec Ideal S512x512 .bf16) (ix2 i j)
    = (V m c main_v6 : FVec Ideal S512x512 .bf16) (ix2 i j) := by
  blk_ext! [iblk, idx6 t]
/-- The queries' gain, scaled by the printed 1/8. -/
theorem blk_q (c : Dev nD) (t : Fin cfg0.N) (j : Fin 512) : (iblk m c 7 t : FVec Ideal S1x512 .f32) (ix2 0 j)
    = gain (m ((c : Thread nD τ).loc main_arg4) : FVec Ideal S1x8x64 .f32) j := by
  unfold gain
  blk_ext! [iblk, V, idx7 t]
/-- The keys' gain. -/
theorem blk_k (c : Dev nD) (t : Fin cfg0.N) (j : Fin 512) : (iblk m c 8 t : FVec Ideal S1x512 .f32) (ix2 0 j)
    = (m ((c : Thread nD τ).loc main_arg5) : FVec Ideal S1x8x64 .f32) (ix3 0 (head j) (lane j)) := by
  blk_ext! [iblk, V, idx8 t]

end Cert.InArray
-- ==== Proof.InHead.lean ====
/-
  The matrix the program hands to its body to add up a head's squares: the indicator of two columns being of one head.
-/
module

public import proofs.«01_k».proof.Proof.InRow
public import proofs.«01_k».proof.Proof.Gen.Kernel3Ideal.Value
public import Idealize.ShloMosaic.Lib.Claim

@[expose] public section

set_option maxRecDepth 16384

noncomputable section

namespace Cert.InHead

open Cert.Kernel3Ideal Cert.Kernel3Ideal.Gen Idealize.ShloMosaic Idealize.ShloMosaic.TcCoe Idealize.SL.Sem Cert.InRow

variable (m : (ℓ : Loc nD τ sig) → Buf (Elt Ideal) ℓ)

/-- An entry of that matrix. -/
theorem head_read (c : Dev nD) (i j : Fin 512) :
    (V m c main_v6 : FVec Ideal S512x512 .bf16) (ix2 i j) = (if head i = head j then 1 else 0 : EReal) := by
  unfold V
  simp only [hostOps0, List.flatten_cons, List.flatten_nil, List.append_nil,
    List.cons_append, List.nil_append]
  after_results_simp
  pointwise
  by_cases h : i.val / 64 = j.val / 64
  · rw [if_pos (Fin.ext h), h]
    simp only [IntOp.cmpi, beq_self_eq_true]
    show (((1#32 : BitVec 32).toInt : ℝ) : EReal) = 1
    simp
  · have hne : (BitVec.ofNat 32 (i.val / 64) == BitVec.ofNat 32 (j.val / 64)) = false := by
      rw [beq_eq_false_iff_ne]
      intro e
      have hb := congrArg BitVec.toNat e
      simp only [BitVec.toNat_ofNat] at hb
      omega
    rw [if_neg (fun e => h (congrArg Fin.val e))]
    simp only [IntOp.cmpi, hne]
    show (((0#32 : BitVec 32).toInt : ℝ) : EReal) = 0
    simp

end Cert.InHead
-- ==== Proof.InResult.lean ====
/-
  The seven arrays the input projection leaves: each row of each is what that row's token gives.
-/
module

public import proofs.«01_k».proof.Proof.InArray
public import proofs.«01_k».proof.Proof.InHead

@[expose] public section

set_option maxRecDepth 16384

noncomputable section

namespace Cert.InResult

open Cert.Kernel3Ideal Cert.Kernel3Ideal.Gen Cert.Kernel3Ideal.Value Idealize.ShloMosaic Idealize.ShloMosaic.TcCoe Idealize.SL.Sem
open Cert.TailRow Cert.InRow Cert.InBlock Cert.InEntry Cert.InToken Cert.InArray Cert.InHead

variable (m : (ℓ : Loc nD τ sig) → Buf (Elt Ideal) ℓ)

/-- The residual stream. -/
abbrev ax (c : Dev nD) : FVec Ideal S2x8192x1024 .f32 := m ((c : Thread nD τ).loc main_arg0)
/-- The gain. -/
abbrev ag (c : Dev nD) : FVec Ideal S1x1024 .f32 := m ((c : Thread nD τ).loc main_arg1)
/-- The combined weight. -/
abbrev aw (c : Dev nD) : FVec Ideal S1x1024x3600 .f32 := m ((c : Thread nD τ).loc main_arg2)
/-- The recurrent gates' bias. -/
abbrev ab (c : Dev nD) : FVec Ideal S1x16 .f32 := m ((c : Thread nD τ).loc main_arg3)
/-- The queries' gain. -/
abbrev aq (c : Dev nD) : FVec Ideal S1x8x64 .f32 := m ((c : Thread nD τ).loc main_arg4)
/-- The keys' gain. -/
abbrev ak (c : Dev nD) : FVec Ideal S1x8x64 .f32 := m ((c : Thread nD τ).loc main_arg5)

/-- The seven result arrays, from the arguments of device `c`. -/
abbrev rQk (c : Dev nD) : FVec Ideal S16384x1024 .bf16 := fun i => qkOf (ax m c) (ag m c) (aw m c) (i 0) (i 1)
abbrev rVal (c : Dev nD) : FVec Ideal S16384x512 .bf16 := fun i => valOf (ax m c) (ag m c) (aw m c) (i 0) (i 1)
abbrev rGate (c : Dev nD) : FVec Ideal S16384x512 .bf16 := fun i => gateOf (ax m c) (ag m c) (aw m c) (i 0) (i 1)
abbrev rNq (c : Dev nD) : FVec Ideal S16384x512 .bf16 := fun i => nqOf (ax m c) (ag m c) (aw m c) (aq m c) (i 0) (i 1)
abbrev rNk (c : Dev nD) : FVec Ideal S16384x512 .bf16 := fun i => nkOf (ax m c) (ag m c) (aw m c) (ak m c) (i 0) (i 1)
abbrev rNv (c : Dev nD) : FVec Ideal S16384x512 .bf16 := fun i => nvOf (ax m c) (ag m c) (aw m c) (i 0) (i 1)
abbrev rGates (c : Dev nD) : FVec Ideal S16x16384 .f32 := fun i => gatesOf (ax m c) (ag m c) (aw m c) (ab m c) (i 0) (i 1)

/-- The normalised row `r` of block `t` is the normalised row of its token. -/
theorem unit_eq (c : Dev nD) (t : Fin cfg0.N) (r : Fin 1024) :
    unit (iblk m c 0 t) (iblk m c 1 t) r = rms (fun k => ax m c (ix3 (bat (tok t r)) (pos (tok t r)) k)) (fun k => ag m c (ix2 0 k)) := by
  unfold unit
  simp only [blk_x, blk_g]

theorem qk_entry (c : Dev nD) (t : Fin cfg0.N) (r j : Fin 1024) :
    qk (F := Ideal) (iblk m c 0 t) (iblk m c 1 t) (X0_2 m c t) (ix2 r j) = rQk m c (ix2 (tok t r) j) := by
  rw [InEntry.qk_apply]
  simp only [unit_eq, blk_wa]
  rfl

theorem val_entry (c : Dev nD) (t : Fin cfg0.N) (r : Fin 1024) (j : Fin 512) :
    val (F := Ideal) (iblk m c 0 t) (iblk m c 1 t) (X0_2 m c t) (ix2 r j) = rVal m c (ix2 (tok t r) j) := by
  rw [InEntry.val_apply]
  simp only [unit_eq, blk_wa]
  rfl

theorem gate_entry (c : Dev nD) (t : Fin cfg0.N) (r : Fin 1024) (j : Fin 512) :
    gate (F := Ideal) (iblk m c 0 t) (iblk m c 1 t) (X0_2 m c t) (ix2 r j) = rGate m c (ix2 (tok t r) j) := by
  rw [InEntry.gate_apply]
  simp only [unit_eq, blk_wa]
  rfl

/-- A column of the second group's product is that column of the token's projection. -/
theorem second (c : Dev nD) (t : Fin cfg0.N) (r : Fin 1024) (e : Fin 1536) :
    ∑ k : Fin 1024, unit (iblk m c 0 t) (iblk m c 1 t) r k * (iblk m c 3 t : FVec Ideal S1024x1536 .bf16) (ix2 k e)
      = token (ax m c) (ag m c) (aw m c) (tok t r) ⟨2064 + e.val, by omega⟩ := by
  simp only [unit_eq, blk_wb]
  rfl

theorem nq_entry (c : Dev nD) (t : Fin cfg0.N) (r : Fin 1024) (j : Fin 512) :
    nq (F := Ideal) (iblk m c 0 t) (iblk m c 1 t) (iblk m c 3 t) (iblk m c 6 t) (iblk m c 7 t) (ix2 r j)
      = rNq m c (ix2 (tok t r) j) := by
  have e : ∀ j : Fin 512, token (ax m c) (ag m c) (aw m c) (tok t r) ⟨2064 + (0 + j.val), by omega⟩
      = token (ax m c) (ag m c) (aw m c) (tok t r) ⟨2064 + j.val, by omega⟩ :=
    fun j => congrArg _ (Fin.ext (by show 2064 + (0 + j.val) = 2064 + j.val; omega))
  rw [InEntry.nq_apply _ _ _ _ _ (fun i j => (blk_bd m c t i j).trans (head_read m c i j))]
  simp only [second, e]
  rw [blk_q, gain, ← mul_assoc]
  rfl

theorem nk_entry (c : Dev nD) (t : Fin cfg0.N) (r : Fin 1024) (j : Fin 512) :
    nk (F := Ideal) (iblk m c 0 t) (iblk m c 1 t) (iblk m c 3 t) (iblk m c 6 t) (iblk m c 8 t) (ix2 r j)
      = rNk m c (ix2 (tok t r) j) := by
  have e : ∀ j : Fin 512, token (ax m c) (ag m c) (aw m c) (tok t r) ⟨2064 + (512 + j.val), by omega⟩
      = token (ax m c) (ag m c) (aw m c) (tok t r) ⟨2576 + j.val, by omega⟩ :=
    fun j => congrArg _ (Fin.ext (by show 2064 + (512 + j.val) = 2576 + j.val; omega))
  rw [InEntry.nk_apply _ _ _ _ _ (fun i j => (blk_bd m c t i j).trans (head_read m c i j))]
  simp only [second, e]
  rw [blk_k]
  rfl

theorem nv_entry (c : Dev nD) (t : Fin cfg0.N) (r : Fin 1024) (j : Fin 512) :
    nv (F := Ideal) (iblk m c 0 t) (iblk m c 1 t) (iblk m c 3 t) (ix2 r j) = rNv m c (ix2 (tok t r) j) := by
  have e : ∀ j : Fin 512, token (ax m c) (ag m c) (aw m c) (tok t r) ⟨2064 + (1024 + j.val), by omega⟩
      = token (ax m c) (ag m c) (aw m c) (tok t r) ⟨3088 + j.val, by omega⟩ :=
    fun j => congrArg _ (Fin.ext (by show 2064 + (1024 + j.val) = 3088 + j.val; omega))
  rw [InEntry.nv_apply]
  simp only [second, e]
  rfl

theorem gates_entry (c : Dev nD) (t : Fin cfg0.N) (e : Fin 16) (r : Fin 1024) :
    gates (F := Ideal) (iblk m c 0 t) (iblk m c 1 t) (X0_4 m c t) (iblk m c 5 t) (ix2 e r) = rGates m c (ix2 e (tok t r)) := by
  rw [InEntry.gates_apply]
  simp only [unit_eq, blk_wg, blk_b]
  rfl

/-! ## From the blocks to the arrays -/

/-- Every token is a row of some block. -/
theorem tok_surj (n : Fin 16384) : ∃ (t : Fin cfg0.N) (r : Fin 1024), tok t r = n :=
  ⟨⟨n.val / 1024, by show _ < 16; omega⟩, ⟨n.val % 1024, by omega⟩, Fin.ext (by show n.val / 1024 * 1024 + n.val % 1024 = n.val; omega)⟩

/-- An output whose blocks are written back whole, one a point, each the target read through the block, ends as the
    target. -/
theorem final_of (c : Dev nD) (w : Fin cfg0.W)
    (G : Buf (Elt Ideal) ((cfg0.win w).arr.view.loc (c.tc : Thread nD τ))) (hf : ∀ t, (cfg0.win w).flush t = true)
    (hv : ∀ t, (dats m 0 c).flushed w t = ((cfg0.win w).blk t).view.read (Elt Ideal) G)
    (hs : ∀ i : ((cfg0.win w).arr.view.loc (c.tc : Thread nD τ)).2.ty.Idx, ∃ (t : Fin cfg0.N) (y : _),
      ((cfg0.win w).blk t).view.emb y = i) : (dats m 0 c).arrAt w cfg0.N = G :=
  (dats m 0 c).arrAt_eq_of_cover w G (fun t _ => hv t)
    (fun i => let ⟨t, y, e⟩ := hs i; ⟨t, hf t, e ▸ ((cfg0.win w).blk t).view.emb_mem_set y⟩)

/-- Where the row blocks' indices are: the point's block of rows, all columns. -/
theorem idx_rows : ∀ t : Fin cfg0.N, (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = 0 ∧ win0_15.index t (1 : Fin 2) = t.val) := (by decide +kernel : ∀ t : Fin grid0.N, _)

/-- An index of two coordinates, from a row block's coordinates. -/
theorem ix2_of {n a b : ℕ} (f : (⟨2, ![16384, n]⟩ : Shape).Idx) (t : Fin 16384) (j : Fin n) (h0 : (f 0).val = a) (h1 : (f 1).val = b)
    (ha : a = t.val) (hb : b = j.val) : f = ix2 t j := by
  funext x; apply Fin.ext
  match x with
  | ⟨0, _⟩ => exact h0.trans ha
  | ⟨1, _⟩ => exact h1.trans hb

theorem emb9 (t : Fin cfg0.N) (r : Fin 1024) (j : Fin 1024) : ((cfg0.win 9).blk t).view.emb (ix2 r j) = ix2 (tok t r) j :=
  ix2_of _ (tok t r) j rfl rfl (by have := (idx_rows t).1; show win0_9.index t (0 : Fin 2) * 1024 + 1 * r.val = t.val * 1024 + r.val; omega)
    (by have := (idx_rows t).1; show win0_9.index t (1 : Fin 2) * 1024 + 1 * j.val = j.val; omega)

theorem final_qk (c : Dev nD) : (dats m 0 c).arrAt 9 cfg0.N = rQk m c := by
  refine final_of m c 9 (rQk m c) flush0_9 (fun t => ?_) (fun i => ?_)
  · rw [flushed9_A, (outs_eq (F := Ideal) ..).1]
    funext y
    have hy : (y : S1024x1024.Idx) = ix2 (y 0) (y 1) := by blk_ext []
    show qk (F := Ideal) _ _ _ y = rQk m c (((cfg0.win 9).blk t).view.emb y)
    rw [show ((cfg0.win 9).blk t).view.emb y = _ from (congrArg (((cfg0.win 9).blk t).view.emb ·) hy).trans (emb9 t (y 0) (y 1)), hy]
    exact qk_entry m c t (y 0) (y 1)
  · obtain ⟨t, r, e⟩ := tok_surj (i 0)
    have hi : (i : S16384x1024.Idx) = ix2 (i 0) (i 1) := by blk_ext []
    exact ⟨t, ix2 r (i 1), (emb9 t r (i 1)).trans (by rw [e]; exact hi.symm)⟩

theorem emb10 (t : Fin cfg0.N) (r : Fin 1024) (j : Fin 512) : ((cfg0.win 10).blk t).view.emb (ix2 r j) = ix2 (tok t r) j :=
  ix2_of _ (tok t r) j rfl rfl (by have := (idx_rows t).2.1; show win0_10.index t (0 : Fin 2) * 1024 + 1 * r.val = t.val * 1024 + r.val; omega)
    (by have := (idx_rows t).2.1; show win0_10.index t (1 : Fin 2) * 512 + 1 * j.val = j.val; omega)

theorem final_val (c : Dev nD) : (dats m 0 c).arrAt 10 cfg0.N = rVal m c := by
  refine final_of m c 10 (rVal m c) flush0_10 (fun t => ?_) (fun i => ?_)
  · rw [flushed10_A, (outs_eq (F := Ideal) ..).2.1]
    funext y
    have hy : (y : S1024x512.Idx) = ix2 (y 0) (y 1) := by blk_ext []
    show val (F := Ideal) _ _ _ y = rVal m c (((cfg0.win 10).blk t).view.emb y)
    rw [show ((cfg0.win 10).blk t).view.emb y = _ from (congrArg (((cfg0.win 10).blk t).view.emb ·) hy).trans (emb10 t (y 0) (y 1)), hy]
    exact val_entry m c t (y 0) (y 1)
  · obtain ⟨t, r, e⟩ := tok_surj (i 0)
    have hi : (i : S16384x512.Idx) = ix2 (i 0) (i 1) := by blk_ext []
    exact ⟨t, ix2 r (i 1), (emb10 t r (i 1)).trans (by rw [e]; exact hi.symm)⟩

theorem emb11 (t : Fin cfg0.N) (r : Fin 1024) (j : Fin 512) : ((cfg0.win 11).blk t).view.emb (ix2 r j) = ix2 (tok t r) j :=
  ix2_of _ (tok t r) j rfl rfl (by have := (idx_rows t).2.2.1; show win0_11.index t (0 : Fin 2) * 1024 + 1 * r.val = t.val * 1024 + r.val; omega)
    (by have := (idx_rows t).2.2.1; show win0_11.index t (1 : Fin 2) * 512 + 1 * j.val = j.val; omega)

theorem final_gate (c : Dev nD) : (dats m 0 c).arrAt 11 cfg0.N = rGate m c := by
  refine final_of m c 11 (rGate m c) flush0_11 (fun t => ?_) (fun i => ?_)
  · rw [flushed11_A, (outs_eq (F := Ideal) ..).2.2.1]
    funext y
    have hy : (y : S1024x512.Idx) = ix2 (y 0) (y 1) := by blk_ext []
    show gate (F := Ideal) _ _ _ y = rGate m c (((cfg0.win 11).blk t).view.emb y)
    rw [show ((cfg0.win 11).blk t).view.emb y = _ from (congrArg (((cfg0.win 11).blk t).view.emb ·) hy).trans (emb11 t (y 0) (y 1)), hy]
    exact gate_entry m c t (y 0) (y 1)
  · obtain ⟨t, r, e⟩ := tok_surj (i 0)
    have hi : (i : S16384x512.Idx) = ix2 (i 0) (i 1) := by blk_ext []
    exact ⟨t, ix2 r (i 1), (emb11 t r (i 1)).trans (by rw [e]; exact hi.symm)⟩

theorem emb12 (t : Fin cfg0.N) (r : Fin 1024) (j : Fin 512) : ((cfg0.win 12).blk t).view.emb (ix2 r j) = ix2 (tok t r) j :=
  ix2_of _ (tok t r) j rfl rfl (by have := (idx_rows t).2.2.2.1; show win0_12.index t (0 : Fin 2) * 1024 + 1 * r.val = t.val * 1024 + r.val; omega)
    (by have := (idx_rows t).2.2.2.1; show win0_12.index t (1 : Fin 2) * 512 + 1 * j.val = j.val; omega)

theorem final_nq (c : Dev nD) : (dats m 0 c).arrAt 12 cfg0.N = rNq m c := by
  refine final_of m c 12 (rNq m c) flush0_12 (fun t => ?_) (fun i => ?_)
  · rw [flushed12_A, (outs_eq (F := Ideal) ..).2.2.2.1]
    funext y
    have hy : (y : S1024x512.Idx) = ix2 (y 0) (y 1) := by blk_ext []
    show nq (F := Ideal) _ _ _ _ _ y = rNq m c (((cfg0.win 12).blk t).view.emb y)
    rw [show ((cfg0.win 12).blk t).view.emb y = _ from (congrArg (((cfg0.win 12).blk t).view.emb ·) hy).trans (emb12 t (y 0) (y 1)), hy]
    exact nq_entry m c t (y 0) (y 1)
  · obtain ⟨t, r, e⟩ := tok_surj (i 0)
    have hi : (i : S16384x512.Idx) = ix2 (i 0) (i 1) := by blk_ext []
    exact ⟨t, ix2 r (i 1), (emb12 t r (i 1)).trans (by rw [e]; exact hi.symm)⟩

theorem emb13 (t : Fin cfg0.N) (r : Fin 1024) (j : Fin 512) : ((cfg0.win 13).blk t).view.emb (ix2 r j) = ix2 (tok t r) j :=
  ix2_of _ (tok t r) j rfl rfl (by have := (idx_rows t).2.2.2.2.1; show win0_13.index t (0 : Fin 2) * 1024 + 1 * r.val = t.val * 1024 + r.val; omega)
    (by have := (idx_rows t).2.2.2.2.1; show win0_13.index t (1 : Fin 2) * 512 + 1 * j.val = j.val; omega)

theorem final_nk (c : Dev nD) : (dats m 0 c).arrAt 13 cfg0.N = rNk m c := by
  refine final_of m c 13 (rNk m c) flush0_13 (fun t => ?_) (fun i => ?_)
  · rw [flushed13_A, (outs_eq (F := Ideal) ..).2.2.2.2.1]
    funext y
    have hy : (y : S1024x512.Idx) = ix2 (y 0) (y 1) := by blk_ext []
    show nk (F := Ideal) _ _ _ _ _ y = rNk m c (((cfg0.win 13).blk t).view.emb y)
    rw [show ((cfg0.win 13).blk t).view.emb y = _ from (congrArg (((cfg0.win 13).blk t).view.emb ·) hy).trans (emb13 t (y 0) (y 1)), hy]
    exact nk_entry m c t (y 0) (y 1)
  · obtain ⟨t, r, e⟩ := tok_surj (i 0)
    have hi : (i : S16384x512.Idx) = ix2 (i 0) (i 1) := by blk_ext []
    exact ⟨t, ix2 r (i 1), (emb13 t r (i 1)).trans (by rw [e]; exact hi.symm)⟩

theorem emb14 (t : Fin cfg0.N) (r : Fin 1024) (j : Fin 512) : ((cfg0.win 14).blk t).view.emb (ix2 r j) = ix2 (tok t r) j :=
  ix2_of _ (tok t r) j rfl rfl (by have := (idx_rows t).2.2.2.2.2.1; show win0_14.index t (0 : Fin 2) * 1024 + 1 * r.val = t.val * 1024 + r.val; omega)
    (by have := (idx_rows t).2.2.2.2.2.1; show win0_14.index t (1 : Fin 2) * 512 + 1 * j.val = j.val; omega)

theorem final_nv (c : Dev nD) : (dats m 0 c).arrAt 14 cfg0.N = rNv m c := by
  refine final_of m c 14 (rNv m c) flush0_14 (fun t => ?_) (fun i => ?_)
  · rw [flushed14_A, (outs_eq (F := Ideal) ..).2.2.2.2.2.1]
    funext y
    have hy : (y : S1024x512.Idx) = ix2 (y 0) (y 1) := by blk_ext []
    show nv (F := Ideal) _ _ _ y = rNv m c (((cfg0.win 14).blk t).view.emb y)
    rw [show ((cfg0.win 14).blk t).view.emb y = _ from (congrArg (((cfg0.win 14).blk t).view.emb ·) hy).trans (emb14 t (y 0) (y 1)), hy]
    exact nv_entry m c t (y 0) (y 1)
  · obtain ⟨t, r, e⟩ := tok_surj (i 0)
    have hi : (i : S16384x512.Idx) = ix2 (i 0) (i 1) := by blk_ext []
    exact ⟨t, ix2 r (i 1), (emb14 t r (i 1)).trans (by rw [e]; exact hi.symm)⟩

/-- The gates' blocks are blocks of columns. -/
theorem emb15 (t : Fin cfg0.N) (e : Fin 16) (r : Fin 1024) : ((cfg0.win 15).blk t).view.emb (ix2 e r) = ix2 e (tok t r) := by
  have h := (idx_rows t).2.2.2.2.2.2
  funext a; apply Fin.ext
  match a with
  | ⟨0, _⟩ => show win0_15.index t (0 : Fin 2) * 16 + 1 * e.val = e.val; omega
  | ⟨1, _⟩ => show win0_15.index t (1 : Fin 2) * 1024 + 1 * r.val = t.val * 1024 + r.val; omega

theorem final_gates (c : Dev nD) : (dats m 0 c).arrAt 15 cfg0.N = rGates m c := by
  refine final_of m c 15 (rGates m c) flush0_15 (fun t => ?_) (fun i => ?_)
  · rw [flushed15_A, (outs_eq (F := Ideal) ..).2.2.2.2.2.2]
    funext y
    have hy : (y : S16x1024.Idx) = ix2 (y 0) (y 1) := by blk_ext []
    show gates (F := Ideal) _ _ _ _ y = rGates m c (((cfg0.win 15).blk t).view.emb y)
    rw [show ((cfg0.win 15).blk t).view.emb y = _ from (congrArg (((cfg0.win 15).blk t).view.emb ·) hy).trans (emb15 t (y 0) (y 1)), hy]
    exact gates_entry m c t (y 0) (y 1)
  · obtain ⟨t, r, e⟩ := tok_surj (i 1)
    have hi : (i : S16x16384.Idx) = ix2 (i 0) (i 1) := by blk_ext []
    exact ⟨t, ix2 (i 0) r, (emb15 t (i 0) r).trans (by rw [e]; exact hi.symm)⟩

end Cert.InResult
-- ==== Proof.InRef.lean ====
/-
  What the input projection's reference computes, read at one token: the same projections and head norms of that token's
  row.
-/
module

public import proofs.«01_k».proof.Proof.Gen.Reference3Ideal.Read
public import proofs.«01_k».proof.Proof.InToken
public import Idealize.ShloMosaic.Lib.Pipeline.ValueKit

@[expose] public section

set_option maxRecDepth 16384

noncomputable section

namespace Cert.InRef

open Cert.Reference3Ideal Cert.Reference3Ideal.Gen Cert.Reference3Ideal.Read Idealize.ShloMosaic Cert.TailRow Cert.InRow Cert.InToken

variable (x0 : FVec Ideal S2x8192x1024 .f32) (x1 : FVec Ideal S1x1024 .f32) (x2 : FVec Ideal S1x1024x3600 .f32)
  (x3 : FVec Ideal S1x16 .f32) (x4 x5 : FVec Ideal S1x8x64 .f32)

/-- The normalised row of a token. -/
theorem rms_apply (b : Fin 2) (s : Fin 8192) (k : Fin 1024) :
    val_main_v13 (F := Ideal) x0 x1 (ix3 b s k) = rms (fun k => x0 (ix3 b s k)) (fun k => x1 (ix2 0 k)) k := by
  unfold val_main_v13 val_main_v12 val_main_v11 val_main_v10 val_main_v9 val_main_v8 val_main_v7 val_main_v6 val_main_v5
    val_main_v4 val_main_v3 val_main_v2 val_main_v1 val_main_v0 val_main_cst val_main_cst_0 val_main_cst_1
  pointwise [rms]

/-- The projected row. -/
theorem dot_apply (b : Fin 2) (s : Fin 8192) (e : Fin 3600) :
    val_main_v15 (F := Ideal) x0 x1 x2 (ix3 b s e)
      = ∑ k : Fin 1024, val_main_v13 (F := Ideal) x0 x1 (ix3 b s k) * x2 (ix3 0 k e) := by
  unfold val_main_v15 val_main_v14
  generalize val_main_v13 (F := Ideal) x0 x1 = u
  pointwise []

/-- A token's projection. -/
theorem proj_apply (t : Fin 16384) (e : Fin 3600) :
    val_main_v16 (F := Ideal) x0 x1 x2 (ix2 t e) = token x0 x1 x2 t e := by
  have hi : idx_main_v16 (ix2 t e) = ix3 (bat t) (pos t) e := by blk_ext [idx_main_v16]
  rw [val_main_v16_apply, hi, dot_apply]
  simp only [rms_apply]
  rfl

theorem qk_apply (t : Fin 16384) (j : Fin 1024) :
    val_main_v56 (F := Ideal) x0 x1 x2 (ix2 t j) = token x0 x1 x2 t ⟨j.val, by omega⟩ := by
  rw [← proj_apply]
  unfold val_main_v56 val_main_v17
  generalize val_main_v16 (F := Ideal) x0 x1 x2 = p
  pointwise []

theorem val_apply (t : Fin 16384) (j : Fin 512) :
    val_main_v57 (F := Ideal) x0 x1 x2 (ix2 t j) = token x0 x1 x2 t ⟨1024 + j.val, by omega⟩ := by
  rw [← proj_apply]
  unfold val_main_v57 val_main_v18
  generalize val_main_v16 (F := Ideal) x0 x1 x2 = p
  pointwise []

theorem gate_apply (t : Fin 16384) (j : Fin 512) :
    val_main_v58 (F := Ideal) x0 x1 x2 (ix2 t j) = token x0 x1 x2 t ⟨1536 + j.val, by omega⟩ := by
  rw [← proj_apply]
  unfold val_main_v58 val_main_v19
  generalize val_main_v16 (F := Ideal) x0 x1 x2 = p
  pointwise []

theorem nv_apply (t : Fin 16384) (j : Fin 512) :
    val_main_v63 (F := Ideal) x0 x1 x2 (ix2 t j) = token x0 x1 x2 t ⟨3088 + j.val, by omega⟩ := by
  rw [← proj_apply]
  unfold val_main_v63 val_main_v23
  generalize val_main_v16 (F := Ideal) x0 x1 x2 = p
  pointwise []

theorem gates_apply (e : Fin 16) (t : Fin 16384) :
    val_main_v68 (F := Ideal) x0 x1 x2 x3 (ix2 e t) = token x0 x1 x2 t ⟨2048 + e.val, by omega⟩ + x3 (ix2 0 e) := by
  rw [← proj_apply]
  unfold val_main_v68 val_main_v67 val_main_v66 val_main_v65 val_main_v64 val_main_v20
  generalize val_main_v16 (F := Ideal) x0 x1 x2 = p
  pointwise []

/-- A head's entries of the second group's queries. -/
theorem q_apply (t : Fin 16384) (h : Fin 8) (l : Fin 64) :
    val_main_v24 (F := Ideal) x0 x1 x2 (ix3 t h l) = token x0 x1 x2 t ⟨2064 + (col h l).val, by omega⟩ := by
  rw [← proj_apply]
  unfold val_main_v24 val_main_v21
  generalize val_main_v16 (F := Ideal) x0 x1 x2 = p
  pointwise []

/-- A head's entries of the second group's keys. -/
theorem k_apply (t : Fin 16384) (h : Fin 8) (l : Fin 64) :
    val_main_v41 (F := Ideal) x0 x1 x2 (ix3 t h l) = token x0 x1 x2 t ⟨2576 + (col h l).val, by omega⟩ := by
  rw [← proj_apply]
  unfold val_main_v41 val_main_v22
  generalize val_main_v16 (F := Ideal) x0 x1 x2 = p
  pointwise []

/-- The queries' head norm, over any entries. -/
theorem qnorm_apply (t : Fin 16384) (h : Fin 8) (l : Fin 64) :
    val_main_v40 (F := Ideal) x0 x1 x2 x4 (ix3 t h l)
      = val_main_v24 (F := Ideal) x0 x1 x2 (ix3 t h l)
        * Ideal.rsqrt (Ideal.div (∑ k : Fin 64, val_main_v24 (F := Ideal) x0 x1 x2 (ix3 t h k) * val_main_v24 (F := Ideal) x0 x1 x2 (ix3 t h k))
            (Ideal.ofBits .f32 0x42800000#32) + Ideal.ofBits .f32 0x358637BD#32)
        * x4 (ix3 0 h l) * Ideal.ofBits .f32 0x3E000000#32 := by
  unfold val_main_v40 val_main_v39 val_main_v38 val_main_v37 val_main_v36 val_main_v35 val_main_v34 val_main_v33 val_main_v32
    val_main_v31 val_main_v30 val_main_v29 val_main_v28 val_main_v27 val_main_v26 val_main_v25 val_main_cst_2 val_main_cst_3
    val_main_cst_4 val_main_cst_5
  generalize val_main_v24 (F := Ideal) x0 x1 x2 = p
  pointwise []

/-- The keys' head norm, over any entries. -/
theorem knorm_apply (t : Fin 16384) (h : Fin 8) (l : Fin 64) :
    val_main_v55 (F := Ideal) x0 x1 x2 x5 (ix3 t h l)
      = val_main_v41 (F := Ideal) x0 x1 x2 (ix3 t h l)
        * Ideal.rsqrt (Ideal.div (∑ k : Fin 64, val_main_v41 (F := Ideal) x0 x1 x2 (ix3 t h k) * val_main_v41 (F := Ideal) x0 x1 x2 (ix3 t h k))
            (Ideal.ofBits .f32 0x42800000#32) + Ideal.ofBits .f32 0x358637BD#32)
        * x5 (ix3 0 h l) := by
  unfold val_main_v55 val_main_v54 val_main_v53 val_main_v52 val_main_v51 val_main_v50 val_main_v49 val_main_v48 val_main_v47
    val_main_v46 val_main_v45 val_main_v44 val_main_v43 val_main_v42 val_main_cst_6 val_main_cst_7 val_main_cst_8
  generalize val_main_v41 (F := Ideal) x0 x1 x2 = p
  pointwise []

/-- Column `j` is the place `lane j` of its head. -/
theorem col_head_lane (j : Fin 512) : col (head j) (lane j) = j :=
  Fin.ext (by show j.val / 64 * 64 + j.val % 64 = j.val; omega)

theorem nq_apply (t : Fin 16384) (j : Fin 512) :
    val_main_v60 (F := Ideal) x0 x1 x2 x4 (ix2 t j)
      = headNorm (fun j => token x0 x1 x2 t ⟨2064 + j.val, by omega⟩) (fun h l => x4 (ix3 0 h l)) j
        * Ideal.ofBits .f32 0x3E000000#32 := by
  have e : val_main_v60 (F := Ideal) x0 x1 x2 x4 (ix2 t j) = val_main_v40 (F := Ideal) x0 x1 x2 x4 (ix3 t (head j) (lane j)) := by
    unfold val_main_v60 val_main_v59
    generalize val_main_v40 (F := Ideal) x0 x1 x2 x4 = p
    pointwise []
  obtain ⟨y, hy⟩ : ∃ y : Fin 512 → EReal, ∀ j : Fin 512, token x0 x1 x2 t ⟨2064 + j.val, by omega⟩ = y j := ⟨_, fun _ => rfl⟩
  have hq : ∀ h l, val_main_v24 (F := Ideal) x0 x1 x2 (ix3 t h l) = y (col h l) :=
    fun h l => (q_apply x0 x1 x2 t h l).trans (hy _)
  rw [e, qnorm_apply]
  simp only [hq, hy, col_head_lane]
  rfl

theorem nk_apply (t : Fin 16384) (j : Fin 512) :
    val_main_v62 (F := Ideal) x0 x1 x2 x5 (ix2 t j)
      = headNorm (fun j => token x0 x1 x2 t ⟨2576 + j.val, by omega⟩) (fun h l => x5 (ix3 0 h l)) j := by
  have e : val_main_v62 (F := Ideal) x0 x1 x2 x5 (ix2 t j) = val_main_v55 (F := Ideal) x0 x1 x2 x5 (ix3 t (head j) (lane j)) := by
    unfold val_main_v62 val_main_v61
    generalize val_main_v55 (F := Ideal) x0 x1 x2 x5 = p
    pointwise []
  obtain ⟨y, hy⟩ : ∃ y : Fin 512 → EReal, ∀ j : Fin 512, token x0 x1 x2 t ⟨2576 + j.val, by omega⟩ = y j := ⟨_, fun _ => rfl⟩
  have hq : ∀ h l, val_main_v41 (F := Ideal) x0 x1 x2 (ix3 t h l) = y (col h l) :=
    fun h l => (k_apply x0 x1 x2 t h l).trans (hy _)
  rw [e, knorm_apply]
  simp only [hq, hy, col_head_lane]
  rfl

end Cert.InRef
-- ==== Proof.InClaim.lean ====
/-
  The input projection's claims: its programs run to the end and leave their arguments as they were, the idealised kernel
  is the kernel, and the idealised kernel and the reference end with the same seven arrays.
-/
module

public import proofs.«01_k».proof.Defs
public import proofs.«01_k».proof.Proof.InResult
public import proofs.«01_k».proof.Proof.InRef
public import proofs.«01_k».proof.Proof.Gen.Kernel3.Frame
public import proofs.«01_k».proof.Proof.Gen.Kernel3Ideal.Frame
public import Idealize.ShloMosaic.Adequacy

@[expose] public section

noncomputable section

namespace Cert.InClaim

open Idealize.ShloMosaic Idealize.ShloMosaic.TcCoe Idealize.SL.Sem

/-- The kernel runs to the end, its arguments unchanged. -/
theorem frame_kernel : Cert.quiescent_Kernel3 (hKernel3 := Cert.Kernel3.Gen.facts) :=
  fun m ρ _ => Cert.Kernel3.Gen.frame m ρ

/-- The idealised kernel runs to the end, its arguments unchanged. -/
theorem frame_ideal : Cert.quiescent_Kernel3Ideal (hKernel3Ideal := Cert.Kernel3Ideal.Gen.facts) :=
  fun m ρ _ => Cert.Kernel3Ideal.Gen.frame m ρ

/-- The reference runs to the end, its arguments unchanged. -/
theorem frame_ref : Cert.quiescent_Reference3Ideal (hReference3Ideal := Cert.Reference3Ideal.Gen.facts) :=
  fun m ρ _ => (θ_run Cert.Reference3Ideal.defs _ _).mono
    (fun r h => ⟨fun c => (h c).2.2.2.2.2.2.2, Idealize.ShloMosaic.sem_eq_zero_of_no_sems (by decide) r.2⟩)
    (Cert.Reference3Ideal.Value.run (F := Ideal) m ρ)

open Cert.InResult

/-- Two arrays over pairs of coordinates that agree at every pair. -/
theorem ext2 {a b : ℕ} {φ : FTy} (f g : FVec Ideal ⟨2, ![a, b]⟩ φ) (h : ∀ (i : Fin a) (j : Fin b), f (ix2 i j) = g (ix2 i j)) : f = g := by
  funext i
  have hi : i = ix2 (i 0) (i 1) := by funext x; match x with | ⟨0, _⟩ => rfl | ⟨1, _⟩ => rfl
  rw [hi]
  exact h (i 0) (i 1)

/-- Both programs end with the seven results of every token. -/
theorem value : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => rQk m c, fun c => rVal m c, fun c => rGate m c, fun c => rNq m c, fun c => rNk m c, fun c => rNv m c,
    fun c => rGates m c,
    (θ_run Cert.Kernel3Ideal.defs _ _).mono (fun r h c =>
      ⟨(h c).1.trans (final_qk m c), (h c).2.1.trans (final_val m c), (h c).2.2.1.trans (final_gate m c),
        (h c).2.2.2.1.trans (final_nq m c), (h c).2.2.2.2.1.trans (final_nk m c), (h c).2.2.2.2.2.1.trans (final_nv m c),
        (h c).2.2.2.2.2.2.1.trans (final_gates m c), (h c).2.2.2.2.2.2.2⟩)
      (Cert.Kernel3Ideal.Value.run_blocks (F := Ideal) m ρ),
    (θ_run Cert.Reference3Ideal.defs _ _).mono (fun r h c =>
      ⟨(h c).1.trans ?_, (h c).2.1.trans ?_, (h c).2.2.1.trans ?_, (h c).2.2.2.1.trans ?_, (h c).2.2.2.2.1.trans ?_,
        (h c).2.2.2.2.2.1.trans ?_, (h c).2.2.2.2.2.2.1.trans ?_, (h c).2.2.2.2.2.2.2⟩)
      (Cert.Reference3Ideal.Value.run (F := Ideal) m' ρ')⟩
  all_goals obtain ⟨h0, h1, h2, h3, h4, h5⟩ := hagree c
  · rw [Cert.Reference3Ideal.Read.val_main_v56_eq, h0, h1, h2]
    exact ext2 _ _ fun i j => Cert.InRef.qk_apply _ _ _ i j
  · rw [Cert.Reference3Ideal.Read.val_main_v57_eq, h0, h1, h2]
    exact ext2 _ _ fun i j => Cert.InRef.val_apply _ _ _ i j
  · rw [Cert.Reference3Ideal.Read.val_main_v58_eq, h0, h1, h2]
    exact ext2 _ _ fun i j => Cert.InRef.gate_apply _ _ _ i j
  · rw [Cert.Reference3Ideal.Read.val_main_v60_eq, h0, h1, h2, h4]
    exact ext2 _ _ fun i j => Cert.InRef.nq_apply _ _ _ _ i j
  · rw [Cert.Reference3Ideal.Read.val_main_v62_eq, h0, h1, h2, h5]
    exact ext2 _ _ fun i j => Cert.InRef.nk_apply _ _ _ _ i j
  · rw [Cert.Reference3Ideal.Read.val_main_v63_eq, h0, h1, h2]
    exact ext2 _ _ fun i j => Cert.InRef.nv_apply _ _ _ i j
  · rw [Cert.Reference3Ideal.Read.val_main_v68_eq, h0, h1, h2, h3]
    exact ext2 _ _ fun i j => Cert.InRef.gates_apply _ _ _ _ i j

end Cert.InClaim
-- ==== Proof.lean ====
/-
  The proof of the certificate's claim, assembled from the modules of the calls.
-/
module

public import proofs.«01_k».proof.Defs
public import proofs.«01_k».proof.Proof.NatSame
public import proofs.«01_k».proof.Proof.NatClaim
public import proofs.«01_k».proof.Proof.TailClaim
public import proofs.«01_k».proof.Proof.InClaim

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.NatClaim.pre_facts,
    Cert.NatSame.frame_kernel, Cert.NatClaim.frame_ideal, Cert.NatClaim.frame_ideal_pre,
    Cert.NatClaim.frame_ref, Cert.NatClaim.frame_ref_pre,
    Cert.TailClaim.frame_kernel, Cert.TailClaim.frame_ideal, Cert.TailClaim.frame_ref,
    Cert.InClaim.frame_kernel, Cert.InClaim.frame_ideal, Cert.InClaim.frame_ref,
    trivial, Cert.NatClaim.value, trivial, Cert.TailClaim.value, trivial, Cert.InClaim.value⟩

end Cert.Proof

end
